-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_v9) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3072x5120 : Shape := ⟨3, ![1, 3072, 5120]⟩
abbrev S5120 : Shape := ⟨1, ![5120]⟩
abbrev S5120x3840 : Shape := ⟨2, ![5120, 3840]⟩
abbrev S3840 : Shape := ⟨1, ![3840]⟩
abbrev S1x3072 : Shape := ⟨2, ![1, 3072]⟩
abbrev S3072x5120 : Shape := ⟨2, ![3072, 5120]⟩
abbrev S40x128 : Shape := ⟨2, ![40, 128]⟩
abbrev S30x128 : Shape := ⟨2, ![30, 128]⟩
abbrev S10x3072x128 : Shape := ⟨3, ![10, 3072, 128]⟩
abbrev S24x128 : Shape := ⟨2, ![24, 128]⟩
abbrev S256x5120 : Shape := ⟨2, ![256, 5120]⟩
abbrev S30x256x128 : Shape := ⟨3, ![30, 256, 128]⟩
abbrev S256x128 : Shape := ⟨2, ![256, 128]⟩
abbrev S1x128 : Shape := ⟨2, ![1, 128]⟩
abbrev S2 : Shape := ⟨1, ![2]⟩
abbrev S15 : Shape := ⟨1, ![15]⟩
abbrev S2x3 : Shape := ⟨2, ![2, 3]⟩
abbrev S1 : Shape := ⟨1, ![1]⟩
abbrev S_ : Shape := ⟨0, ![]⟩
abbrev S5120x256 : Shape := ⟨2, ![5120, 256]⟩
abbrev S8x128 : Shape := ⟨2, ![8, 128]⟩
abbrev S32x128 : Shape := ⟨2, ![32, 128]⟩
abbrev S32 : Shape := ⟨1, ![32]⟩
abbrev S32x1 : Shape := ⟨2, ![32, 1]⟩
abbrev S128x128 : Shape := ⟨2, ![128, 128]⟩
abbrev S256x256 : Shape := ⟨2, ![256, 256]⟩
abbrev S1x256x128 : Shape := ⟨3, ![1, 256, 128]⟩
abbrev S1x1 : Shape := ⟨2, ![1, 1]⟩
abbrev S10x256x128 : Shape := ⟨3, ![10, 256, 128]⟩
abbrev S3072x10x128 : Shape := ⟨3, ![3072, 10, 128]⟩
abbrev S1x3072x10x128 : Shape := ⟨4, ![1, 3072, 10, 128]⟩
abbrev S1x3072x1 : Shape := ⟨3, ![1, 3072, 1]⟩

abbrev nBuf : Space → Nat
  | .hbm => 21
  | .vmem => 19
  | .smem => 0
  | _ => 0

abbrev bufTy : (tb : Table) → Fin (tcTables nBuf tb) → BufTy
  | .hbm, ⟨0, _⟩ => ⟨S1x3072x5120, .bf16⟩
  | .hbm, ⟨1, _⟩ => ⟨S5120, .bf16⟩
  | .hbm, ⟨2, _⟩ => ⟨S5120x3840, .fp8e4m3⟩
  | .hbm, ⟨3, _⟩ => ⟨S3840, .f32⟩
  | .hbm, ⟨4, _⟩ => ⟨S1x3072, .i32⟩
  | .hbm, ⟨5, _⟩ => ⟨S3072x5120, .bf16⟩
  | .hbm, ⟨6, _⟩ => ⟨S40x128, .bf16⟩
  | .hbm, ⟨7, _⟩ => ⟨S30x128, .f32⟩
  | .hbm, ⟨8, _⟩ => ⟨S10x3072x128, .bf16⟩
  | .hbm, ⟨9, _⟩ => ⟨S10x3072x128, .bf16⟩
  | .hbm, ⟨10, _⟩ => ⟨S10x3072x128, .bf16⟩
  | .hbm, ⟨11, _⟩ => ⟨S3072x5120, .fp8e4m3⟩
  | .hbm, ⟨12, _⟩ => ⟨S24x128, .f32⟩
  | .hbm, ⟨13, _⟩ => ⟨S3072x10x128, .bf16⟩
  | .hbm, ⟨14, _⟩ => ⟨S1x3072x10x128, .bf16⟩
  | .hbm, ⟨15, _⟩ => ⟨S3072x10x128, .bf16⟩
  | .hbm, ⟨16, _⟩ => ⟨S1x3072x10x128, .bf16⟩
  | .hbm, ⟨17, _⟩ => ⟨S3072x10x128, .bf16⟩
  | .hbm, ⟨18, _⟩ => ⟨S1x3072x10x128, .bf16⟩
  | .hbm, ⟨19, _⟩ => ⟨S1x3072x5120, .fp8e4m3⟩
  | .hbm, ⟨20, _⟩ => ⟨S1x3072x1, .f32⟩
  | .local _ .vmem, ⟨0, _⟩ => ⟨S40x128, .bf16⟩
  | .local _ .vmem, ⟨1, _⟩ => ⟨S30x128, .f32⟩
  | .local _ .vmem, ⟨2, _⟩ => ⟨S1x3072, .i32⟩
  | .local _ .vmem, ⟨3, _⟩ => ⟨S24x128, .f32⟩
  | .local _ .vmem, ⟨4, _⟩ => ⟨S256x5120, .bf16⟩
  | .local _ .vmem, ⟨5, _⟩ => ⟨S256x5120, .bf16⟩
  | .local _ .vmem, ⟨6, _⟩ => ⟨S5120x3840, .fp8e4m3⟩
  | .local _ .vmem, ⟨7, _⟩ => ⟨S256x5120, .fp8e4m3⟩
  | .local _ .vmem, ⟨8, _⟩ => ⟨S256x5120, .fp8e4m3⟩
  | .local _ .vmem, ⟨9, _⟩ => ⟨S30x256x128, .bf16⟩
  | .local _ .vmem, ⟨10, _⟩ => ⟨S30x256x128, .bf16⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S40x128, .f32⟩
  | .local _ .vmem, ⟨18, _⟩ => ⟨S1x128, .f32⟩
  | _, _ => ⟨S1x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_scratch14 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c256_i32_49 : BitVec 32 := 256#32
  c256_i32_49
def k0_mult3 : BitVec 32 :=
  let c0_i32_65 : BitVec 32 := 0#32
  c0_i32_65
def k0_mult4 : BitVec 32 :=
  let c0_i32_4781 : BitVec 32 := 0#32
  c0_i32_4781
def k0_mult5 : BitVec 32 :=
  let c128_i32_4783 : BitVec 32 := 128#32
  c128_i32_4783
def k0_mult6 : BitVec 32 :=
  let c256_i32_4805 : BitVec 32 := 256#32
  c256_i32_4805
def k0_mult7 : BitVec 32 :=
  let c0_i32_4808 : BitVec 32 := 0#32
  c0_i32_4808
def k0_mult8 : BitVec 32 :=
  let c2_i32_4811 : BitVec 32 := 2#32
  let c11_i32_4812 : BitVec 32 := 11#32
  let v9680 : BitVec 32 := Scalar.minsi c2_i32_4811 c11_i32_4812
  let c256_i32_4813 : BitVec 32 := 256#32
  let v9681 : BitVec 32 := Scalar.muli v9680 c256_i32_4813
  v9681
def k0_off1 : Fin 2 → Nat :=
  let c2_i32_4811 : BitVec 32 := 2#32
  let c11_i32_4812 : BitVec 32 := 11#32
  let v9680 : BitVec 32 := Scalar.minsi c2_i32_4811 c11_i32_4812
  let c256_i32_4813 : BitVec 32 := 256#32
  let v9681 : BitVec 32 := Scalar.muli v9680 c256_i32_4813
  let v9682 : BitVec 32 := v9681
  let c0_i32_4815 : BitVec 32 := 0#32
  ![v9682.toNat, 0]
def k0_mult9 : BitVec 32 :=
  let c256_i32_9925 : BitVec 32 := 256#32
  c256_i32_9925
def k0_mult10 : BitVec 32 :=
  let c384_i32 : BitVec 32 := 384#32
  c384_i32
@[reducible] def k0_t1_loop : Scf.Loop 32 :=
  let c0_i32_10102 : BitVec 32 := 0#32
  let c5_i32_10103 : BitVec 32 := 5#32
  let v19805 : BitVec 32 := Scalar.addi c0_i32_10102 c5_i32_10103
  let c1_i32_10104 : BitVec 32 := 1#32
  ⟨c0_i32_10102, v19805, c1_i32_10104⟩
def k0_mult11 (k0_t1 : Fin k0_t1_loop.trips) : BitVec 32 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c1_i32_10621 : BitVec 32 := 1#32
  let v20390 : BitVec 32 := Scalar.addi v20389 c1_i32_10621
  let c256_i32_10622 : BitVec 32 := 256#32
  let v20391 : BitVec 32 := Scalar.muli v20390 c256_i32_10622
  v20391
def k0_off2 (k0_t1 : Fin k0_t1_loop.trips) (c1_i32_10620 : BitVec 32) : Fin 2 → Nat :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let v20389 : BitVec 32 := Scalar.addi v20388 c1_i32_10620
  let c1_i32_10621 : BitVec 32 := 1#32
  let v20390 : BitVec 32 := Scalar.addi v20389 c1_i32_10621
  let c256_i32_10622 : BitVec 32 := 256#32
  let v20391 : BitVec 32 := Scalar.muli v20390 c256_i32_10622
  let v20392 : BitVec 32 := v20391
  let c0_i32_10624 : BitVec 32 := 0#32
  ![v20392.toNat, 0]
def k0_mult12 (k0_t1 : Fin k0_t1_loop.trips) : BitVec 32 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c1_i32_10625 : BitVec 32 := 1#32
  let v20396 : BitVec 32 := Scalar.subi v20389 c1_i32_10625
  let c256_i32_10626 : BitVec 32 := 256#32
  let v20397 : BitVec 32 := Scalar.muli v20396 c256_i32_10626
  v20397
def k0_off3 (k0_t1 : Fin k0_t1_loop.trips) (c1_i32_10620 : BitVec 32) : Fin 2 → Nat :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let v20389 : BitVec 32 := Scalar.addi v20388 c1_i32_10620
  let c1_i32_10625 : BitVec 32 := 1#32
  let v20396 : BitVec 32 := Scalar.subi v20389 c1_i32_10625
  let c256_i32_10626 : BitVec 32 := 256#32
  let v20397 : BitVec 32 := Scalar.muli v20396 c256_i32_10626
  let v20398 : BitVec 32 := v20397
  let c0_i32_10628 : BitVec 32 := 0#32
  ![v20398.toNat, 0]
def k0_mult13 (k0_t1 : Fin k0_t1_loop.trips) : BitVec 32 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c256_i32_10629 : BitVec 32 := 256#32
  let v20402 : BitVec 32 := Scalar.muli v20389 c256_i32_10629
  v20402
def k0_off4 (k0_t1 : Fin k0_t1_loop.trips) (c1_i32_10620 : BitVec 32) : Fin 2 → Nat :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let v20389 : BitVec 32 := Scalar.addi v20388 c1_i32_10620
  let c256_i32_10629 : BitVec 32 := 256#32
  let v20402 : BitVec 32 := Scalar.muli v20389 c256_i32_10629
  let v20403 : BitVec 32 := v20402
  let c0_i32_10631 : BitVec 32 := 0#32
  ![v20403.toNat, 0]
def k0_mult14 (k0_t1 : Fin k0_t1_loop.trips) : BitVec 32 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c1_i32_10632 : BitVec 32 := 1#32
  let v20407 : BitVec 32 := Scalar.subi v20389 c1_i32_10632
  let c256_i32_10633 : BitVec 32 := 256#32
  let v20408 : BitVec 32 := Scalar.muli v20407 c256_i32_10633
  v20408
def k0_off5 (k0_t1 : Fin k0_t1_loop.trips) (c1_i32_10620 : BitVec 32) : Fin 3 → Nat :=
  let c0_i32_10636 : BitVec 32 := 0#32
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let v20389 : BitVec 32 := Scalar.addi v20388 c1_i32_10620
  let c1_i32_10632 : BitVec 32 := 1#32
  let v20407 : BitVec 32 := Scalar.subi v20389 c1_i32_10632
  let c256_i32_10633 : BitVec 32 := 256#32
  let v20408 : BitVec 32 := Scalar.muli v20407 c256_i32_10633
  let v20409 : BitVec 32 := v20408
  let c0_i32_10637 : BitVec 32 := 0#32
  ![0, v20409.toNat, 0]
def k0_mult15 (k0_t1 : Fin k0_t1_loop.trips) : BitVec 32 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c1_i32_10632 : BitVec 32 := 1#32
  let v20407 : BitVec 32 := Scalar.subi v20389 c1_i32_10632
  let c256_i32_10641 : BitVec 32 := 256#32
  let v20414 : BitVec 32 := Scalar.muli v20407 c256_i32_10641
  v20414
def k0_mult16 (k0_t1 : Fin k0_t1_loop.trips) : BitVec 32 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c1_i32_10632 : BitVec 32 := 1#32
  let v20407 : BitVec 32 := Scalar.subi v20389 c1_i32_10632
  let c256_i32_10649 : BitVec 32 := 256#32
  let v20420 : BitVec 32 := Scalar.muli v20407 c256_i32_10649
  v20420
def k0_mult17 (k0_t1 : Fin k0_t1_loop.trips) : BitVec 32 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c2_i32_10657 : BitVec 32 := 2#32
  let v20426 : BitVec 32 := Scalar.subi v20389 c2_i32_10657
  let c256_i32_10658 : BitVec 32 := 256#32
  let v20427 : BitVec 32 := Scalar.muli v20426 c256_i32_10658
  v20427
def k0_cond1 (k0_t1 : Fin k0_t1_loop.trips) : BitVec 1 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c2_i32_10659 : BitVec 32 := 2#32
  let v20429 : BitVec 1 := Scalar.cmpi .sge v20389 c2_i32_10659
  let v20430 : BitVec 32 := Scalar.extui v20429
  let c0_i32_10662 : BitVec 32 := 0#32
  let v20431 : BitVec 1 := Scalar.cmpi .ne v20430 c0_i32_10662
  v20431

def k0_off6 (k0_t1 : Fin k0_t1_loop.trips) : Fin 3 → Nat :=
  let c0_i32_21175 : BitVec 32 := 0#32
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c2_i32_10657 : BitVec 32 := 2#32
  let v20426 : BitVec 32 := Scalar.subi v20389 c2_i32_10657
  let c256_i32_10658 : BitVec 32 := 256#32
  let v20427 : BitVec 32 := Scalar.muli v20426 c256_i32_10658
  let v20428 : BitVec 32 := v20427
  let c0_i32_21176 : BitVec 32 := 0#32
  ![0, v20428.toNat, 0]
def k0_mult18 (k0_t1 : Fin k0_t1_loop.trips) : BitVec 32 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c2_i32_10657 : BitVec 32 := 2#32
  let v20426 : BitVec 32 := Scalar.subi v20389 c2_i32_10657
  let c256_i32_10663 : BitVec 32 := 256#32
  let v20432 : BitVec 32 := Scalar.muli v20426 c256_i32_10663
  v20432
def k0_cond2 (k0_t1 : Fin k0_t1_loop.trips) : BitVec 1 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c2_i32_10664 : BitVec 32 := 2#32
  let v20434 : BitVec 1 := Scalar.cmpi .sge v20389 c2_i32_10664
  let v20435 : BitVec 32 := Scalar.extui v20434
  let c0_i32_10667 : BitVec 32 := 0#32
  let v20436 : BitVec 1 := Scalar.cmpi .ne v20435 c0_i32_10667
  v20436

def k0_off7 (k0_t1 : Fin k0_t1_loop.trips) : Fin 3 → Nat :=
  let c0_i32_21175 : BitVec 32 := 0#32
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c2_i32_10657 : BitVec 32 := 2#32
  let v20426 : BitVec 32 := Scalar.subi v20389 c2_i32_10657
  let c256_i32_10663 : BitVec 32 := 256#32
  let v20432 : BitVec 32 := Scalar.muli v20426 c256_i32_10663
  let v20433 : BitVec 32 := v20432
  let c0_i32_21176 : BitVec 32 := 0#32
  ![0, v20433.toNat, 0]
def k0_mult19 (k0_t1 : Fin k0_t1_loop.trips) : BitVec 32 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c2_i32_10657 : BitVec 32 := 2#32
  let v20426 : BitVec 32 := Scalar.subi v20389 c2_i32_10657
  let c256_i32_10668 : BitVec 32 := 256#32
  let v20437 : BitVec 32 := Scalar.muli v20426 c256_i32_10668
  v20437
def k0_cond3 (k0_t1 : Fin k0_t1_loop.trips) : BitVec 1 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c2_i32_10669 : BitVec 32 := 2#32
  let v20439 : BitVec 1 := Scalar.cmpi .sge v20389 c2_i32_10669
  let v20440 : BitVec 32 := Scalar.extui v20439
  let c0_i32_10672 : BitVec 32 := 0#32
  let v20441 : BitVec 1 := Scalar.cmpi .ne v20440 c0_i32_10672
  v20441

def k0_off8 (k0_t1 : Fin k0_t1_loop.trips) : Fin 3 → Nat :=
  let c0_i32_21175 : BitVec 32 := 0#32
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c2_i32_10657 : BitVec 32 := 2#32
  let v20426 : BitVec 32 := Scalar.subi v20389 c2_i32_10657
  let c256_i32_10668 : BitVec 32 := 256#32
  let v20437 : BitVec 32 := Scalar.muli v20426 c256_i32_10668
  let v20438 : BitVec 32 := v20437
  let c0_i32_21176 : BitVec 32 := 0#32
  ![0, v20438.toNat, 0]
def k0_mult20 (k0_t1 : Fin k0_t1_loop.trips) : BitVec 32 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c2_i32_10673 : BitVec 32 := 2#32
  let v20442 : BitVec 32 := Scalar.addi v20389 c2_i32_10673
  let c11_i32_10674 : BitVec 32 := 11#32
  let v20443 : BitVec 32 := Scalar.minsi v20442 c11_i32_10674
  let c256_i32_10677 : BitVec 32 := 256#32
  let v20446 : BitVec 32 := Scalar.muli v20443 c256_i32_10677
  v20446
def k0_cond4 (k0_t1 : Fin k0_t1_loop.trips) : BitVec 1 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c2_i32_10675 : BitVec 32 := 2#32
  let v20444 : BitVec 32 := Scalar.addi v20389 c2_i32_10675
  let c12_i32_10676 : BitVec 32 := 12#32
  let v20445 : BitVec 1 := Scalar.cmpi .slt v20444 c12_i32_10676
  let v20448 : BitVec 32 := Scalar.extui v20445
  let c0_i32_10679 : BitVec 32 := 0#32
  let v20449 : BitVec 1 := Scalar.cmpi .ne v20448 c0_i32_10679
  v20449

def k0_off9 (k0_t1 : Fin k0_t1_loop.trips) : Fin 2 → Nat :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c2_i32_10673 : BitVec 32 := 2#32
  let v20442 : BitVec 32 := Scalar.addi v20389 c2_i32_10673
  let c11_i32_10674 : BitVec 32 := 11#32
  let v20443 : BitVec 32 := Scalar.minsi v20442 c11_i32_10674
  let c256_i32_10677 : BitVec 32 := 256#32
  let v20446 : BitVec 32 := Scalar.muli v20443 c256_i32_10677
  let v20447 : BitVec 32 := v20446
  let c0_i32_21175 : BitVec 32 := 0#32
  ![v20447.toNat, 0]
def k0_mult21 (k0_t1 : Fin k0_t1_loop.trips) : BitVec 32 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c1_i32_15741 : BitVec 32 := 1#32
  let v30295 : BitVec 32 := Scalar.addi v20389 c1_i32_15741
  let c256_i32_15745 : BitVec 32 := 256#32
  let v30300 : BitVec 32 := Scalar.muli v30295 c256_i32_15745
  let c0_i32_15746 : BitVec 32 := 0#32
  let v30301 : BitVec 32 := Scalar.addi v30300 c0_i32_15746
  v30301
def k0_off10 (k0_t1 : Fin k0_t1_loop.trips) (c1_i32_10620 : BitVec 32) (c0_i32_15746 : BitVec 32) : Fin 2 → Nat :=
  let c0_15747 : Index := 0#32
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let v20389 : BitVec 32 := Scalar.addi v20388 c1_i32_10620
  let c1_i32_15741 : BitVec 32 := 1#32
  let v30295 : BitVec 32 := Scalar.addi v20389 c1_i32_15741
  let c256_i32_15745 : BitVec 32 := 256#32
  let v30300 : BitVec 32 := Scalar.muli v30295 c256_i32_15745
  let v30301 : BitVec 32 := Scalar.addi v30300 c0_i32_15746
  let v30302 : BitVec 32 := v30301
  let v30303 : Index := Scalar.indexCast v30302
  ![0, v30303.toNat]
def k0_mult22 (k0_t1 : Fin k0_t1_loop.trips) : BitVec 32 :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let c1_i32_10620 : BitVec 32 := 1#32
  let v20389 : BitVec 32 := Scalar.addi v20388 c1_i32_10620
  let c1_i32_15741 : BitVec 32 := 1#32
  let v30295 : BitVec 32 := Scalar.addi v20389 c1_i32_15741
  let c256_i32_15748 : BitVec 32 := 256#32
  let v30308 : BitVec 32 := Scalar.muli v30295 c256_i32_15748
  let c128_i32_15749 : BitVec 32 := 128#32
  let v30309 : BitVec 32 := Scalar.addi v30308 c128_i32_15749
  v30309
def k0_off11 (k0_t1 : Fin k0_t1_loop.trips) (c1_i32_10620 : BitVec 32) (c0_i32_15766 : BitVec 32) : Fin 2 → Nat :=
  let c2_i32_10619 : BitVec 32 := 2#32
  let c0_i32_10102 : BitVec 32 := 0#32
  let c1_i32_10104 : BitVec 32 := 1#32
  let arg29 : BitVec 32 := Scf.iv c0_i32_10102 c1_i32_10104 k0_t1
  let v20388 : BitVec 32 := Scalar.muli c2_i32_10619 arg29
  let v20389 : BitVec 32 := Scalar.addi v20388 c1_i32_10620
  let c1_i32_15741 : BitVec 32 := 1#32
  let v30295 : BitVec 32 := Scalar.addi v20389 c1_i32_15741
  let c2_i32_15765 : BitVec 32 := 2#32
  let v30347 : BitVec 32 := Scalar.muli v30295 c2_i32_15765
  let v30348 : BitVec 32 := Scalar.addi v30347 c0_i32_15766
  let v30349 : Index := Scalar.indexCast v30348
  let c0_15767 : Index := 0#32
  ![v30349.toNat, 0]
def k0_mult23 (k0_t1 : Fin k0_t1_loop.trips) : BitVec 32 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c1_i32_15899 : BitVec 32 := 1#32
  let v30522 : BitVec 32 := Scalar.addi v30521 c1_i32_15899
  let c256_i32_15900 : BitVec 32 := 256#32
  let v30523 : BitVec 32 := Scalar.muli v30522 c256_i32_15900
  v30523
def k0_mult24 (k0_t1 : Fin k0_t1_loop.trips) : BitVec 32 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c1_i32_15903 : BitVec 32 := 1#32
  let v30528 : BitVec 32 := Scalar.subi v30521 c1_i32_15903
  let c256_i32_15904 : BitVec 32 := 256#32
  let v30529 : BitVec 32 := Scalar.muli v30528 c256_i32_15904
  v30529
def k0_mult25 (k0_t1 : Fin k0_t1_loop.trips) : BitVec 32 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c256_i32_15907 : BitVec 32 := 256#32
  let v30534 : BitVec 32 := Scalar.muli v30521 c256_i32_15907
  v30534
def k0_mult26 (k0_t1 : Fin k0_t1_loop.trips) : BitVec 32 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c1_i32_15910 : BitVec 32 := 1#32
  let v30539 : BitVec 32 := Scalar.subi v30521 c1_i32_15910
  let c256_i32_15911 : BitVec 32 := 256#32
  let v30540 : BitVec 32 := Scalar.muli v30539 c256_i32_15911
  v30540
def k0_mult27 (k0_t1 : Fin k0_t1_loop.trips) : BitVec 32 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c1_i32_15910 : BitVec 32 := 1#32
  let v30539 : BitVec 32 := Scalar.subi v30521 c1_i32_15910
  let c256_i32_15919 : BitVec 32 := 256#32
  let v30546 : BitVec 32 := Scalar.muli v30539 c256_i32_15919
  v30546
def k0_mult28 (k0_t1 : Fin k0_t1_loop.trips) : BitVec 32 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c1_i32_15910 : BitVec 32 := 1#32
  let v30539 : BitVec 32 := Scalar.subi v30521 c1_i32_15910
  let c256_i32_15927 : BitVec 32 := 256#32
  let v30552 : BitVec 32 := Scalar.muli v30539 c256_i32_15927
  v30552
def k0_mult29 (k0_t1 : Fin k0_t1_loop.trips) : BitVec 32 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c2_i32_15935 : BitVec 32 := 2#32
  let v30558 : BitVec 32 := Scalar.subi v30521 c2_i32_15935
  let c256_i32_15936 : BitVec 32 := 256#32
  let v30559 : BitVec 32 := Scalar.muli v30558 c256_i32_15936
  v30559
def k0_cond5 (k0_t1 : Fin k0_t1_loop.trips) : BitVec 1 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c2_i32_15937 : BitVec 32 := 2#32
  let v30561 : BitVec 1 := Scalar.cmpi .sge v30521 c2_i32_15937
  let v30562 : BitVec 32 := Scalar.extui v30561
  let c0_i32_15940 : BitVec 32 := 0#32
  let v30563 : BitVec 1 := Scalar.cmpi .ne v30562 c0_i32_15940
  v30563

def k0_off12 (k0_t1 : Fin k0_t1_loop.trips) : Fin 3 → Nat :=
  let c0_i32_21175 : BitVec 32 := 0#32
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c2_i32_15935 : BitVec 32 := 2#32
  let v30558 : BitVec 32 := Scalar.subi v30521 c2_i32_15935
  let c256_i32_15936 : BitVec 32 := 256#32
  let v30559 : BitVec 32 := Scalar.muli v30558 c256_i32_15936
  let v30560 : BitVec 32 := v30559
  let c0_i32_21176 : BitVec 32 := 0#32
  ![0, v30560.toNat, 0]
def k0_mult30 (k0_t1 : Fin k0_t1_loop.trips) : BitVec 32 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c2_i32_15935 : BitVec 32 := 2#32
  let v30558 : BitVec 32 := Scalar.subi v30521 c2_i32_15935
  let c256_i32_15941 : BitVec 32 := 256#32
  let v30564 : BitVec 32 := Scalar.muli v30558 c256_i32_15941
  v30564
def k0_cond6 (k0_t1 : Fin k0_t1_loop.trips) : BitVec 1 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c2_i32_15942 : BitVec 32 := 2#32
  let v30566 : BitVec 1 := Scalar.cmpi .sge v30521 c2_i32_15942
  let v30567 : BitVec 32 := Scalar.extui v30566
  let c0_i32_15945 : BitVec 32 := 0#32
  let v30568 : BitVec 1 := Scalar.cmpi .ne v30567 c0_i32_15945
  v30568

def k0_off13 (k0_t1 : Fin k0_t1_loop.trips) : Fin 3 → Nat :=
  let c0_i32_21175 : BitVec 32 := 0#32
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c2_i32_15935 : BitVec 32 := 2#32
  let v30558 : BitVec 32 := Scalar.subi v30521 c2_i32_15935
  let c256_i32_15941 : BitVec 32 := 256#32
  let v30564 : BitVec 32 := Scalar.muli v30558 c256_i32_15941
  let v30565 : BitVec 32 := v30564
  let c0_i32_21176 : BitVec 32 := 0#32
  ![0, v30565.toNat, 0]
def k0_mult31 (k0_t1 : Fin k0_t1_loop.trips) : BitVec 32 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c2_i32_15935 : BitVec 32 := 2#32
  let v30558 : BitVec 32 := Scalar.subi v30521 c2_i32_15935
  let c256_i32_15946 : BitVec 32 := 256#32
  let v30569 : BitVec 32 := Scalar.muli v30558 c256_i32_15946
  v30569
def k0_cond7 (k0_t1 : Fin k0_t1_loop.trips) : BitVec 1 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c2_i32_15947 : BitVec 32 := 2#32
  let v30571 : BitVec 1 := Scalar.cmpi .sge v30521 c2_i32_15947
  let v30572 : BitVec 32 := Scalar.extui v30571
  let c0_i32_15950 : BitVec 32 := 0#32
  let v30573 : BitVec 1 := Scalar.cmpi .ne v30572 c0_i32_15950
  v30573

def k0_off14 (k0_t1 : Fin k0_t1_loop.trips) : Fin 3 → Nat :=
  let c0_i32_21175 : BitVec 32 := 0#32
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c2_i32_15935 : BitVec 32 := 2#32
  let v30558 : BitVec 32 := Scalar.subi v30521 c2_i32_15935
  let c256_i32_15946 : BitVec 32 := 256#32
  let v30569 : BitVec 32 := Scalar.muli v30558 c256_i32_15946
  let v30570 : BitVec 32 := v30569
  let c0_i32_21176 : BitVec 32 := 0#32
  ![0, v30570.toNat, 0]
def k0_mult32 (k0_t1 : Fin k0_t1_loop.trips) : BitVec 32 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c2_i32_15951 : BitVec 32 := 2#32
  let v30574 : BitVec 32 := Scalar.addi v30521 c2_i32_15951
  let c11_i32_15952 : BitVec 32 := 11#32
  let v30575 : BitVec 32 := Scalar.minsi v30574 c11_i32_15952
  let c256_i32_15955 : BitVec 32 := 256#32
  let v30578 : BitVec 32 := Scalar.muli v30575 c256_i32_15955
  v30578
def k0_cond8 (k0_t1 : Fin k0_t1_loop.trips) : BitVec 1 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c2_i32_15953 : BitVec 32 := 2#32
  let v30576 : BitVec 32 := Scalar.addi v30521 c2_i32_15953
  let c12_i32_15954 : BitVec 32 := 12#32
  let v30577 : BitVec 1 := Scalar.cmpi .slt v30576 c12_i32_15954
  let v30580 : BitVec 32 := Scalar.extui v30577
  let c0_i32_15957 : BitVec 32 := 0#32
  let v30581 : BitVec 1 := Scalar.cmpi .ne v30580 c0_i32_15957
  v30581

def k0_off15 (k0_t1 : Fin k0_t1_loop.trips) : Fin 2 → Nat :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c2_i32_15951 : BitVec 32 := 2#32
  let v30574 : BitVec 32 := Scalar.addi v30521 c2_i32_15951
  let c11_i32_15952 : BitVec 32 := 11#32
  let v30575 : BitVec 32 := Scalar.minsi v30574 c11_i32_15952
  let c256_i32_15955 : BitVec 32 := 256#32
  let v30578 : BitVec 32 := Scalar.muli v30575 c256_i32_15955
  let v30579 : BitVec 32 := v30578
  let c0_i32_21175 : BitVec 32 := 0#32
  ![v30579.toNat, 0]
def k0_mult33 (k0_t1 : Fin k0_t1_loop.trips) : BitVec 32 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c1_i32_21019 : BitVec 32 := 1#32
  let v40427 : BitVec 32 := Scalar.addi v30521 c1_i32_21019
  let c256_i32_21023 : BitVec 32 := 256#32
  let v40432 : BitVec 32 := Scalar.muli v40427 c256_i32_21023
  let c0_i32_21024 : BitVec 32 := 0#32
  let v40433 : BitVec 32 := Scalar.addi v40432 c0_i32_21024
  v40433
def k0_mult34 (k0_t1 : Fin k0_t1_loop.trips) : BitVec 32 :=
  let c2_i32_15897 : BitVec 32 := 2#32
  let c0_i32_10102 : BitVec 32 := 0#32
  let c1_i32_10104 : BitVec 32 := 1#32
  let arg29 : BitVec 32 := Scf.iv c0_i32_10102 c1_i32_10104 k0_t1
  let v30520 : BitVec 32 := Scalar.muli c2_i32_15897 arg29
  let c2_i32_15898 : BitVec 32 := 2#32
  let v30521 : BitVec 32 := Scalar.addi v30520 c2_i32_15898
  let c1_i32_21019 : BitVec 32 := 1#32
  let v40427 : BitVec 32 := Scalar.addi v30521 c1_i32_21019
  let c256_i32_21026 : BitVec 32 := 256#32
  let v40440 : BitVec 32 := Scalar.muli v40427 c256_i32_21026
  let c128_i32_21027 : BitVec 32 := 128#32
  let v40441 : BitVec 32 := Scalar.addi v40440 c128_i32_21027
  v40441
def k0_mult35 : BitVec 32 :=
  let c2816_i32_10106 : BitVec 32 := 2816#32
  c2816_i32_10106
def k0_mult36 : BitVec 32 :=
  let c2560_i32_10109 : BitVec 32 := 2560#32
  c2560_i32_10109
def k0_mult37 : BitVec 32 :=
  let c2560_i32_10117 : BitVec 32 := 2560#32
  c2560_i32_10117
def k0_mult38 : BitVec 32 :=
  let c2560_i32_10125 : BitVec 32 := 2560#32
  c2560_i32_10125
def k0_mult39 : BitVec 32 :=
  let c2304_i32_10132 : BitVec 32 := 2304#32
  c2304_i32_10132
def k0_mult40 : BitVec 32 :=
  let c2304_i32_10140 : BitVec 32 := 2304#32
  c2304_i32_10140
def k0_mult41 : BitVec 32 :=
  let c2304_i32_10148 : BitVec 32 := 2304#32
  c2304_i32_10148
def k0_mult42 : BitVec 32 :=
  let c2560_i32_10541 : BitVec 32 := 2560#32
  c2560_i32_10541
def k0_mult43 : BitVec 32 :=
  let c2816_i32_10544 : BitVec 32 := 2816#32
  c2816_i32_10544
def k0_mult44 : BitVec 32 :=
  let c2816_i32_10547 : BitVec 32 := 2816#32
  c2816_i32_10547
def k0_mult45 : BitVec 32 :=
  let c2816_i32_10555 : BitVec 32 := 2816#32
  c2816_i32_10555
def k0_mult46 : BitVec 32 :=
  let c2816_i32_10563 : BitVec 32 := 2816#32
  c2816_i32_10563
def k0_mult47 : BitVec 32 :=
  let c2560_i32_10571 : BitVec 32 := 2560#32
  c2560_i32_10571
def k0_mult48 : BitVec 32 :=
  let c2560_i32_10579 : BitVec 32 := 2560#32
  c2560_i32_10579
def k0_mult49 : BitVec 32 :=
  let c2560_i32_10587 : BitVec 32 := 2560#32
  c2560_i32_10587
def k0_mult50 : BitVec 32 :=
  let c2816_i32_10595 : BitVec 32 := 2816#32
  c2816_i32_10595
def k0_mult51 : BitVec 32 :=
  let c2816_i32_10603 : BitVec 32 := 2816#32
  c2816_i32_10603
def k0_mult52 : BitVec 32 :=
  let c2816_i32_10611 : BitVec 32 := 2816#32
  c2816_i32_10611
abbrev stage0_0 : Fin 1 → Memref sig .tc .vmem S40x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S30x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x3072x5120 : Shape := ⟨3, ![1, 3072, 5120]⟩
abbrev S5120 : Shape := ⟨1, ![5120]⟩
abbrev S5120x3840 : Shape := ⟨2, ![5120, 3840]⟩
abbrev S3840 : Shape := ⟨1, ![3840]⟩
abbrev S1x3072 : Shape := ⟨2, ![1, 3072]⟩
abbrev S3072x5120 : Shape := ⟨2, ![3072, 5120]⟩
abbrev S1x5120 : Shape := ⟨2, ![1, 5120]⟩
abbrev S1x3840 : Shape := ⟨2, ![1, 3840]⟩
abbrev S3072x1 : Shape := ⟨2, ![3072, 1]⟩
abbrev S3072x10x128 : Shape := ⟨3, ![3072, 10, 128]⟩
abbrev S3072 : Shape := ⟨1, ![3072]⟩
abbrev S3072x3840 : Shape := ⟨2, ![3072, 3840]⟩
abbrev S1x64 : Shape := ⟨2, ![1, 64]⟩
abbrev S3072x64 : Shape := ⟨2, ![3072, 64]⟩
abbrev S3072x1x64 : Shape := ⟨3, ![3072, 1, 64]⟩
abbrev S3072x30x128 : Shape := ⟨3, ![3072, 30, 128]⟩
abbrev S3072x20x128 : Shape := ⟨3, ![3072, 20, 128]⟩
abbrev S3072x20x64 : Shape := ⟨3, ![3072, 20, 64]⟩
abbrev S1x3072x10x128 : Shape := ⟨4, ![1, 3072, 10, 128]⟩
abbrev S1x3072x1 : Shape := ⟨3, ![1, 3072, 1]⟩

abbrev nBuf : Space → Nat
  | .hbm => 19
  | .vmem => 10
  | .smem => 0
  | _ => 0

abbrev bufTy : (tb : Table) → Fin (tcTables nBuf tb) → BufTy
  | .hbm, ⟨0, _⟩ => ⟨S1x3072x5120, .bf16⟩
  | .hbm, ⟨1, _⟩ => ⟨S5120, .bf16⟩
  | .hbm, ⟨2, _⟩ => ⟨S5120x3840, .fp8e4m3⟩
  | .hbm, ⟨3, _⟩ => ⟨S3840, .f32⟩
  | .hbm, ⟨4, _⟩ => ⟨S1x3072, .i32⟩
  | .hbm, ⟨5, _⟩ => ⟨S3072x5120, .bf16⟩
  | .hbm, ⟨6, _⟩ => ⟨S1x5120, .bf16⟩
  | .hbm, ⟨7, _⟩ => ⟨S1x3840, .f32⟩
  | .hbm, ⟨8, _⟩ => ⟨S3072x1, .i32⟩
  | .hbm, ⟨9, _⟩ => ⟨S3072x10x128, .bf16⟩
  | .hbm, ⟨10, _⟩ => ⟨S3072x10x128, .bf16⟩
  | .hbm, ⟨11, _⟩ => ⟨S3072x10x128, .bf16⟩
  | .hbm, ⟨12, _⟩ => ⟨S3072x5120, .fp8e4m3⟩
  | .hbm, ⟨13, _⟩ => ⟨S3072x1, .f32⟩
  | .hbm, ⟨14, _⟩ => ⟨S1x3072x10x128, .bf16⟩
  | .hbm, ⟨15, _⟩ => ⟨S1x3072x10x128, .bf16⟩
  | .hbm, ⟨16, _⟩ => ⟨S1x3072x10x128, .bf16⟩
  | .hbm, ⟨17, _⟩ => ⟨S1x3072x5120, .fp8e4m3⟩
  | .hbm, ⟨18, _⟩ => ⟨S1x3072x1, .f32⟩
  | .local _ .vmem, ⟨0, _⟩ => ⟨S3072x5120, .bf16⟩
  | .local _ .vmem, ⟨1, _⟩ => ⟨S1x5120, .bf16⟩
  | .local _ .vmem, ⟨2, _⟩ => ⟨S5120x3840, .fp8e4m3⟩
  | .local _ .vmem, ⟨3, _⟩ => ⟨S1x3840, .f32⟩
  | .local _ .vmem, ⟨4, _⟩ => ⟨S3072x1, .i32⟩
  | .local _ .vmem, ⟨5, _⟩ => ⟨S3072x10x128, .bf16⟩
  | .local _ .vmem, ⟨6, _⟩ => ⟨S3072x10x128, .bf16⟩
  | .local _ .vmem, ⟨7, _⟩ => ⟨S3072x10x128, .bf16⟩
  | .local _ .vmem, ⟨8, _⟩ => ⟨S3072x5120, .fp8e4m3⟩
  | .local _ .vmem, ⟨9, _⟩ => ⟨S3072x1, .f32⟩
  | _, _ => ⟨S1x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3072x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x10x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x10x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x10x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Blocks.lean ====
module

public import Idealize.ShloMosaic.Lib.Pipeline
public import Idealize.ShloMosaic.Lib.Scf
public import Idealize.ShloMosaic.Lib.Sig
public import Idealize.ShloMosaic.Lib.StableHlo
public import Idealize.ShloMosaic.PureOps
public import Idealize.ShloMosaic.Lib.Tactic

@[expose] public section

noncomputable section

/-! # The kernel's body as a structured program

The printed body is unrolled: every column block of every row group is a statement of its own. Here
the same statements are written as the recursions they came from. -/

namespace Cert.Blocks

open Idealize.ShloMosaic Idealize.SL.Sem

abbrev S1 : Shape := ⟨1, ![1]⟩
abbrev S2 : Shape := ⟨1, ![2]⟩
abbrev S15 : Shape := ⟨1, ![15]⟩
abbrev S2x3 : Shape := ⟨2, ![2, 3]⟩
abbrev S1x1 : Shape := ⟨2, ![1, 1]⟩
abbrev S_ : Shape := ⟨0, ![]⟩
abbrev S32 : Shape := ⟨1, ![32]⟩
abbrev S32x1 : Shape := ⟨2, ![32, 1]⟩
abbrev S32x128 : Shape := ⟨2, ![32, 128]⟩
abbrev S1x128 : Shape := ⟨2, ![1, 128]⟩
abbrev S8x128 : Shape := ⟨2, ![8, 128]⟩
abbrev S40x128 : Shape := ⟨2, ![40, 128]⟩
abbrev S30x128 : Shape := ⟨2, ![30, 128]⟩
abbrev S24x128 : Shape := ⟨2, ![24, 128]⟩
abbrev S128x128 : Shape := ⟨2, ![128, 128]⟩
abbrev S256x128 : Shape := ⟨2, ![256, 128]⟩
abbrev S256x256 : Shape := ⟨2, ![256, 256]⟩
abbrev S256x5120 : Shape := ⟨2, ![256, 5120]⟩
abbrev S3072x5120 : Shape := ⟨2, ![3072, 5120]⟩
abbrev S5120x256 : Shape := ⟨2, ![5120, 256]⟩
abbrev S5120x3840 : Shape := ⟨2, ![5120, 3840]⟩
abbrev S1x3072 : Shape := ⟨2, ![1, 3072]⟩
abbrev S1x256x128 : Shape := ⟨3, ![1, 256, 128]⟩
abbrev S10x256x128 : Shape := ⟨3, ![10, 256, 128]⟩
abbrev S30x256x128 : Shape := ⟨3, ![30, 256, 128]⟩
abbrev S10x3072x128 : Shape := ⟨3, ![10, 3072, 128]⟩

variable {nD : ℕ} {τ : Topo} {sig : RefSig} {Λ : Labels} {F : FTy → Type} [FloatOps F]

/-- A block of rows and columns of a rank-2 shape stays inside it. -/
theorem inb {a b c d r l : ℕ} (h₁ : r + c ≤ a) (h₂ : l + d ≤ b) :
    ∀ i, (![r, l] : Fin 2 → ℕ) i + (⟨2, ![c, d]⟩ : Shape).size i ≤ (⟨2, ![a, b]⟩ : Shape).size i := by
  intro i; fin_cases i <;> assumption

theorem inb1 {a r : ℕ} (h : r < a) : ∀ i, (![r] : Fin 1 → ℕ) i + (⟨1, ![1]⟩ : Shape).size i ≤ (⟨1, ![a]⟩ : Shape).size i := by
  intro i; fin_cases i; exact h

theorem n32x128 : 0 < S32x128.numel := by decide
theorem n1x128 : 0 < S1x128.numel := by decide

/-! ## One group of 32 rows -/

section group

variable (x : Memref sig .tc .vmem S256x5120 .bf16) (nwf : Memref sig .tc .vmem S40x128 .f32)
  (codes : Memref sig .tc .vmem S256x5120 .fp8e4m3) (hcodes : codes.IsWhole) (xs : Memref sig .tc .vmem S256x128 .f32)
  (g : Fin 8)

theorem hrow (g : Fin 8) : 32 * g.val + 32 ≤ 256 := by omega

abbrev P (nD : ℕ) (τ : Topo) (sig : RefSig) (Λ : Labels) (F : FTy → Type) (α : Type) := Prog (TpuEff nD τ sig (Elt F) Λ .tc) α

/-- The group's 128 columns `c` of the activations. -/
def ldX (c : ℕ) (hc : c < 40) : P nD τ sig Λ F (Vec F S32x128 .bf16) :=
  Prog.lift (.load x (Rect.unit (s := S256x5120) ![32 * g.val, 128 * c] S32x128.size (inb (hrow g) (by omega))).toLoadRect
    (View.loadsAt_vmem n32x128))

/-- Row `c` of the weights of the norm. -/
def ldNw (c : ℕ) (hc : c < 40) : P nD τ sig Λ F (Vec F S1x128 .f32) :=
  Prog.lift (.load nwf (Rect.unit (s := S40x128) ![c, 0] S1x128.size (inb (by omega) (by omega))).toLoadRect
    (View.loadsAt_vmem n1x128))

def sumSq : (n c : ℕ) → c + n ≤ 40 → FVec F S32x128 .f32 → P nD τ sig Λ F (FVec F S32x128 .f32)
  | 0, _, _, acc => pure acc
  | n + 1, c, h, acc => do
    let v ← ldX x g c (by omega)
    sumSq n (c + 1) (by omega) (addf acc (mulf (extf .f32 v (by decide)) (extf .f32 v (by decide))))

/-- The normed columns `c`. -/
def normed (r : FVec F S32x128 .f32) (c : ℕ) (hc : c < 40) : P nD τ sig Λ F (FVec F S32x128 .f32) := do
  let v ← ldX x g c hc
  let w ← ldNw nwf c hc
  pure (mulf (mulf (extf .f32 v (by decide)) r) (broadcastTo S32x128 w (by decide)))

def maxAbs (r : FVec F S32x128 .f32) : (n c : ℕ) → c + n ≤ 40 → FVec F S32x128 .f32 → P nD τ sig Λ F (FVec F S32x128 .f32)
  | 0, _, _, acc => pure acc
  | n + 1, c, h, acc => do
    let v ← normed x nwf g r c (by omega)
    maxAbs r n (c + 1) (by omega) (maximumf acc (absf v))

def search (v : FVec F S32x128 .f32) (b : BitVec 32) (e : IVec S32x128 32) : IVec S32x128 32 :=
  let cand := addi e (broadcast S32x128 b)
  select (cmpf .oge v (bitcastToFloat .f32 (shli cand (broadcast S32x128 23#32)))) cand e

def expOf (v : FVec F S32x128 .f32) : IVec S32x128 32 :=
  search v 1#32 (search v 2#32 (search v 4#32 (search v 8#32 (search v 16#32 (search v 32#32
    (search v 64#32 (search v 128#32 (broadcast S32x128 0#32))))))))

/-- The exponent of the scale. -/
def scaleExp (amax : FVec F S32x128 .f32) : IVec S32x128 32 :=
  let e := expOf (mulf amax (broadcast S32x128 (Scalar.ofBits .f32 0x3B124925#32)))
  select (ori (ori (cmpi .eq e (broadcast S32x128 0#32)) (cmpi .eq e (broadcast S32x128 255#32)))
    (cmpf .oeq amax (broadcast S32x128 (Scalar.ofBits .f32 0x00000000#32))))
    (broadcast S32x128 0#32) (subi e (broadcast S32x128 126#32))

def ldexpOne (n : IVec S32x128 32) : FVec F S32x128 .f32 :=
  bitcastToFloat .f32 (shli (minsi (broadcast S32x128 255#32) (maxsi (broadcast S32x128 0#32) (addi n (broadcast S32x128 127#32))))
    (broadcast S32x128 23#32))

def rms (ss : FVec F S32x128 .f32) : FVec F S32x128 .f32 :=
  broadcastTo S32x128 (shapeCast S32x1 (rsqrt (addf
    (mulf (shapeCast S32x1 (multiReduction .add [1] S32 ss 0x00000000#32 (by decide) (.inl rfl) rfl) (by decide))
      (broadcast S32x1 (Scalar.ofBits .f32 0x394CCCCD#32)))
    (broadcast S32x1 (Scalar.ofBits .f32 0x3727C5AC#32)))) (by decide)) (by decide)

def rowMax (m : FVec F S32x128 .f32) : FVec F S32x128 .f32 :=
  broadcastTo S32x128 (shapeCast S32x1 (shapeCast S32x1
    (multiReduction .maximumf [1] S32 m 0xFF800000#32 (by decide) (.inl rfl) rfl) (by decide)) (by decide)) (by decide)

def clipCode (h : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32)) h)) (by decide)

theorem packed_codes (g : Fin 8) (c : ℕ) (hc : c < 40) :
    (Rect.unit (s := S256x5120) ![32 * g.val, 128 * c] S32x128.size (inb (hrow g) (by omega))).PackedRows (EltTy.packing .fp8e4m3) := by
  refine .inr ⟨by decide, rfl, .inl ⟨?_, ?_⟩⟩
  · show 4 ∣ 32 * g.val
    omega
  · show 4 ∣ 32
    decide

def stCodes (c : ℕ) (hc : c < 40) (w : FVec F S32x128 .fp8e4m3) : P nD τ sig Λ F PUnit := do
  let _v : Vec F S32x128 .fp8e4m3 ← Prog.lift (.load codes (Rect.unit (s := S256x5120) ![32 * g.val, 128 * c] S32x128.size
    (inb (hrow g) (by omega))).toLoadRect (View.loadsAt_vmem n32x128))
  Prog.lift (.store codes (Rect.unit (s := S256x5120) ![32 * g.val, 128 * c] S32x128.size (inb (hrow g) (by omega)))
    (shapeCast S32x128 w (by decide)) Finset.univ
    (View.stores_vmem n32x128 (hcodes.storeExact_slice rfl _ (packed_codes g c hc)) (fun _ => rfl)) (.inl rfl))

def emit (r inv : FVec F S32x128 .f32) : (n c : ℕ) → c + n ≤ 40 → P nD τ sig Λ F PUnit
  | 0, _, _ => pure ⟨⟩
  | n + 1, c, h => do
    let v ← normed x nwf g r c (by omega)
    stCodes codes hcodes g c (by omega) (clipCode (mulf v inv))
    emit r inv n (c + 1) (by omega)

def stXs (w : FVec F S32x128 .f32) : P nD τ sig Λ F PUnit := do
  let _v : Vec F S32x128 .f32 ← Prog.lift (.load xs (Rect.unit (s := S256x128) ![32 * g.val, 0] S32x128.size
    (inb (hrow g) (by omega))).toLoadRect (View.loadsAt_vmem n32x128))
  Prog.lift (.store xs (Rect.unit (s := S256x128) ![32 * g.val, 0] S32x128.size (inb (hrow g) (by omega)))
    (shapeCast S32x128 w (by decide)) Finset.univ (View.stores_vmem_bits_univ n32x128 rfl) (.inl rfl))

/-- One group of 32 rows quantised. -/
def group : P nD τ sig Λ F PUnit := do
  let ss ← sumSq x g 40 0 (by omega) (broadcast S32x128 (Scalar.ofBits .f32 0x00000000#32))
  let m ← maxAbs x nwf g (rms ss) 40 0 (by omega) (broadcast S32x128 (Scalar.ofBits .f32 0x00000000#32))
  let e := scaleExp (rowMax m)
  stXs xs g (ldexpOne e)
  emit x nwf codes hcodes g (rms ss) (ldexpOne (subi (broadcast S32x128 0#32) e)) 40 0 (by omega)

end group

/-! ## The operands -/

/-- What one of the two slots owns: its buffers and the semaphores of its transfers. -/
structure Slot (sig : RefSig) where
  x : Memref sig .tc .vmem S256x5120 .bf16
  hx : x.IsWhole
  codes : Memref sig .tc .vmem S256x5120 .fp8e4m3
  hcodes : codes.IsWhole
  out : Memref sig .tc .vmem S30x256x128 .bf16
  hout : out.IsWhole
  xs : Memref sig .tc .vmem S256x128 .f32
  cos : Memref sig .tc .vmem S256x128 .f32
  sin : Memref sig .tc .vmem S256x128 .f32
  xsem : DmaSem sig
  csem : DmaSem sig
  osem : Fin 3 → DmaSem sig

/-- What the two slots share: the arrays of the call, the weights' buffer and semaphores, the tables. -/
structure Glob (sig : RefSig) where
  x : Memref sig .tc .hbm S3072x5120 .bf16
  hx : x.IsWhole
  nw : Memref sig .tc .vmem S40x128 .bf16
  w : Memref sig .tc .hbm S5120x3840 .fp8e4m3
  hw : w.IsWhole
  ws : Memref sig .tc .vmem S30x128 .f32
  pos : Memref sig .tc .vmem S1x3072 .i32
  qkv : Fin 3 → Memref sig .tc .hbm S10x3072x128 .bf16
  hqkv : ∀ i, (qkv i).IsWhole
  codes : Memref sig .tc .hbm S3072x5120 .fp8e4m3
  hcodes : codes.IsWhole
  xsOut : Memref sig .tc .vmem S24x128 .f32
  wBuf : Memref sig .tc .vmem S5120x3840 .fp8e4m3
  hwBuf : wBuf.IsWhole
  nwf : Memref sig .tc .vmem S40x128 .f32
  freq : Memref sig .tc .vmem S1x128 .f32
  wsem : Fin 15 → DmaSem sig

theorem n40x128 : 0 < S40x128.numel := by decide
theorem n128x128 : 0 < S128x128.numel := by decide
theorem n256x128 : 0 < S256x128.numel := by decide
theorem n256x5120 : 0 < S256x5120.numel := by decide
theorem n5120x256 : 0 < S5120x256.numel := by decide
theorem n1x256x128 : 0 < S1x256x128.numel := by decide

theorem inb3 {a b c r s t d e f : ℕ} (h₁ : r + d ≤ a) (h₂ : s + e ≤ b) (h₃ : t + f ≤ c) :
    ∀ i, (![r, s, t] : Fin 3 → ℕ) i + (⟨3, ![d, e, f]⟩ : Shape).size i ≤ (⟨3, ![a, b, c]⟩ : Shape).size i := by
  intro i; fin_cases i <;> assumption

/-! ## The transfers -/

section transfers

/-- The rows of tile `t`. -/
abbrev rows (t : ℕ) (ht : t < 12) : Rect S3072x5120 :=
  Rect.unit (s := S3072x5120) ![256 * t, 0] S256x5120.size (inb (by omega) (by omega))

theorem words_rows {p : ℕ} (hp : p ∣ 256) (t : ℕ) (ht : t < 12) : (rows t ht).WholeWords p := by
  refine .inl (.inr ⟨by decide, rfl, .inl ⟨?_, ?_⟩⟩)
  · exact (hp.trans (Dvd.intro _ rfl) : p ∣ 256 * t)
  · exact hp

/-- The columns of chunk `n` of the weights. -/
abbrev cols (n : Fin 15) : Rect S5120x3840 :=
  Rect.unit (s := S5120x3840) ![0, 256 * n.val] S5120x256.size (inb (by omega) (by omega))

theorem words_cols {p : ℕ} (n : Fin 15) : (cols n).WholeWords p :=
  .inr ⟨by decide, rfl, rfl, rfl⟩

/-- The rows of tile `t` in all heads of one result. -/
abbrev orows (t : ℕ) (ht : t < 12) : Rect S10x3072x128 :=
  Rect.unit (s := S10x3072x128) ![0, 256 * t, 0] S10x256x128.size (inb3 (by omega) (by omega) (by omega))

theorem words_orows (t : ℕ) (ht : t < 12) : (orows t ht).WholeWords (EltTy.packing .bf16) := by
  refine .inl (.inr ⟨by decide, rfl, .inl ⟨?_, ?_⟩⟩)
  · show 2 ∣ 256 * t
    omega
  · show 2 ∣ 256
    decide

/-- The heads of result `i` in the output buffer. -/
abbrev heads (i : Fin 3) : Rect S30x256x128 :=
  Rect.unit (s := S30x256x128) ![10 * i.val, 0, 0] S10x256x128.size (inb3 (by omega) (by omega) (by omega))

theorem words_heads (i : Fin 3) : (heads i).WholeWords (EltTy.packing .bf16) := by
  refine .inl (.inr ⟨by decide, rfl, .inl ⟨?_, ?_⟩⟩)
  · exact ⟨0, rfl⟩
  · exact ⟨128, rfl⟩

variable (G : Glob sig) (s : Slot sig) (t : ℕ) (ht : t < 12)

def startX : P nD τ sig Λ F PUnit :=
  Prog.lift (.enqueueDma (G.x.slice (rows t ht) (fun _ => rfl)) (.here s.x) (.dma s.xsem)
    (G.hx.wordExact_slice rfl _ (words_rows (by decide) t ht)) s.hx.wordExact ⟨Or.inl rfl, trivial⟩)

def waitX : P nD τ sig Λ F PUnit :=
  Prog.lift (.waitDma2 s.xsem (G.x.slice (rows t ht) (fun _ => rfl)) s.x
    (G.hx.wordExact_slice rfl _ (words_rows (by decide) t ht)) s.hx.wordExact)

def startW (n : Fin 15) : P nD τ sig Λ F PUnit :=
  Prog.lift (.enqueueDma (G.w.slice (cols n) (fun _ => rfl)) (.here (G.wBuf.slice (cols n) (fun _ => rfl))) (.dma (G.wsem n))
    (G.hw.wordExact_slice rfl _ (words_cols n)) (G.hwBuf.wordExact_slice rfl _ (words_cols n)) ⟨Or.inl rfl, trivial⟩)

def waitW (n : Fin 15) : P nD τ sig Λ F PUnit :=
  Prog.lift (.waitDma2 (G.wsem n) (G.w.slice (cols n) (fun _ => rfl)) (G.wBuf.slice (cols n) (fun _ => rfl))
    (G.hw.wordExact_slice rfl _ (words_cols n)) (G.hwBuf.wordExact_slice rfl _ (words_cols n)))

def startCodes : P nD τ sig Λ F PUnit :=
  Prog.lift (.enqueueDma s.codes (.here (G.codes.slice (rows t ht) (fun _ => rfl))) (.dma s.csem)
    s.hcodes.wordExact (G.hcodes.wordExact_slice rfl _ (words_rows (by decide) t ht)) ⟨Or.inl rfl, trivial⟩)

def waitCodes : P nD τ sig Λ F PUnit :=
  Prog.lift (.waitDma2 s.csem s.codes (G.codes.slice (rows t ht) (fun _ => rfl))
    s.hcodes.wordExact (G.hcodes.wordExact_slice rfl _ (words_rows (by decide) t ht)))

def startOut (i : Fin 3) : P nD τ sig Λ F PUnit :=
  Prog.lift (.enqueueDma (s.out.slice (heads i) (fun _ => rfl)) (.here ((G.qkv i).slice (orows t ht) (fun _ => rfl))) (.dma (s.osem i))
    (s.hout.wordExact_slice rfl _ (words_heads i)) ((G.hqkv i).wordExact_slice rfl _ (words_orows t ht)) ⟨Or.inl rfl, trivial⟩)

def waitOut (i : Fin 3) : P nD τ sig Λ F PUnit :=
  Prog.lift (.waitDma2 (s.osem i) (s.out.slice (heads i) (fun _ => rfl)) ((G.qkv i).slice (orows t ht) (fun _ => rfl))
    (s.hout.wordExact_slice rfl _ (words_heads i)) ((G.hqkv i).wordExact_slice rfl _ (words_orows t ht)))

def startOuts : P nD τ sig Λ F PUnit := do
  startOut G s t ht 0
  startOut G s t ht 1
  startOut G s t ht 2

def waitOuts : P nD τ sig Λ F PUnit := do
  waitOut G s t ht 0
  waitOut G s t ht 1
  waitOut G s t ht 2

end transfers

/-! ## The rotary tables and the scales of a tile -/

section tables

variable (G : Glob sig) (s : Slot sig)

def low : IVec S128x128 1 := cmpi .slt (iota .tc S128x128 32 [1] (by decide)) (broadcast S128x128 64#32)

/-- 128 positions, down the rows. -/
def posRows (p : Vec F S1x128 .i32) : IVec S128x128 32 :=
  transpose S128x128 [1, 0] (broadcastTo S128x128 (shapeCast S1x128 p (by decide)) (by decide)) (by decide)

/-- The angles of 256 positions: the low lanes those of the first 128, the high lanes those of the last 128. -/
def angle (f : Vec F S1x128 .f32) (p₀ p₁ : Vec F S1x128 .i32) : FVec F S128x128 .f32 :=
  mulf (sitofp .f32 (select low (posRows p₀) (posRows p₁))) (broadcastTo S128x128 f (by decide))

def ldPos (t : ℕ) (ht : t < 12) (j : Fin 2) : P nD τ sig Λ F (Vec F S1x128 .i32) :=
  Prog.lift (.load G.pos (Rect.unit (s := S1x3072) ![0, 256 * t + 128 * j.val] S1x128.size (inb (by omega) (by omega))).toLoadRect
    (View.loadsAt_vmem n1x128))

def roll (v : FVec F S128x128 .f32) : FVec F S128x128 .f32 := dynamicRotate 1 64#32 none v (by decide)

def stHalf (m : Memref sig .tc .vmem S256x128 .f32) (j : Fin 2) (v : FVec F S128x128 .f32) : P nD τ sig Λ F PUnit := do
  let _v : Vec F S128x128 .f32 ← Prog.lift (.load m (Rect.unit (s := S256x128) ![128 * j.val, 0] S128x128.size
    (inb (by omega) (by omega))).toLoadRect (View.loadsAt_vmem n128x128))
  Prog.lift (.store m (Rect.unit (s := S256x128) ![128 * j.val, 0] S128x128.size (inb (by omega) (by omega)))
    (shapeCast S128x128 v (by decide)) Finset.univ (View.stores_vmem_bits_univ n128x128 rfl) (.inl rfl))

def neg (v : FVec F S128x128 .f32) : FVec F S128x128 .f32 := subf (broadcast S128x128 (Scalar.ofBits .f32 0x00000000#32)) v

def scaleRow (t : ℕ) (ht : t < 12) (j : Fin 2) : P nD τ sig Λ F PUnit := do
  let v : Vec F S128x128 .f32 ← Prog.lift (.load s.xs (Rect.unit (s := S256x128) ![128 * j.val, 0] S128x128.size
    (inb (by omega) (by omega))).toLoadRect (View.loadsAt_vmem n128x128))
  let _v : Vec F S1x128 .f32 ← Prog.lift (.load G.xsOut (Rect.unit (s := S24x128) ![2 * t + j.val, 0] S1x128.size
    (inb (by omega) (by omega))).toLoadRect (View.loadsAt_vmem n1x128))
  Prog.lift (.store G.xsOut (Rect.unit (s := S24x128) ![2 * t + j.val, 0] S1x128.size (inb (by omega) (by omega)))
    (extractStridedSlice S1x128 ![0, 0] (transpose S128x128 [1, 0] v (by decide)) (by decide)) Finset.univ
    (View.stores_vmem_bits_univ n1x128 rfl) (.inl rfl))

def tables (t : ℕ) (ht : t < 12) : P nD τ sig Λ F PUnit := do
  let f : Vec F S1x128 .f32 ← Prog.lift (.load G.freq (Rect.unit (s := S1x128) ![0, 0] S1x128.size (inb (by omega) (by omega))).toLoadRect
    (View.loadsAt_vmem n1x128))
  let p₀ ← ldPos G t ht 0
  let p₁ ← ldPos G t ht 1
  let a := angle f p₀ p₁
  stHalf s.cos 0 (select low (cos a) (roll (cos a)))
  stHalf s.cos 1 (select low (roll (cos a)) (cos a))
  stHalf s.sin 0 (select low (neg (sin a)) (roll (sin a)))
  stHalf s.sin 1 (select low (neg (roll (sin a))) (sin a))
  scaleRow G s t ht 0
  scaleRow G s t ht 1

end tables

/-! ## One chunk of the projection -/

section project

variable (G : Glob sig) (s : Slot sig)

def dims : DotDims S256x5120 S5120x256 S256x256 where
  lhsContracting := [1]
  rhsContracting := [0]
  lhsNonContracting := [0]
  rhsNonContracting := [1]
  lhsBatch := []
  rhsBatch := []
  wf := by decide

def acc (a : Vec F S256x5120 .fp8e4m3) (b : Vec F S5120x256 .fp8e4m3) : FVec F S256x256 .f32 :=
  matmul dims none a b (constant S256x256 .f32 0x00000000#32)

def ld256 (m : Memref sig .tc .vmem S256x128 .f32) : P nD τ sig Λ F (Vec F S256x128 .f32) :=
  Prog.lift (.load m (Rect.unit (s := S256x128) ![0, 0] S256x128.size (inb (by omega) (by omega))).toLoadRect (View.loadsAt_vmem n256x128))

def scaled (y : FVec F S256x128 .f32) (xs : Vec F S256x128 .f32) (w : Vec F S1x128 .f32) : FVec F S256x128 .f32 :=
  mulf (mulf y xs) (broadcastTo S256x128 (shapeCast S1x128 w (by decide)) (by decide))

def rotated (y : FVec F S256x128 .f32) (c s : Vec F S256x128 .f32) : FVec F S256x128 .f32 :=
  addf (mulf y c) (mulf (dynamicRotate 1 64#32 none y (by decide)) s)

def stOut (h : ℕ) (hh : h < 30) (y : FVec F S256x128 .f32) : P nD τ sig Λ F PUnit := do
  let _v : Vec F S1x256x128 .bf16 ← Prog.lift (.load s.out (Rect.unit (s := S30x256x128) ![h, 0, 0] S1x256x128.size
    (inb3 (by omega) (by omega) (by omega))).toLoadRect (View.loadsAt_vmem n1x256x128))
  Prog.lift (.store s.out (Rect.unit (s := S30x256x128) ![h, 0, 0] S1x256x128.size (inb3 (by omega) (by omega) (by omega)))
    (shapeCast S1x256x128 (truncf .bf16 y (by decide)) (by decide)) Finset.univ
    (View.stores_vmem n1x256x128 (s.hout.storeExact_slice rfl _ (.inr ⟨by decide, rfl, .inl ⟨⟨0, rfl⟩, ⟨128, rfl⟩⟩⟩)) (fun _ => rfl)) (.inl rfl))

/-- One head of the chunk, from its columns of the product. -/
def head (h : ℕ) (hh : h < 30) (y : FVec F S256x128 .f32) : P nD τ sig Λ F PUnit := do
  let xs ← ld256 s.xs
  let w : Vec F S1x128 .f32 ← Prog.lift (.load G.ws (Rect.unit (s := S30x128) ![h, 0] S1x128.size (inb (by omega) (by omega))).toLoadRect
    (View.loadsAt_vmem n1x128))
  if h < 20 then do
    let c ← ld256 s.cos
    let n ← ld256 s.sin
    stOut s h hh (rotated (scaled y xs w) c n)
  else
    stOut s h hh (scaled y xs w)

def project (n : Fin 15) : P nD τ sig Λ F PUnit := do
  let a : Vec F S256x5120 .fp8e4m3 ← Prog.lift (.load s.codes (Rect.unit (s := S256x5120) ![0, 0] S256x5120.size
    (inb (by omega) (by omega))).toLoadRect (View.loadsAt_vmem n256x5120))
  let b : Vec F S5120x256 .fp8e4m3 ← Prog.lift (.load G.wBuf (cols n).toLoadRect (View.loadsAt_vmem n5120x256))
  head G s (2 * n.val) (by omega) (extractStridedSlice S256x128 ![0, 0] (acc a b) (by decide))
  head G s (2 * n.val + 1) (by omega) (extractStridedSlice S256x128 ![0, 128] (acc a b) (by decide))

end project

/-! ## The steps -/

section steps

variable (G : Glob sig)

/-- Group `g` of the next tile. -/
def quantise (s : Slot sig) (g : Fin 8) : P nD τ sig Λ F PUnit := group s.x G.nwf s.codes s.hcodes s.xs g

/-- What follows chunk `n` of tile `t`: a group of tile `t + 1`, or its tables, or nothing. -/
def prepare (nxt : Slot sig) (t : ℕ) (ht : t + 1 < 12) (n : ℕ) : P nD τ sig Λ F PUnit :=
  if h : n < 8 then quantise G nxt ⟨n, h⟩ else if n = 8 then tables G nxt (t + 1) ht else pure ⟨⟩

def chunksFirst (cur nxt : Slot sig) : (k n : ℕ) → n + k ≤ 15 → P nD τ sig Λ F PUnit
  | 0, _, _ => pure ⟨⟩
  | k + 1, n, h => do
    waitW G ⟨n, by omega⟩
    project G cur ⟨n, by omega⟩
    prepare G nxt 0 (by omega) n
    chunksFirst cur nxt k (n + 1) (by omega)

def chunks (cur nxt : Slot sig) (t : ℕ) (ht : t + 1 < 12) : (k n : ℕ) → n + k ≤ 15 → P nD τ sig Λ F PUnit
  | 0, _, _ => pure ⟨⟩
  | k + 1, n, h => do
    project G cur ⟨n, by omega⟩
    prepare G nxt t ht n
    chunks cur nxt t ht k (n + 1) (by omega)

def chunksLast (cur : Slot sig) : (k n : ℕ) → n + k ≤ 15 → P nD τ sig Λ F PUnit
  | 0, _, _ => pure ⟨⟩
  | k + 1, n, h => do
    project G cur ⟨n, by omega⟩
    chunksLast cur k (n + 1) (by omega)

def stepFirst (cur nxt : Slot sig) : P nD τ sig Λ F PUnit := do
  waitX G nxt 1 (by omega)
  startCodes G cur 0 (by omega)
  startX G cur 2 (by omega)
  chunksFirst G cur nxt 15 0 (by omega)

/-- The transfers that a step of the loop retires and starts. -/
def stepHead (cur nxt : Slot sig) (t : ℕ) (ht : t + 2 < 12) : P nD τ sig Λ F PUnit := do
  waitX G nxt (t + 2) ht
  waitCodes G nxt t (by omega)
  startCodes G cur (t + 1) (by omega)
  startOuts G nxt t (by omega)
  if h : 0 < t then waitOut G cur (t - 1) (by omega) 0 else pure ⟨⟩
  if h : 0 < t then waitOut G cur (t - 1) (by omega) 1 else pure ⟨⟩
  if h : 0 < t then waitOut G cur (t - 1) (by omega) 2 else pure ⟨⟩
  if h : t + 3 < 12 then startX G cur (t + 3) h else pure ⟨⟩

/-- Step `t + 1`, one of the loop's. -/
def stepMid (cur nxt : Slot sig) (t : ℕ) (ht : t + 2 < 12) : P nD τ sig Λ F PUnit := do
  stepHead G cur nxt t ht
  chunks G cur nxt (t + 1) ht 15 0 (by omega)

def stepLast (cur nxt : Slot sig) : P nD τ sig Λ F PUnit := do
  startCodes G cur 11 (by omega)
  startOuts G nxt 10 (by omega)
  waitOuts G cur 9 (by omega)
  chunksLast G cur 15 0 (by omega)

def finish (a b : Slot sig) : P nD τ sig Λ F PUnit := do
  waitCodes G a 10 (by omega)
  waitCodes G b 11 (by omega)
  startOuts G b 11 (by omega)
  waitOuts G a 10 (by omega)
  waitOuts G b 11 (by omega)

def startWs : (k n : ℕ) → n + k ≤ 15 → P nD τ sig Λ F PUnit
  | 0, _, _ => pure ⟨⟩
  | k + 1, n, h => do
    startW G ⟨n, by omega⟩
    startWs k (n + 1) (by omega)

def quantises (s : Slot sig) : (k n : ℕ) → n + k ≤ 8 → P nD τ sig Λ F PUnit
  | 0, _, _ => pure ⟨⟩
  | k + 1, n, h => do
    quantise G s ⟨n, by omega⟩
    quantises s k (n + 1) (by omega)

/-- The norm's weights, widened. -/
def widen : P nD τ sig Λ F PUnit := do
  let v : Vec F S40x128 .bf16 ← Prog.lift (.load G.nw (Rect.unit (s := S40x128) ![0, 0] S40x128.size (inb (by omega) (by omega))).toLoadRect
    (View.loadsAt_vmem n40x128))
  let _v : Vec F S40x128 .f32 ← Prog.lift (.load G.nwf (Rect.unit (s := S40x128) ![0, 0] S40x128.size (inb (by omega) (by omega))).toLoadRect
    (View.loadsAt_vmem n40x128))
  Prog.lift (.store G.nwf (Rect.unit (s := S40x128) ![0, 0] S40x128.size (inb (by omega) (by omega)))
    (shapeCast S40x128 (extf .f32 (shapeCast S40x128 v (by decide)) (by decide)) (by decide)) Finset.univ
    (View.stores_vmem_bits_univ n40x128 rfl) (.inl rfl))

/-- The lane within its half. -/
def lane : IVec S8x128 32 :=
  let m : BitVec 32 := Scalar.select (Scalar.cmpi .eq 64#32 0#32) 1#32 64#32
  let l := remsi (iota .tc S8x128 32 [1] (by decide)) (broadcast S8x128 m)
  select (andi (xori (cmpi .slt l (broadcast S8x128 0#32)) (broadcastTo S8x128 (broadcast S8x128 (Scalar.cmpi .slt m 0#32)) (by decide)))
    (cmpi .ne l (broadcast S8x128 0#32))) (addi l (broadcast S8x128 m)) l

def freqs : FVec F S8x128 .f32 :=
  powf (broadcast S8x128 (Scalar.ofBits .f32 0x48F42400#32))
    (divf (subf (broadcast S8x128 (Scalar.ofBits .f32 0x00000000#32))
      (mulf (broadcast S8x128 (Scalar.ofBits .f32 0x40000000#32)) (sitofp .f32 lane)))
      (broadcast S8x128 (Scalar.ofBits .f32 0x43000000#32)))

def fillFreq : P nD τ sig Λ F PUnit := do
  let _v : Vec F S1x128 .f32 ← Prog.lift (.load G.freq (Rect.unit (s := S1x128) ![0, 0] S1x128.size (inb (by omega) (by omega))).toLoadRect
    (View.loadsAt_vmem n1x128))
  Prog.lift (.store G.freq (Rect.unit (s := S1x128) ![0, 0] S1x128.size (inb (by omega) (by omega)))
    (shapeCast S1x128 (extractStridedSlice S1x128 ![0, 0] (freqs (F := F)) (by decide)) (by decide)) Finset.univ
    (View.stores_vmem_bits_univ n1x128 rfl) (.inl rfl))

def prologue (a b : Slot sig) : P nD τ sig Λ F PUnit := do
  startX G a 0 (by omega)
  startWs G 15 0 (by omega)
  startX G b 1 (by omega)
  widen G
  fillFreq G
  waitX G a 0 (by omega)
  quantises G a 8 0 (by omega)
  tables G a 0 (by omega)

/-- One trip of the loop: two steps. -/
def pair (a b : Slot sig) (t : ℕ) (ht : t < 5) : P nD τ sig Λ F PUnit := do
  stepMid G b a (2 * t) (by omega)
  stepMid G a b (2 * t + 1) (by omega)

/-- The whole body, its loop handed in. -/
def whole (a b : Slot sig) (loop : P nD τ sig Λ F PUnit) : P nD τ sig Λ F PUnit := do
  prologue G a b
  stepFirst G a b
  loop
  stepLast G b a
  finish G a b

/-- What follows the loop, cut where the printed parts end. -/
def after₁ (b : Slot sig) : P nD τ sig Λ F PUnit := do
  startCodes G b 11 (by omega)
  pure ⟨⟩

def after₂ (a b : Slot sig) : P nD τ sig Λ F PUnit := do
  startOuts G a 10 (by omega)
  waitOuts G b 9 (by omega)
  chunksLast G b 15 0 (by omega)
  waitCodes G a 10 (by omega)
  waitCodes G b 11 (by omega)
  startOuts G b 11 (by omega)
  waitOut G a 10 (by omega) 0
  waitOut G a 10 (by omega) 1

def after₃ (a b : Slot sig) : P nD τ sig Λ F PUnit := do
  waitOut G a 10 (by omega) 2
  waitOuts G b 11 (by omega)

/-- The whole body, cut where the printed parts end. -/
def wholeCut (a b : Slot sig) (loop : P nD τ sig Λ F PUnit) : P nD τ sig Λ F PUnit := do
  prologue G a b
  stepFirst G a b
  Prog.bind (Prog.bind (Prog.bind loop fun _ => after₁ G b) fun _ => after₂ G a b) fun _ => after₃ G a b

theorem after_eq (a b : Slot sig) :
    (Prog.bind (after₁ G b) fun _ => Prog.bind (after₂ G a b) fun _ => after₃ G a b : P nD τ sig Λ F PUnit) =
      (Prog.bind (stepLast G b a) fun _ => finish G a b) := by
  sl_kernel_rfl

theorem wholeCut_eq (a b : Slot sig) (loop : P nD τ sig Λ F PUnit) : wholeCut G a b loop = whole G a b loop := by
  have h : (Prog.bind (Prog.bind (Prog.bind loop fun _ => after₁ G b) fun _ => after₂ G a b) fun _ => after₃ G a b) =
      Prog.bind loop fun _ => Prog.bind (stepLast G b a) fun _ => finish G a b := by
    refine ((Prog.bind_assoc _ _ _).trans (Prog.bind_assoc _ _ _)).trans ?_
    exact congrArg (Prog.bind loop) (funext fun _ => after_eq G a b)
  exact congrArg (fun q => Prog.bind (prologue G a b) fun _ => Prog.bind (stepFirst G a b) fun _ => q) h

end steps

end Cert.Blocks

end
end
-- ==== Proof.Triples.lean ====
module

public import proofs.«01_k».proof.Proof.Blocks
public import Idealize.ShloMosaic.Lib.Transfers
public import Idealize.ShloMosaic.Lib.Memref
public import Idealize.ShloMosaic.Lib.Pipeline.FrameBody

@[expose] public section

noncomputable section

/-! # Triples of the device's operations

What one load, store, transfer or wait does to the contents of the buffers it names. -/

namespace Cert.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {defs : Defs nD τ sig (Elt F) Λ} {𝒱 : Variants} {c : Dev nD} {α β : Type}

/-- The memref's elements hold `X`. -/
abbrev own (c : Dev nD) {sp : Space} {sh : Shape} {e : EltTy} (m : Memref sig .tc sp sh e) (X : sh.Idx → Elt F e) : sProp 𝕄 :=
  owns (c : Thread nD τ) m fullShare X

/-- The memref's elements hold something. -/
abbrev some (c : Dev nD) {sp : Space} {sh : Shape} {e : EltTy} (m : Memref sig .tc sp sh e) : sProp 𝕄 :=
  iprop(∃ X, own (F := F) c m X)

/-- The waits made so far, whatever they were. -/
def waits (c : Dev nD) : sProp 𝕄 := iprop(∃ W, owes (c : Thread nD τ) 0 W)

/-- A semaphore at zero. -/
abbrev idle (c : Dev nD) (sm : DmaSem sig) : sProp 𝕄 := semVal ((c : Thread nD τ), SemLoc.dma sm) 0

/-- A transfer in flight that credits the semaphore as a copy into `dst` does, and delivers `D`. -/
def fly (c : Dev nD) {sp : Space} {sh : Shape} {e : EltTy} (dst : Memref sig .tc sp sh e) (sm : DmaSem sig) (D : sProp 𝕄) : sProp 𝕄 :=
  Transfers.Flight countersEmb (c : Thread nD τ) (.dma sm) () dst.view.dmaCredit D

/-- From `Pre` the program runs safely to `Q`. -/
def Tri (defs : Defs nD τ sig (Elt F) Λ) (𝒱 : Variants) (c : Dev nD) (Pre : sProp 𝕄) (p : P nD τ sig Λ F α) (Q : α → sProp 𝕄) : Prop :=
  Pre ⊢ wp frame (wpE defs 𝒱 (c : Thread nD τ) none) Set.univ p Q

theorem Tri.use {Pre : sProp 𝕄} {p : P nD τ sig Λ F α} {Q : α → sProp 𝕄} {k : α → P nD τ sig Λ F β} {R : β → sProp 𝕄}
    (h : Tri defs 𝒱 c Pre p Q) :
    iprop(Pre ∗ (∀ a, Q a -∗ wp frame (wpE defs 𝒱 (c : Thread nD τ) none) Set.univ (k a) R))
      ⊢ wp frame (wpE defs 𝒱 (c : Thread nD τ) none) Set.univ (p >>= k) R := by
  rw [wp_bind]
  exact (sep_mono h .rfl).trans (wp_wand_r _ _ _)

theorem Tri.bind {Pre : sProp 𝕄} {p : P nD τ sig Λ F α} {Q : α → sProp 𝕄} {k : α → P nD τ sig Λ F β} {R : β → sProp 𝕄}
    (h : Tri defs 𝒱 c Pre p Q) (h' : ∀ a, Tri defs 𝒱 c (Q a) (k a) R) : Tri defs 𝒱 c Pre (p >>= k) R := by
  unfold Tri; rw [wp_bind]; exact h.trans (wp_mono _ _ _ h')

theorem Tri.fin {Pre : sProp 𝕄} {p : P nD τ sig Λ F α} {Q R : α → sProp 𝕄} (h : Tri defs 𝒱 c Pre p Q) :
    iprop(Pre ∗ (∀ a, Q a -∗ R a)) ⊢ wp frame (wpE defs 𝒱 (c : Thread nD τ) none) Set.univ p R :=
  (sep_mono h .rfl).trans (wp_wand_r _ _ _)

theorem Tri.conseq {Pre Pre' : sProp 𝕄} {p : P nD τ sig Λ F α} {Q Q' : α → sProp 𝕄} (h : Tri defs 𝒱 c Pre p Q)
    (h₁ : Pre' ⊢ Pre) (h₂ : ∀ a, Q a ⊢ Q' a) : Tri defs 𝒱 c Pre' p Q' :=
  (h₁.trans h).trans (wp_mono _ _ _ h₂)

theorem Tri.framed {Pre R : sProp 𝕄} {p : P nD τ sig Λ F α} {Q : α → sProp 𝕄} (h : Tri defs 𝒱 c Pre p Q) :
    Tri defs 𝒱 c iprop(Pre ∗ R) p fun a => iprop(Q a ∗ R) :=
  (sep_mono h .rfl).trans (wp_frame_r _ _ _)

theorem Tri.pure {Q : α → sProp 𝕄} (a : α) : Tri defs 𝒱 c (Q a) (Pure.pure a) Q := by
  unfold Tri
  show Q a ⊢ wp _ _ _ (.ret a) Q
  rw [wp_ret]; exact fupd_intro

/-! ## Loads and stores -/

theorem Tri.op {Pre : sProp 𝕄} {e : TpuEff nD τ sig (Elt F) Λ .tc α} {Q : α → sProp 𝕄}
    (h : Pre ⊢ iprop((∀ a, Q a -∗ wp frame (wpE defs 𝒱 (c : Thread nD τ) none) Set.univ (Prog.ret a) Q)
      -∗ wp frame (wpE defs 𝒱 (c : Thread nD τ) none) Set.univ (.op e .ret) Q)) : Tri defs 𝒱 c Pre (Prog.lift e) Q := by
  unfold Tri Prog.lift
  iintro H
  iapply h $$ H
  iintro %a H
  iapply (show Q a ⊢ wp frame (wpE defs 𝒱 (c : Thread nD τ) none) Set.univ (Prog.ret a) Q from by
    rw [wp_ret]; exact fupd_intro) $$ H

section access

variable {cs : CoreSpace} {sh : Shape} {e : EltTy}

/-- A load reads the rectangle's elements. -/
theorem tri_load (m : Memref sig .tc cs sh e) (r : Rect sh) (hl : m.view.LoadsAt r.toLoadRect) (X : sh.Idx → Elt F e) (q : PosShare TreeShare := fullShare) :
    Tri defs 𝒱 c (owns (c : Thread nD τ) m q X) (Prog.lift (.load m r.toLoadRect hl))
      fun v => iprop(⌜v = fun j => X (r.emb j)⌝ ∗ owns (c : Thread nD τ) m q X) := by
  refine Tri.op ?_
  unfold owns
  iintro ⟨%f, %hf, H⟩ HK
  iapply (wp_load_rect 𝒱 (c : Thread nD τ) none Set.univ (m := m) (r := r) (hl := hl) (k := Prog.ret) (S := m.view.set) (q := q) (f := f)
    (View.set_slice_subset _ _)) $$ H
  iintro H
  iapply HK
  isplitr
  · ipureintro; subst hf; rfl
  iexists f; isplitr; · ipureintro; exact hf
  iexact H

/-- A load of a rectangle of which the elements alone are held. -/
theorem tri_load_slice (m : Memref sig .tc cs sh e) (r : Rect sh) (hr : ∀ a, r.stride a = 1) (hl : m.view.LoadsAt r.toLoadRect)
    (X : r.shape.Idx → Elt F e) :
    Tri defs 𝒱 c (own c (m.slice r hr) X) (Prog.lift (.load m r.toLoadRect hl))
      fun v => iprop(⌜v = X⌝ ∗ own c (m.slice r hr) X) := by
  refine Tri.op ?_
  unfold own owns
  iintro ⟨%f, %hf, H⟩ HK
  iapply (wp_load_rect 𝒱 (c : Thread nD τ) none Set.univ (m := m) (r := r) (hl := hl) (k := Prog.ret) (S := (m.slice r hr).view.set) (q := fullShare) (f := f)
    (Finset.Subset.refl _)) $$ H
  iintro H
  iapply HK
  isplitr
  · ipureintro; exact hf
  iexists f; isplitr; · ipureintro; exact hf
  iexact H

/-- A store replaces the rectangle's elements. -/
theorem tri_store (m : Memref sig .tc cs sh e) (r : Rect sh) (w : r.shape.Idx → Elt F e) (hx : (m.access r).Stores Finset.univ)
    (hm : Finset.univ = Finset.univ ∨ ∀ a, r.stride a = 1) (X : sh.Idx → Elt F e) :
    Tri defs 𝒱 c (own c m X) (Prog.lift (.store m r w Finset.univ hx hm))
      fun _ => own c m (r.overlay X w) := by
  refine Tri.op ?_
  unfold own owns
  iintro ⟨%f, %hf, H⟩ HK
  iapply (wp_store 𝒱 (c : Thread nD τ) none Set.univ (m := m) (r := r) (w := w) (hx := hx) (hm := hm) (k := Prog.ret) (S := m.view.set) (f := f)
    (View.set_slice_subset _ _)) $$ H
  iintro H
  iapply HK
  iexists _; isplitr; swap; · iexact H
  ipureintro
  subst hf
  funext j
  by_cases hj : j ∈ r.set
  · obtain ⟨i, rfl⟩ : ∃ i, r.emb i = j := by
      rw [← Rect.map_emb_univ, Finset.mem_map] at hj
      obtain ⟨i, -, hi⟩ := hj; exact ⟨i, hi⟩
    rw [Rect.overlay_emb]
    exact congrFun (View.read_write_univ (v := m.access r) f w) i
  · rw [Rect.overlay_of_not_mem _ _ _ hj, View.read_apply, View.read_apply]
    congr 1
    refine View.write_of_not_mem _ _ _ ?_
    intro h
    apply hj
    replace h : m.view.emb j ∈ (m.view.slice r).set := h
    rw [View.set_slice] at h
    exact (View.mem_setOn _).mp h

end access

/-! ## Transfers -/

section transfer

variable {sp sp' sp'' : Space} {sh sh' : Shape} {e e' : EltTy}

theorem tri_start (src : Memref sig .tc sp sh e) (dst : Memref sig .tc sp' sh e) (sm : DmaSem sig)
    (hsrc : src.view.WordExact) (hdst : dst.view.WordExact)
    (hsem : DmaTarget.Typed (nD := nD) (τ := τ) (p := .tc) sp (SemLoc.dma sm) (.here dst)) (hn : 0 < sh.numel) (X : sh.Idx → Elt F e)
    (q : PosShare TreeShare := fullShare) :
    Tri defs 𝒱 c iprop(owns (c : Thread nD τ) src q X ∗ some c dst ∗ idle c sm) (Prog.lift (.enqueueDma src (.here dst) (.dma sm) hsrc hdst hsem))
      fun _ => fly c dst sm iprop(own c dst X ∗ owns (c : Thread nD τ) src q X) := by
  refine Tri.op ?_
  unfold some own owns
  iintro ⟨⟨%f, %hf, H⟩, ⟨%Y, %g, %hg, H'⟩, Hs⟩ HK
  iapply (Transfers.wp_dmaLocal countersEmb 𝒱 (c : Thread nD τ) none (src := src) (dst := dst) (sm := SemLoc.dma sm) (via := ReadAs.same)
    (hsrc := hsrc) (hdst := hdst) (hsem := hsem)
    (k := Prog.ret) (q := q) (fs := f) (fd := g) (Sd := dst.view.set) () dst.view.dmaCredit rfl (View.dmaCredit_pos _ hn)
    (Finset.Subset.refl _)) $$ [H H' Hs]
  · isplitl [H]; · iexact H
    isplitl [H']; · iexact H'
    iexact Hs
  iintro H
  iapply HK
  unfold fly
  iapply (Transfers.Flight_mono countersEmb (c : Thread nD τ) ?_) $$ H
  iintro ⟨Hd, Hs⟩
  isplitl [Hd]
  · iexists _; isplitr; swap; · iexact Hd
    ipureintro; subst hf; exact View.read_write_univ _ _
  iexists f; isplitr; · ipureintro; exact hf
  iexact Hs

theorem tri_wait (srcw : Memref sig .tc sp' sh' e') (dst : Memref sig .tc sp sh e) (sm : DmaSem sig)
    (hsrc : srcw.view.WordExact) (hdst : dst.view.WordExact) (D : sProp 𝕄) :
    Tri defs 𝒱 c iprop(fly c dst sm D ∗ waits c) (Prog.lift (.waitDma2 sm srcw dst hsrc hdst))
      fun _ => iprop(D ∗ idle c sm ∗ waits c) := by
  refine Tri.op ?_
  unfold fly waits
  iintro ⟨H, %W, HW⟩ HK
  iapply (Transfers.wp_waitLocal countersEmb 𝒱 (c : Thread nD τ) none (srcw := srcw) (dstw := dst) (sem := sm) (hsrc := hsrc) (hdst := hdst)
    (k := Prog.ret) () rfl) $$ [H HW]
  · isplitl [H]; · iexact H
    iexact HW
  iintro ⟨HD, Hs, HW⟩
  iapply HK
  isplitl [HD]; · iexact HD
  isplitl [Hs]; · iexact Hs
  iexists _; iexact HW

end transfer

end Cert.Blocks

end
end
-- ==== Proof.Values.lean ====
module

public import proofs.«01_k».proof.Proof.Triples

@[expose] public section

noncomputable section

/-! # The values the body computes

The functions below are what each piece of `Blocks` leaves in its buffer, as functions of what it
reads. -/

namespace Cert.Blocks

open Idealize.ShloMosaic Idealize.SL.Sem

variable {F : FTy → Type} [FloatOps F]

def ix2 {a b : ℕ} (r : Fin a) (l : Fin b) : (⟨2, ![a, b]⟩ : Shape).Idx
  | ⟨0, _⟩ => r
  | ⟨1, _⟩ => l

def ix3 {a b c : ℕ} (h : Fin a) (r : Fin b) (l : Fin c) : (⟨3, ![a, b, c]⟩ : Shape).Idx
  | ⟨0, _⟩ => h
  | ⟨1, _⟩ => r
  | ⟨2, _⟩ => l

theorem ix2_eq {a b : ℕ} {r : Fin a} {l : Fin b} {i : (⟨2, ![a, b]⟩ : Shape).Idx} (h₀ : r.val = (i 0).val) (h₁ : l.val = (i 1).val) :
    ix2 r l = i := by
  funext k; match k with
  | ⟨0, _⟩ => exact Fin.ext h₀
  | ⟨1, _⟩ => exact Fin.ext h₁

theorem ix3_eq {a b c : ℕ} {h : Fin a} {r : Fin b} {l : Fin c} {i : (⟨3, ![a, b, c]⟩ : Shape).Idx} (h₀ : h.val = (i 0).val)
    (h₁ : r.val = (i 1).val) (h₂ : l.val = (i 2).val) : ix3 h r l = i := by
  funext k; match k with
  | ⟨0, _⟩ => exact Fin.ext h₀
  | ⟨1, _⟩ => exact Fin.ext h₁
  | ⟨2, _⟩ => exact Fin.ext h₂

/-! ## One group of 32 rows -/

section group

variable (x : Vec F S256x5120 .bf16) (nf : Vec F S40x128 .f32) (g : Fin 8)

def gx (c : ℕ) (hc : c < 40) : Vec F S32x128 .bf16 := fun j =>
  x ((Rect.unit (s := S256x5120) ![32 * g.val, 128 * c] S32x128.size (inb (hrow g) (by omega))).emb j)

def gw (c : ℕ) (hc : c < 40) : Vec F S1x128 .f32 := fun j =>
  nf ((Rect.unit (s := S40x128) ![c, 0] S1x128.size (inb (by omega) (by omega))).emb j)

def sumSqV : (n c : ℕ) → c + n ≤ 40 → FVec F S32x128 .f32 → FVec F S32x128 .f32
  | 0, _, _, acc => acc
  | n + 1, c, h, acc =>
    sumSqV n (c + 1) (by omega) (addf acc (mulf (extf .f32 (gx x g c (by omega)) (by decide)) (extf .f32 (gx x g c (by omega)) (by decide))))

def normedV (r : FVec F S32x128 .f32) (c : ℕ) (hc : c < 40) : FVec F S32x128 .f32 :=
  mulf (mulf (extf .f32 (gx x g c hc) (by decide)) r) (broadcastTo S32x128 (gw nf c hc) (by decide))

def maxAbsV (r : FVec F S32x128 .f32) : (n c : ℕ) → c + n ≤ 40 → FVec F S32x128 .f32 → FVec F S32x128 .f32
  | 0, _, _, acc => acc
  | n + 1, c, h, acc => maxAbsV r n (c + 1) (by omega) (maximumf acc (absf (normedV x nf g r c (by omega))))

def rmsV : FVec F S32x128 .f32 := rms (sumSqV x g 40 0 (by omega) (broadcast S32x128 (Scalar.ofBits .f32 0x00000000#32)))

def eV : IVec S32x128 32 :=
  scaleExp (rowMax (maxAbsV x nf g (rmsV x g) 40 0 (by omega) (broadcast S32x128 (Scalar.ofBits .f32 0x00000000#32))))

def codeBlk (c : ℕ) (hc : c < 40) : FVec F S32x128 .fp8e4m3 :=
  clipCode (mulf (normedV x nf g (rmsV x g) c hc) (ldexpOne (subi (broadcast S32x128 0#32) (eV x nf g))))

def xsBlk : FVec F S32x128 .f32 := ldexpOne (eV x nf g)

end group

/-- A tile's codes. -/
def codeT (x : Vec F S256x5120 .bf16) (nf : Vec F S40x128 .f32) : Vec F S256x5120 .fp8e4m3 := fun i =>
  codeBlk x nf ⟨(i 0).val / 32, by have : (i 0).val < 256 := (i 0).isLt; omega⟩ ((i 1).val / 128)
    (by have : (i 1).val < 5120 := (i 1).isLt; omega)
    (ix2 ⟨(i 0).val % 32, Nat.mod_lt _ (by omega)⟩ ⟨(i 1).val % 128, Nat.mod_lt _ (by omega)⟩)

/-- A tile's scales, repeated along the lanes. -/
def xsT (x : Vec F S256x5120 .bf16) (nf : Vec F S40x128 .f32) : Vec F S256x128 .f32 := fun i =>
  xsBlk x nf ⟨(i 0).val / 32, by have : (i 0).val < 256 := (i 0).isLt; omega⟩
    (ix2 ⟨(i 0).val % 32, Nat.mod_lt _ (by omega)⟩ (i 1))

theorem codeT_emb (x : Vec F S256x5120 .bf16) (nf : Vec F S40x128 .f32) (g : Fin 8) (c : ℕ) (hc : c < 40) (j : S32x128.Idx) :
    codeT x nf ((Rect.unit (s := S256x5120) ![32 * g.val, 128 * c] S32x128.size (inb (hrow g) (by omega))).emb j) = codeBlk x nf g c hc j := by
  have h0 : (((Rect.unit (s := S256x5120) ![32 * g.val, 128 * c] S32x128.size (inb (hrow g) (by omega))).emb j) 0).val = 32 * g.val + (j 0).val := by
    simp [Rect.emb_apply]
  have h1 : (((Rect.unit (s := S256x5120) ![32 * g.val, 128 * c] S32x128.size (inb (hrow g) (by omega))).emb j) 1).val = 128 * c + (j 1).val := by
    simp [Rect.emb_apply]
  have l0 : (j 0).val < 32 := (j 0).isLt
  have l1 : (j 1).val < 128 := (j 1).isLt
  unfold codeT
  have e0 : (⟨(((Rect.unit (s := S256x5120) ![32 * g.val, 128 * c] S32x128.size (inb (hrow g) (by omega))).emb j) 0).val / 32,
    by rw [h0]; omega⟩ : Fin 8) = g := Fin.ext (by show _ / 32 = g.val; rw [h0]; omega)
  have e1 : (((Rect.unit (s := S256x5120) ![32 * g.val, 128 * c] S32x128.size (inb (hrow g) (by omega))).emb j) 1).val / 128 = c := by
    rw [h1]; omega
  have key : ∀ (g' : Fin 8) (c' : ℕ) (hc' : c' < 40) (j' : S32x128.Idx), g' = g → c' = c → j' = j →
      codeBlk x nf g' c' hc' j' = codeBlk x nf g c hc j := by
    rintro _ _ _ _ rfl rfl rfl; rfl
  refine key _ _ _ _ e0 e1 (ix2_eq ?_ ?_)
  · show _ % 32 = _; rw [h0]; omega
  · show _ % 128 = _; rw [h1]; omega

theorem xsT_emb (x : Vec F S256x5120 .bf16) (nf : Vec F S40x128 .f32) (g : Fin 8) (j : S32x128.Idx) :
    xsT x nf ((Rect.unit (s := S256x128) ![32 * g.val, 0] S32x128.size (inb (hrow g) (by omega))).emb j) = xsBlk x nf g j := by
  have h0 : (((Rect.unit (s := S256x128) ![32 * g.val, 0] S32x128.size (inb (hrow g) (by omega))).emb j) 0).val = 32 * g.val + (j 0).val := by
    simp [Rect.emb_apply]
  have h1 : (((Rect.unit (s := S256x128) ![32 * g.val, 0] S32x128.size (inb (hrow g) (by omega))).emb j) 1).val = (j 1).val := by
    simp [Rect.emb_apply]
  have l0 : (j 0).val < 32 := (j 0).isLt
  have key : ∀ (g' : Fin 8) (j' : S32x128.Idx), g' = g → j' = j → xsBlk x nf g' j' = xsBlk x nf g j := by
    rintro _ _ rfl rfl; rfl
  refine key _ _ (Fin.ext ?_) (ix2_eq ?_ ?_)
  · show _ / 32 = g.val; rw [h0]; omega
  · show _ % 32 = _; rw [h0]; omega
  · exact h1

/-! ## The rotary tables and the scales -/

def posV (p : Vec F S1x3072 .i32) (t : Fin 12) (j : Fin 2) : Vec F S1x128 .i32 := fun i =>
  p ((Rect.unit (s := S1x3072) ![0, 256 * t.val + 128 * j.val] S1x128.size (inb (by omega) (by omega))).emb i)

def angleV (f : Vec F S1x128 .f32) (p : Vec F S1x3072 .i32) (t : Fin 12) : FVec F S128x128 .f32 := angle f (posV p t 0) (posV p t 1)

def cosHalf (a : FVec F S128x128 .f32) (j : ℕ) : FVec F S128x128 .f32 :=
  if j = 0 then select low (cos a) (roll (cos a)) else select low (roll (cos a)) (cos a)

def sinHalf (a : FVec F S128x128 .f32) (j : ℕ) : FVec F S128x128 .f32 :=
  if j = 0 then select low (neg (sin a)) (roll (sin a)) else select low (neg (roll (sin a))) (sin a)

/-- Two halves of 128 rows as one tile. -/
def halves (v : ℕ → FVec F S128x128 .f32) : Vec F S256x128 .f32 := fun i =>
  v ((i 0).val / 128) (ix2 ⟨(i 0).val % 128, Nat.mod_lt _ (by omega)⟩ (i 1))

theorem halves_emb (v : ℕ → FVec F S128x128 .f32) (j : Fin 2) (k : S128x128.Idx) :
    halves v ((Rect.unit (s := S256x128) ![128 * j.val, 0] S128x128.size (inb (by omega) (by omega))).emb k) = v j.val k := by
  have h0 : (((Rect.unit (s := S256x128) ![128 * j.val, 0] S128x128.size (inb (by omega) (by omega))).emb k) 0).val = 128 * j.val + (k 0).val := by
    simp [Rect.emb_apply]
  have h1 : (((Rect.unit (s := S256x128) ![128 * j.val, 0] S128x128.size (inb (by omega) (by omega))).emb k) 1).val = (k 1).val := by
    simp [Rect.emb_apply]
  have l0 : (k 0).val < 128 := (k 0).isLt
  have key : ∀ (g' : ℕ) (j' : S128x128.Idx), g' = j.val → j' = k → v g' j' = v j.val k := by
    rintro _ _ rfl rfl; rfl
  refine key _ _ ?_ (ix2_eq ?_ ?_)
  · rw [h0]; omega
  · show _ % 128 = _; rw [h0]; omega
  · exact h1

def cosT (f : Vec F S1x128 .f32) (p : Vec F S1x3072 .i32) (t : Fin 12) : Vec F S256x128 .f32 := halves (cosHalf (angleV f p t))
def sinT (f : Vec F S1x128 .f32) (p : Vec F S1x3072 .i32) (t : Fin 12) : Vec F S256x128 .f32 := halves (sinHalf (angleV f p t))

def half (xs : Vec F S256x128 .f32) (j : Fin 2) : FVec F S128x128 .f32 := fun k =>
  xs ((Rect.unit (s := S256x128) ![128 * j.val, 0] S128x128.size (inb (by omega) (by omega))).emb k)

/-- 128 rows' scales, along the lanes. -/
def scaleRowV (xs : Vec F S256x128 .f32) (j : Fin 2) : FVec F S1x128 .f32 :=
  extractStridedSlice S1x128 ![0, 0] (transpose S128x128 [1, 0] (half xs j) (by decide)) (by decide)

/-- All the scales. -/
def xsOutV (xs : Fin 12 → Vec F S256x128 .f32) : Vec F S24x128 .f32 := fun i =>
  scaleRowV (xs ⟨(i 0).val / 2, by have : (i 0).val < 24 := (i 0).isLt; omega⟩) ⟨(i 0).val % 2, Nat.mod_lt _ (by omega)⟩ (ix2 0 (i 1))

theorem xsOutV_emb (xs : Fin 12 → Vec F S256x128 .f32) (t : ℕ) (ht : t < 12) (j : Fin 2) (k : S1x128.Idx) :
    xsOutV xs ((Rect.unit (s := S24x128) ![2 * t + j.val, 0] S1x128.size (inb (by omega) (by omega))).emb k) = scaleRowV (xs ⟨t, ht⟩) j k := by
  have l0 : (k 0).val < 1 := (k 0).isLt
  have h0 : (((Rect.unit (s := S24x128) ![2 * t + j.val, 0] S1x128.size (inb (by omega) (by omega))).emb k) 0).val = 2 * t + j.val := by
    simp [Rect.emb_apply]
    exact Nat.lt_one_iff.mp l0
  have h1 : (((Rect.unit (s := S24x128) ![2 * t + j.val, 0] S1x128.size (inb (by omega) (by omega))).emb k) 1).val = (k 1).val := by
    simp [Rect.emb_apply]
  have key : ∀ (g' : Fin 12) (i : Fin 2) (j' : S1x128.Idx), g' = ⟨t, ht⟩ → i = j → j' = k → scaleRowV (xs g') i j' = scaleRowV (xs ⟨t, ht⟩) j k := by
    rintro _ _ _ rfl rfl rfl; rfl
  refine key _ _ _ (Fin.ext ?_) (Fin.ext ?_) (ix2_eq ?_ ?_)
  · show _ / 2 = t; rw [h0]; omega
  · show _ % 2 = j.val; rw [h0]; omega
  · show 0 = (k 0).val; omega
  · exact h1

/-! ## The projection -/

def wsV (ws : Vec F S30x128 .f32) (h : ℕ) (hh : h < 30) : Vec F S1x128 .f32 := fun j =>
  ws ((Rect.unit (s := S30x128) ![h, 0] S1x128.size (inb (by omega) (by omega))).emb j)

def headV (xs c s : Vec F S256x128 .f32) (w : Vec F S1x128 .f32) (h : ℕ) (y : FVec F S256x128 .f32) : FVec F S1x256x128 .bf16 :=
  shapeCast S1x256x128 (truncf .bf16 (if h < 20 then rotated (scaled y xs w) c s else scaled y xs w) (by decide)) (by decide)

def yHalf (y : FVec F S256x256 .f32) (j : ℕ) : FVec F S256x128 .f32 :=
  if j = 0 then extractStridedSlice S256x128 ![0, 0] y (by decide) else extractStridedSlice S256x128 ![0, 128] y (by decide)

/-- Head `h` of a tile. -/
def headT (codes : Vec F S256x5120 .fp8e4m3) (xs c s : Vec F S256x128 .f32) (w : Fin 15 → Vec F S5120x256 .fp8e4m3) (ws : Vec F S30x128 .f32)
    (h : ℕ) (hh : h < 30) : FVec F S1x256x128 .bf16 :=
  headV xs c s (wsV ws h hh) h (yHalf (acc codes (w ⟨h / 2, by omega⟩)) (h % 2))

/-- All the heads of a tile. -/
def outT (codes : Vec F S256x5120 .fp8e4m3) (xs c s : Vec F S256x128 .f32) (w : Fin 15 → Vec F S5120x256 .fp8e4m3) (ws : Vec F S30x128 .f32) :
    Vec F S30x256x128 .bf16 := fun i => headT codes xs c s w ws (i 0).val (i 0).isLt (ix3 0 (i 1) (i 2))

theorem outT_emb (codes : Vec F S256x5120 .fp8e4m3) (xs c s : Vec F S256x128 .f32) (w : Fin 15 → Vec F S5120x256 .fp8e4m3) (ws : Vec F S30x128 .f32)
    (h : ℕ) (hh : h < 30) (j : S1x256x128.Idx) :
    outT codes xs c s w ws ((Rect.unit (s := S30x256x128) ![h, 0, 0] S1x256x128.size (inb3 (by omega) (by omega) (by omega))).emb j)
      = headT codes xs c s w ws h hh j := by
  have l0 : (j 0).val < 1 := (j 0).isLt
  have h0 : (((Rect.unit (s := S30x256x128) ![h, 0, 0] S1x256x128.size (inb3 (by omega) (by omega) (by omega))).emb j) 0).val = h := by
    simp [Rect.emb_apply]
    exact Nat.lt_one_iff.mp l0
  have h1 : (((Rect.unit (s := S30x256x128) ![h, 0, 0] S1x256x128.size (inb3 (by omega) (by omega) (by omega))).emb j) 1).val = (j 1).val := by
    simp [Rect.emb_apply]
  have h2 : (((Rect.unit (s := S30x256x128) ![h, 0, 0] S1x256x128.size (inb3 (by omega) (by omega) (by omega))).emb j) 2).val = (j 2).val := by
    simp [Rect.emb_apply]
  have key : ∀ (h' : ℕ) (hh' : h' < 30) (j' : S1x256x128.Idx), h' = h → j' = j → headT codes xs c s w ws h' hh' j' = headT codes xs c s w ws h hh j := by
    rintro _ _ _ rfl rfl; rfl
  refine key _ _ _ h0 (ix3_eq ?_ h1 h2)
  show 0 = (j 0).val; omega

/-! ## The values of the whole call -/

/-- The arrays the call reads. -/
structure Args (F : FTy → Type) [FloatOps F] where
  x : Vec F S3072x5120 .bf16
  nw : Vec F S40x128 .bf16
  w : Vec F S5120x3840 .fp8e4m3
  ws : Vec F S30x128 .f32
  pos : Vec F S1x3072 .i32

namespace Args

variable (A : Args F)

def nf : Vec F S40x128 .f32 := shapeCast S40x128 (extf .f32 (shapeCast S40x128 A.nw (by decide)) (by decide)) (by decide)
def xt (t : Fin 12) : Vec F S256x5120 .bf16 := fun j => A.x ((rows t.val t.isLt).emb j)
def wt (n : Fin 15) : Vec F S5120x256 .fp8e4m3 := fun j => A.w ((cols n).emb j)
def freq : Vec F S1x128 .f32 := shapeCast S1x128 (extractStridedSlice S1x128 ![0, 0] (freqs (F := F)) (by decide)) (by decide)
def codes (t : Fin 12) : Vec F S256x5120 .fp8e4m3 := codeT (A.xt t) A.nf
def xs (t : Fin 12) : Vec F S256x128 .f32 := xsT (A.xt t) A.nf
def cos (t : Fin 12) : Vec F S256x128 .f32 := cosT freq A.pos t
def sin (t : Fin 12) : Vec F S256x128 .f32 := sinT freq A.pos t
def out (t : Fin 12) : Vec F S30x256x128 .bf16 := outT (A.codes t) (A.xs t) (A.cos t) (A.sin t) A.wt A.ws
def part (t : Fin 12) (i : Fin 3) : Vec F S10x256x128 .bf16 := fun j => A.out t ((heads i).emb j)
def xsOut : Vec F S24x128 .f32 := xsOutV A.xs

end Args

end Cert.Blocks

end
end
-- ==== Proof.Pieces.lean ====
module

public import proofs.«01_k».proof.Proof.Values
public import Idealize.ShloMosaic.Lib.Pipeline.Value

@[expose] public section

noncomputable section

/-! # Triples of the body's pieces -/

namespace Cert.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {defs : Defs nD τ sig (Elt F) Λ} {𝒱 : Variants} {c : Dev nD} {α β : Type}

theorem Tri.ent {Pre : sProp 𝕄} {p : P nD τ sig Λ F α} {Q : α → sProp 𝕄} (h : Tri defs 𝒱 c Pre p Q) :
    Pre ⊢ wp frame (wpE defs 𝒱 (c : Thread nD τ) none) Set.univ p Q := h

/-- The memref holds `T` wherever `p` says so. -/
def part (c : Dev nD) {sp : Space} {sh : Shape} {e : EltTy} (m : Memref sig .tc sp sh e) (T : sh.Idx → Elt F e) (p : sh.Idx → Prop) : sProp 𝕄 :=
  iprop(∃ X, ⌜∀ i, p i → X i = T i⌝ ∗ own c m X)

section part

variable {sp : Space} {sh : Shape} {e : EltTy} (m : Memref sig .tc sp sh e) (T : sh.Idx → Elt F e)

theorem part_none {p : sh.Idx → Prop} (h : ∀ i, ¬ p i) : (some c m : sProp 𝕄) ⊢ part c m T p := by
  unfold part
  iintro ⟨%X, H⟩
  iexists X; isplitr
  · ipureintro; exact fun i hi => absurd hi (h i)
  iexact H

theorem part_all {p : sh.Idx → Prop} (h : ∀ i, p i) : (part c m T p : sProp 𝕄) ⊢ own c m T := by
  unfold part
  iintro ⟨%X, %hX, H⟩
  obtain rfl : X = T := funext fun i => hX i (h i)
  iexact H

theorem part_mono {p p' : sh.Idx → Prop} (h : ∀ i, p' i → p i) : (part c m T p : sProp 𝕄) ⊢ part c m T p' := by
  unfold part
  iintro ⟨%X, %hX, H⟩
  iexists X; isplitr
  · ipureintro; exact fun i hi => hX i (h i hi)
  iexact H

theorem own_some (X : sh.Idx → Elt F e) : (own c m X : sProp 𝕄) ⊢ some c m := by
  iintro H; iexists X; iexact H

end part

/-- A load whose value is dropped, then a store of a part of `T`. -/
theorem tri_store_part {cs : CoreSpace} {sh : Shape} {e : EltTy} (m : Memref sig .tc cs sh e) (r : Rect sh) (T : sh.Idx → Elt F e)
    (w : r.shape.Idx → Elt F e) (hl : m.view.LoadsAt r.toLoadRect) (hx : (m.access r).Stores Finset.univ)
    (hm : Finset.univ = Finset.univ ∨ ∀ a, r.stride a = 1) {p p' : sh.Idx → Prop}
    (hw : ∀ j, w j = T (r.emb j)) (hp : ∀ i, p' i → p i ∨ i ∈ r.set) :
    Tri defs 𝒱 c (part c m T p) (Prog.lift (.load m r.toLoadRect hl) >>= fun _ => Prog.lift (.store m r w Finset.univ hx hm))
      fun _ => part c m T p' := by
  unfold Tri part
  iintro ⟨%X, %hX, H⟩
  iapply (tri_load m r hl X).use
  isplitl [H]; · iexact H
  iintro %_ ⟨-, H⟩
  iapply (tri_store m r w hx hm X).fin
  isplitl [H]; · iexact H
  iintro %_ H
  iexists _; isplitr; swap; · iexact H
  ipureintro
  intro i hi
  by_cases hj : i ∈ r.set
  · obtain ⟨j, rfl⟩ : ∃ j, r.emb j = i := by
      rw [← Rect.map_emb_univ, Finset.mem_map] at hj
      obtain ⟨j, -, hi⟩ := hj; exact ⟨j, hi⟩
    rw [Rect.overlay_emb]; exact hw j
  · rw [Rect.overlay_of_not_mem _ _ _ hj]
    exact hX i ((hp i hi).resolve_right hj)

/-! ## One group of 32 rows -/

section group

variable (x : Memref sig .tc .vmem S256x5120 .bf16) (nwf : Memref sig .tc .vmem S40x128 .f32)
  (codes : Memref sig .tc .vmem S256x5120 .fp8e4m3) (hcodes : codes.IsWhole) (xs : Memref sig .tc .vmem S256x128 .f32)
  (g : Fin 8) (X : Vec F S256x5120 .bf16) (N : Vec F S40x128 .f32)

theorem tri_ldX (k : ℕ) (hk : k < 40) :
    Tri defs 𝒱 c (own c x X) (ldX x g k hk) fun v => iprop(⌜v = gx X g k hk⌝ ∗ own c x X) :=
  tri_load x _ _ X

theorem tri_ldNw (k : ℕ) (hk : k < 40) :
    Tri defs 𝒱 c (own c nwf N) (ldNw nwf k hk) fun v => iprop(⌜v = gw N k hk⌝ ∗ own c nwf N) :=
  tri_load nwf _ _ N

theorem tri_sumSq : ∀ (n k : ℕ) (h : k + n ≤ 40) (a : FVec F S32x128 .f32),
    Tri defs 𝒱 c (own c x X) (sumSq x g n k h a) fun v => iprop(⌜v = sumSqV X g n k h a⌝ ∗ own c x X)
  | 0, _, _, a => by
    refine (Tri.pure (Q := fun v => iprop(⌜v = a⌝ ∗ own c x X)) a).conseq ?_ fun _ => .rfl
    iintro H; isplitr; · ipureintro; rfl
    iexact H
  | n + 1, k, h, a => by
    unfold Tri sumSq
    iintro H
    iapply (tri_ldX x g X k _).use
    isplitl [H]; · iexact H
    iintro %v ⟨%hv, H⟩; subst hv
    iapply (tri_sumSq n (k + 1) _ _).ent $$ H

theorem tri_normed (r : FVec F S32x128 .f32) (k : ℕ) (hk : k < 40) :
    Tri defs 𝒱 c iprop(own c x X ∗ own c nwf N) (normed x nwf g r k hk)
      fun v => iprop(⌜v = normedV X N g r k hk⌝ ∗ own c x X ∗ own c nwf N) := by
  unfold Tri normed
  iintro ⟨H, H'⟩
  iapply (tri_ldX x g X k hk).use
  isplitl [H]; · iexact H
  iintro %v ⟨%hv, H⟩; subst hv
  iapply (tri_ldNw nwf N k hk).use
  isplitl [H']; · iexact H'
  iintro %v ⟨%hv, H'⟩; subst hv
  iapply (Tri.pure (Q := fun v => iprop(⌜v = normedV X N g r k hk⌝ ∗ own c x X ∗ own c nwf N)) _).ent
  isplitr; · ipureintro; rfl
  isplitl [H]; · iexact H
  iexact H'

theorem tri_maxAbs (r : FVec F S32x128 .f32) : ∀ (n k : ℕ) (h : k + n ≤ 40) (a : FVec F S32x128 .f32),
    Tri defs 𝒱 c iprop(own c x X ∗ own c nwf N) (maxAbs x nwf g r n k h a)
      fun v => iprop(⌜v = maxAbsV X N g r n k h a⌝ ∗ own c x X ∗ own c nwf N)
  | 0, _, _, a => by
    refine (Tri.pure (Q := fun v => iprop(⌜v = a⌝ ∗ own c x X ∗ own c nwf N)) a).conseq ?_ fun _ => .rfl
    iintro H; isplitr; · ipureintro; rfl
    iexact H
  | n + 1, k, h, a => by
    unfold Tri maxAbs
    iintro H
    iapply (tri_normed x nwf g X N r k _).use
    isplitl [H]; · iexact H
    iintro %v ⟨%hv, H⟩; subst hv
    iapply (tri_maxAbs r n (k + 1) _ _).ent $$ H

theorem tri_stCodes (k : ℕ) (hk : k < 40) (T : Vec F S256x5120 .fp8e4m3) (w : FVec F S32x128 .fp8e4m3) {p p' : S256x5120.Idx → Prop}
    (hw : ∀ j, w j = T ((Rect.unit (s := S256x5120) ![32 * g.val, 128 * k] S32x128.size (inb (hrow g) (by omega))).emb j))
    (hp : ∀ i, p' i → p i ∨ (32 * g.val ≤ (i 0).val ∧ (i 0).val < 32 * g.val + 32 ∧ 128 * k ≤ (i 1).val ∧ (i 1).val < 128 * k + 128)) :
    Tri defs 𝒱 c (part c codes T p) (stCodes codes hcodes g k hk w) fun _ => part c codes T p' := by
  unfold stCodes
  refine tri_store_part codes _ T _ _ _ _ (fun j => ?_) fun i hi => (hp i hi).imp_right fun h => ?_
  · rw [shapeCast_self]; exact hw j
  · rw [Rect.mem_set_unit]; intro a
    match a with
    | ⟨0, _⟩ => exact ⟨h.1, h.2.1⟩
    | ⟨1, _⟩ => exact ⟨h.2.2.1, h.2.2.2⟩

theorem tri_emit : ∀ (n k : ℕ) (h : k + n ≤ 40),
    Tri defs 𝒱 c iprop(own c x X ∗ own c nwf N
        ∗ part c codes (codeT X N) fun i => (i 0).val < 32 * g.val ∨ (i 0).val < 32 * g.val + 32 ∧ (i 1).val < 128 * k)
      (emit x nwf codes hcodes g (rmsV X g) (ldexpOne (subi (broadcast S32x128 0#32) (eV X N g))) n k h)
      fun _ => iprop(own c x X ∗ own c nwf N
        ∗ part c codes (codeT X N) fun i => (i 0).val < 32 * g.val ∨ (i 0).val < 32 * g.val + 32 ∧ (i 1).val < 128 * (k + n))
  | 0, k, h => Tri.pure (Q := fun _ => iprop(own c x X ∗ own c nwf N
        ∗ part c codes (codeT X N) fun i => (i 0).val < 32 * g.val ∨ (i 0).val < 32 * g.val + 32 ∧ (i 1).val < 128 * k)) _
  | n + 1, k, h => by
    unfold Tri emit
    iintro ⟨H, H', Hc⟩
    iapply (tri_normed x nwf g X N _ k _).use
    isplitl [H H']
    · isplitl [H]; · iexact H
      iexact H'
    iintro %v ⟨%hv, H, H'⟩; subst hv
    iapply (tri_stCodes codes hcodes g k _ (codeT X N) (codeBlk X N g k _)
      (p := fun i => (i 0).val < 32 * g.val ∨ (i 0).val < 32 * g.val + 32 ∧ (i 1).val < 128 * k)
      (p' := fun i => (i 0).val < 32 * g.val ∨ (i 0).val < 32 * g.val + 32 ∧ (i 1).val < 128 * (k + 1))
      (fun j => (codeT_emb X N g k _ j).symm) (fun i hi => by omega)).use
    isplitl [Hc]; · iexact Hc
    iintro %_ Hc
    rw [show k + (n + 1) = k + 1 + n by omega]
    iapply (tri_emit n (k + 1) _).ent
    isplitl [H]; · iexact H
    isplitl [H']; · iexact H'
    iexact Hc

theorem tri_stXs (T : Vec F S256x128 .f32) (w : FVec F S32x128 .f32) {p p' : S256x128.Idx → Prop}
    (hw : ∀ j, w j = T ((Rect.unit (s := S256x128) ![32 * g.val, 0] S32x128.size (inb (hrow g) (by omega))).emb j))
    (hp : ∀ i, p' i → p i ∨ (32 * g.val ≤ (i 0).val ∧ (i 0).val < 32 * g.val + 32)) :
    Tri defs 𝒱 c (part c xs T p) (stXs xs g w) fun _ => part c xs T p' := by
  unfold stXs
  refine tri_store_part xs _ T _ _ _ _ (fun j => ?_) fun i hi => (hp i hi).imp_right fun h => ?_
  · rw [shapeCast_self]; exact hw j
  · rw [Rect.mem_set_unit]; intro a
    have := (i 1).isLt
    match a with
    | ⟨0, _⟩ => exact ⟨h.1, h.2⟩
    | ⟨1, _⟩ => exact ⟨Nat.zero_le _, by show _ < 0 + 128; rw [Nat.zero_add]; exact this⟩

/-- One group of 32 rows quantised. -/
theorem tri_group :
    Tri defs 𝒱 c iprop(own c x X ∗ own c nwf N ∗ part c codes (codeT X N) (fun i => (i 0).val < 32 * g.val)
        ∗ part c xs (xsT X N) (fun i => (i 0).val < 32 * g.val))
      (group x nwf codes hcodes xs g)
      fun _ => iprop(own c x X ∗ own c nwf N ∗ part c codes (codeT X N) (fun i => (i 0).val < 32 * (g.val + 1))
        ∗ part c xs (xsT X N) (fun i => (i 0).val < 32 * (g.val + 1))) := by
  unfold Tri group
  iintro ⟨H, H', Hc, Hs⟩
  iapply (tri_sumSq x g X 40 0 _ _).use
  isplitl [H]; · iexact H
  iintro %v ⟨%hv, H⟩; subst hv
  iapply (tri_maxAbs x nwf g X N _ 40 0 _ _).use
  isplitl [H H']
  · isplitl [H]; · iexact H
    iexact H'
  iintro %v ⟨%hv, H, H'⟩; subst hv
  iapply (tri_stXs xs g (xsT X N) (xsBlk X N g)
    (p := fun i => (i 0).val < 32 * g.val) (p' := fun i => (i 0).val < 32 * (g.val + 1))
    (fun j => (xsT_emb X N g j).symm) (fun i hi => by omega)).use
  isplitl [Hs]; · iexact Hs
  iintro %_ Hs
  iapply (tri_emit x nwf codes hcodes g X N 40 0 _).fin
  isplitl [H H' Hc]
  · isplitl [H]; · iexact H
    isplitl [H']; · iexact H'
    iapply (part_mono codes (codeT X N) (fun i hi => by omega)) $$ Hc
  iintro %_ ⟨H, H', Hc⟩
  isplitl [H]; · iexact H
  isplitl [H']; · iexact H'
  isplitl [Hc]; swap; · iexact Hs
  iapply (part_mono codes (codeT X N) (fun i hi => by
    have : (i 1).val < 5120 := (i 1).isLt
    omega)) $$ Hc

end group

end Cert.Blocks

end
end
-- ==== Proof.Chunks.lean ====
module

public import proofs.«01_k».proof.Proof.Pieces

@[expose] public section

noncomputable section

/-! # Triples of the tables, the projection and the prologue's stores -/

namespace Cert.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {defs : Defs nD τ sig (Elt F) Λ} {𝒱 : Variants} {c : Dev nD} {α β : Type}

theorem emb_full {a b : ℕ} (h : ∀ i, (![0, 0] : Fin 2 → ℕ) i + (⟨2, ![a, b]⟩ : Shape).size i ≤ (⟨2, ![a, b]⟩ : Shape).size i)
    (j : (⟨2, ![a, b]⟩ : Shape).Idx) :
    (Rect.unit (s := ⟨2, ![a, b]⟩) ![0, 0] (⟨2, ![a, b]⟩ : Shape).size h).emb j = j := by
  funext k; match k with
  | ⟨0, _⟩ => exact Fin.ext (by simp [Rect.emb_apply])
  | ⟨1, _⟩ => exact Fin.ext (by simp [Rect.emb_apply])

theorem mem_full {a b : ℕ} (h : ∀ i, (![0, 0] : Fin 2 → ℕ) i + (⟨2, ![a, b]⟩ : Shape).size i ≤ (⟨2, ![a, b]⟩ : Shape).size i)
    (i : (⟨2, ![a, b]⟩ : Shape).Idx) : i ∈ (Rect.unit (s := ⟨2, ![a, b]⟩) ![0, 0] (⟨2, ![a, b]⟩ : Shape).size h).set := by
  rw [Rect.mem_set_unit]; intro k
  match k with
  | ⟨0, _⟩ => exact ⟨Nat.zero_le _, by show _ < 0 + a; rw [Nat.zero_add]; exact (i 0).isLt⟩
  | ⟨1, _⟩ => exact ⟨Nat.zero_le _, by show _ < 0 + b; rw [Nat.zero_add]; exact (i 1).isLt⟩

/-- A load of all of a rank-2 buffer. -/
theorem tri_load_full {cs : CoreSpace} {a b : ℕ} {e : EltTy} (m : Memref sig .tc cs (⟨2, ![a, b]⟩ : Shape) e)
    (h : ∀ i, (![0, 0] : Fin 2 → ℕ) i + (⟨2, ![a, b]⟩ : Shape).size i ≤ (⟨2, ![a, b]⟩ : Shape).size i)
    (hl : m.view.LoadsAt (Rect.unit (s := ⟨2, ![a, b]⟩) ![0, 0] (⟨2, ![a, b]⟩ : Shape).size h).toLoadRect) (X : (⟨2, ![a, b]⟩ : Shape).Idx → Elt F e)
    (q : PosShare TreeShare := fullShare) :
    Tri defs 𝒱 c (owns (c : Thread nD τ) m q X) (Prog.lift (.load m (Rect.unit (s := ⟨2, ![a, b]⟩) ![0, 0] (⟨2, ![a, b]⟩ : Shape).size h).toLoadRect hl))
      fun v => iprop(⌜v = X⌝ ∗ owns (c : Thread nD τ) m q X) := by
  refine (tri_load m _ hl X q).conseq .rfl fun v => ?_
  iintro ⟨%hv, H⟩
  isplitr
  · ipureintro; rw [hv]; funext j; rw [emb_full]
  iexact H

section tables

variable (G : Glob sig) (s : Slot sig)

theorem tri_ldPos (p : Vec F S1x3072 .i32) (t : ℕ) (ht : t < 12) (j : Fin 2) :
    Tri defs 𝒱 c (own c G.pos p) (ldPos G t ht j) fun v => iprop(⌜v = posV p ⟨t, ht⟩ j⌝ ∗ own c G.pos p) :=
  tri_load G.pos _ _ p

theorem tri_stHalf (m : Memref sig .tc .vmem S256x128 .f32) (j : Fin 2) (v : ℕ → FVec F S128x128 .f32) (w : FVec F S128x128 .f32) (hw : w = v j.val) :
    Tri defs 𝒱 c (part c m (halves v) fun i => (i 0).val < 128 * j.val) (stHalf m j w)
      fun _ => part c m (halves v) fun i => (i 0).val < 128 * (j.val + 1) := by
  unfold stHalf
  refine tri_store_part m _ (halves v) _ _ _ _ (fun k => ?_) fun i hi => ?_
  · rw [shapeCast_self, halves_emb, hw]
  · by_cases h : (i 0).val < 128 * j.val
    · exact .inl h
    · refine .inr ?_
      rw [Rect.mem_set_unit]; intro a
      have := (i 1).isLt
      match a with
      | ⟨0, _⟩ => exact ⟨by show 128 * j.val ≤ (i 0).val; omega, by show (i 0).val < 128 * j.val + 128; omega⟩
      | ⟨1, _⟩ => exact ⟨Nat.zero_le _, by show _ < 0 + 128; rw [Nat.zero_add]; exact this⟩

theorem tri_scaleRow (A : Args F) (t : ℕ) (ht : t < 12) (j : Fin 2) :
    Tri defs 𝒱 c iprop(own c s.xs (A.xs ⟨t, ht⟩) ∗ part c G.xsOut A.xsOut fun i => (i 0).val < 2 * t + j.val) (scaleRow G s t ht j)
      fun _ => iprop(own c s.xs (A.xs ⟨t, ht⟩) ∗ part c G.xsOut A.xsOut fun i => (i 0).val < 2 * t + j.val + 1) := by
  unfold Tri scaleRow
  iintro ⟨H, Ho⟩
  iapply (tri_load s.xs _ _ _).use
  isplitl [H]; · iexact H
  iintro %v ⟨%hv, H⟩; subst hv
  iapply (tri_store_part G.xsOut (Rect.unit (s := S24x128) ![2 * t + j.val, 0] S1x128.size (inb (by omega) (by omega))) A.xsOut
    (scaleRowV (A.xs ⟨t, ht⟩) j) _ _ _ (p := fun i => (i 0).val < 2 * t + j.val)
    (p' := fun i => (i 0).val < 2 * t + j.val + 1)
    (fun k => (xsOutV_emb A.xs t ht j k).symm) (fun i hi => ?_)).fin
  · by_cases h : (i 0).val < 2 * t + j.val
    · exact .inl h
    · refine .inr ?_
      rw [Rect.mem_set_unit]; intro a
      have := (i 1).isLt
      match a with
      | ⟨0, _⟩ => exact ⟨by show 2 * t + j.val ≤ (i 0).val; omega, by show (i 0).val < 2 * t + j.val + 1; omega⟩
      | ⟨1, _⟩ => exact ⟨Nat.zero_le _, by show _ < 0 + 128; rw [Nat.zero_add]; exact this⟩
  isplitl [Ho]; · iexact Ho
  iintro %_ Ho
  isplitl [H]; · iexact H
  iexact Ho

/-- The tables of a tile, and its scales written out. -/
theorem tri_tables (A : Args F) (t : ℕ) (ht : t < 12) :
    Tri defs 𝒱 c iprop(own c G.freq (Args.freq (F := F)) ∗ own c G.pos A.pos ∗ some c s.cos ∗ some c s.sin ∗ own c s.xs (A.xs ⟨t, ht⟩)
        ∗ part c G.xsOut A.xsOut fun i => (i 0).val < 2 * t)
      (tables G s t ht)
      fun _ => iprop(own c G.freq (Args.freq (F := F)) ∗ own c G.pos A.pos ∗ own c s.cos (A.cos ⟨t, ht⟩) ∗ own c s.sin (A.sin ⟨t, ht⟩)
        ∗ own c s.xs (A.xs ⟨t, ht⟩) ∗ part c G.xsOut A.xsOut fun i => (i 0).val < 2 * (t + 1)) := by
  unfold Tri tables
  iintro ⟨Hf, Hp, Hc, Hs, Hx, Ho⟩
  iapply (tri_load_full G.freq _ _ _).use
  isplitl [Hf]; · iexact Hf
  iintro %v ⟨%hv, Hf⟩; subst hv
  iapply (tri_ldPos G A.pos t ht 0).use
  isplitl [Hp]; · iexact Hp
  iintro %v ⟨%hv, Hp⟩; subst hv
  iapply (tri_ldPos G A.pos t ht 1).use
  isplitl [Hp]; · iexact Hp
  iintro %v ⟨%hv, Hp⟩; subst hv
  iapply (tri_stHalf s.cos 0 (cosHalf (angleV Args.freq A.pos ⟨t, ht⟩)) _ rfl).use
  isplitl [Hc]; · iapply (part_none s.cos _ (fun i h => absurd h (Nat.not_lt_zero _))) $$ Hc
  iintro %_ Hc
  iapply (tri_stHalf s.cos 1 (cosHalf (angleV Args.freq A.pos ⟨t, ht⟩)) _ rfl).use
  isplitl [Hc]; · iexact Hc
  iintro %_ Hc
  iapply (tri_stHalf s.sin 0 (sinHalf (angleV Args.freq A.pos ⟨t, ht⟩)) _ rfl).use
  isplitl [Hs]; · iapply (part_none s.sin _ (fun i h => absurd h (Nat.not_lt_zero _))) $$ Hs
  iintro %_ Hs
  iapply (tri_stHalf s.sin 1 (sinHalf (angleV Args.freq A.pos ⟨t, ht⟩)) _ rfl).use
  isplitl [Hs]; · iexact Hs
  iintro %_ Hs
  iapply (tri_scaleRow G s A t ht 0).use
  isplitl [Hx Ho]
  · isplitl [Hx]; · iexact Hx
    iexact Ho
  iintro %_ ⟨Hx, Ho⟩
  iapply (tri_scaleRow G s A t ht 1).fin
  isplitl [Hx Ho]
  · isplitl [Hx]; · iexact Hx
    iexact Ho
  iintro %_ ⟨Hx, Ho⟩
  isplitl [Hf]; · iexact Hf
  isplitl [Hp]; · iexact Hp
  isplitl [Hc]; · iapply (part_all s.cos _ (p := fun i => (i 0).val < 128 * ((1 : Fin 2).val + 1)) (fun i => (i 0).isLt)) $$ Hc
  isplitl [Hs]; · iapply (part_all s.sin _ (p := fun i => (i 0).val < 128 * ((1 : Fin 2).val + 1)) (fun i => (i 0).isLt)) $$ Hs
  isplitl [Hx]; · iexact Hx
  iexact Ho

end tables

/-! ## One chunk of the projection -/

section project

variable (G : Glob sig) (s : Slot sig)

theorem tri_ld256 (m : Memref sig .tc .vmem S256x128 .f32) (X : Vec F S256x128 .f32) :
    Tri defs 𝒱 c (own c m X) (ld256 m) fun v => iprop(⌜v = X⌝ ∗ own c m X) :=
  tri_load_full m _ _ X

theorem tri_stOut (T : Vec F S30x256x128 .bf16) (h : ℕ) (hh : h < 30) (y : FVec F S256x128 .f32)
    (hw : ∀ j, shapeCast S1x256x128 (truncf .bf16 y (by decide)) (by decide) j
      = T ((Rect.unit (s := S30x256x128) ![h, 0, 0] S1x256x128.size (inb3 (by omega) (by omega) (by omega))).emb j)) :
    Tri defs 𝒱 c (part c s.out T fun i => (i 0).val < h) (stOut s h hh y) fun _ => part c s.out T fun i => (i 0).val < h + 1 := by
  unfold stOut
  refine tri_store_part s.out _ T _ _ _ _ hw fun i hi => ?_
  by_cases hj : (i 0).val < h
  · exact .inl hj
  · refine .inr ?_
    rw [Rect.mem_set_unit]; intro a
    have h1 := (i 1).isLt
    have h2 := (i 2).isLt
    match a with
    | ⟨0, _⟩ => exact ⟨by show h ≤ (i 0).val; omega, hi⟩
    | ⟨1, _⟩ => exact ⟨Nat.zero_le _, by show _ < 0 + 256; rw [Nat.zero_add]; exact h1⟩
    | ⟨2, _⟩ => exact ⟨Nat.zero_le _, by show _ < 0 + 128; rw [Nat.zero_add]; exact h2⟩

/-- What the chunks of tile `t` read in its slot: the codes by half a share, the rest of the share being with their copy out. -/
def ready (c : Dev nD) (s : Slot sig) (A : Args F) (t : Fin 12) : sProp 𝕄 :=
  iprop(owns (c : Thread nD τ) s.codes fullShare.right (A.codes t) ∗ own c s.xs (A.xs t) ∗ own c s.cos (A.cos t) ∗ own c s.sin (A.sin t))

theorem tri_head (A : Args F) (t : Fin 12) (h : ℕ) (hh : h < 30) (y : FVec F S256x128 .f32)
    (hy : y = yHalf (acc (A.codes t) (A.wt ⟨h / 2, by omega⟩)) (h % 2)) :
    Tri defs 𝒱 c iprop((own c s.xs (A.xs t) ∗ own c s.cos (A.cos t) ∗ own c s.sin (A.sin t)) ∗ own c G.ws A.ws
        ∗ part c s.out (A.out t) fun i => (i 0).val < h)
      (head G s h hh y)
      fun _ => iprop((own c s.xs (A.xs t) ∗ own c s.cos (A.cos t) ∗ own c s.sin (A.sin t)) ∗ own c G.ws A.ws
        ∗ part c s.out (A.out t) fun i => (i 0).val < h + 1) := by
  unfold Tri head
  iintro ⟨⟨Hx, Hc, Hn⟩, Hw, Ho⟩
  iapply (tri_ld256 s.xs _).use
  isplitl [Hx]; · iexact Hx
  iintro %v ⟨%hv, Hx⟩; subst hv
  iapply (tri_load G.ws _ _ _).use
  isplitl [Hw]; · iexact Hw
  iintro %v ⟨%hv, Hw⟩
  replace hv : v = wsV A.ws h hh := hv
  subst hv
  have key : ∀ (z : FVec F S256x128 .f32),
      z = (if h < 20 then rotated (scaled y (A.xs t) (wsV A.ws h hh)) (A.cos t) (A.sin t) else scaled y (A.xs t) (wsV A.ws h hh)) →
      ∀ j, shapeCast S1x256x128 (truncf .bf16 z (by decide)) (by decide) j
        = A.out t ((Rect.unit (s := S30x256x128) ![h, 0, 0] S1x256x128.size (inb3 (by omega) (by omega) (by omega))).emb j) := by
    rintro z rfl j
    refine Eq.trans ?_ (outT_emb (A.codes t) (A.xs t) (A.cos t) (A.sin t) A.wt A.ws h hh j).symm
    subst hy; rfl
  by_cases h20 : h < 20
  · rw [if_pos h20]
    iapply (tri_ld256 s.cos _).use
    isplitl [Hc]; · iexact Hc
    iintro %v ⟨%hv, Hc⟩; subst hv
    iapply (tri_ld256 s.sin _).use
    isplitl [Hn]; · iexact Hn
    iintro %v ⟨%hv, Hn⟩; subst hv
    iapply (tri_stOut s (A.out t) h hh _ (key _ (by rw [if_pos h20]))).fin
    isplitl [Ho]; · iexact Ho
    iintro %_ Ho
    isplitl [Hx Hc Hn]
    · isplitl [Hx]; · iexact Hx
      isplitl [Hc]; · iexact Hc
      iexact Hn
    isplitl [Hw]; · iexact Hw
    iexact Ho
  · rw [if_neg h20]
    iapply (tri_stOut s (A.out t) h hh _ (key _ (by rw [if_neg h20]))).fin
    isplitl [Ho]; · iexact Ho
    iintro %_ Ho
    isplitl [Hx Hc Hn]
    · isplitl [Hx]; · iexact Hx
      isplitl [Hc]; · iexact Hc
      iexact Hn
    isplitl [Hw]; · iexact Hw
    iexact Ho

/-- Chunk `n` of the weights, in their buffer. -/
abbrev wcols (G : Glob sig) (n : Fin 15) : Memref sig .tc .vmem S5120x256 .fp8e4m3 := G.wBuf.slice (cols n) (fun _ => rfl)

theorem tri_project (A : Args F) (t : Fin 12) (n : Fin 15) :
    Tri defs 𝒱 c iprop(ready c s A t ∗ own c G.ws A.ws ∗ own c (wcols G n) (A.wt n) ∗ part c s.out (A.out t) fun i => (i 0).val < 2 * n.val)
      (project G s n)
      fun _ => iprop(ready c s A t ∗ own c G.ws A.ws ∗ own c (wcols G n) (A.wt n) ∗ part c s.out (A.out t) fun i => (i 0).val < 2 * (n.val + 1)) := by
  unfold Tri project ready
  iintro ⟨⟨Hq, Hr⟩, Hw, Hb, Ho⟩
  iapply (tri_load_full s.codes _ _ _ _).use
  isplitl [Hq]; · iexact Hq
  iintro %v ⟨%hv, Hq⟩; subst hv
  iapply (tri_load_slice G.wBuf (cols n) (fun _ => rfl) _ _).use
  isplitl [Hb]; · iexact Hb
  iintro %v ⟨%hv, Hb⟩
  replace hv : v = A.wt n := hv
  subst hv
  have e (m : ℕ) (hm : m / 2 = n.val) : (⟨m / 2, hm ▸ n.isLt⟩ : Fin 15) = n := Fin.ext hm
  iapply (tri_head G s A t (2 * n.val) _ _ (by
    rw [show (2 * n.val) % 2 = 0 by omega, e (2 * n.val) (by omega)]; rfl)).use
  isplitl [Hr Hw Ho]
  · isplitl [Hr]; · iexact Hr
    isplitl [Hw]; · iexact Hw
    iexact Ho
  iintro %_ ⟨Hr, Hw, Ho⟩
  iapply (tri_head G s A t (2 * n.val + 1) _ _ (by
    rw [show (2 * n.val + 1) % 2 = 1 by omega, e (2 * n.val + 1) (by omega)]; rfl)).fin
  isplitl [Hr Hw Ho]
  · isplitl [Hr]; · iexact Hr
    isplitl [Hw]; · iexact Hw
    iexact Ho
  iintro %_ ⟨Hr, Hw, Ho⟩
  isplitl [Hq Hr]
  · isplitl [Hq]; · iexact Hq
    iexact Hr
  isplitl [Hw]; · iexact Hw
  isplitl [Hb]; · iexact Hb
  iexact Ho

theorem tri_widen (A : Args F) :
    Tri defs 𝒱 c iprop(own c G.nw A.nw ∗ some c G.nwf) (widen G) fun _ => iprop(own c G.nw A.nw ∗ own c G.nwf A.nf) := by
  unfold Tri widen
  iintro ⟨H, H'⟩
  iapply (tri_load_full G.nw _ _ _).use
  isplitl [H]; · iexact H
  iintro %v ⟨%hv, H⟩; subst hv
  iapply (tri_store_part G.nwf (Rect.unit (s := S40x128) ![0, 0] S40x128.size (inb (by omega) (by omega))) A.nf _ _ _ _
    (p := fun _ => False) (p' := fun _ => True) (fun j => by rw [emb_full]; rfl) (fun i _ => .inr (mem_full _ i))).fin
  isplitl [H']; · iapply (part_none G.nwf _ (fun _ h => h)) $$ H'
  iintro %_ H'
  isplitl [H]; · iexact H
  iapply (part_all G.nwf _ (fun _ => trivial)) $$ H'

theorem tri_fillFreq :
    Tri defs 𝒱 c (some (F := F) c G.freq) (fillFreq G) fun _ => own c G.freq (Args.freq (F := F)) := by
  unfold Tri fillFreq
  iintro H
  iapply (tri_store_part G.freq (Rect.unit (s := S1x128) ![0, 0] S1x128.size (inb (by omega) (by omega))) (Args.freq (F := F)) _ _ _ _
    (p := fun _ => False) (p' := fun _ => True) (fun j => by rw [emb_full]; rfl) (fun i _ => .inr (mem_full _ i))).fin
  isplitl [H]; · iapply (part_none G.freq _ (fun _ h => h)) $$ H
  iintro %_ H
  iapply (part_all G.freq _ (fun _ => trivial)) $$ H

end project

end Cert.Blocks

end
end
-- ==== Proof.Moves.lean ====
module

public import proofs.«01_k».proof.Proof.Chunks

@[expose] public section

noncomputable section

/-! # The transfers' triples, and the pieces of a buffer that they move -/

namespace Cert.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {defs : Defs nD τ sig (Elt F) Λ} {𝒱 : Variants} {c : Dev nD} {α β : Type}

/-! ## A family of resources, from an index on and up to an index -/

section family

variable {M : Type} [URA M] {n : ℕ} (R : Fin n → sProp M)

def rest (k : ℕ) : sProp M := bigSep (Finset.univ.filter fun i : Fin n => k ≤ i.val) R
def upto (k : ℕ) : sProp M := bigSep (Finset.univ.filter fun i : Fin n => i.val < k) R

theorem rest_take (k : ℕ) (h : k < n) : rest R k ⊢ iprop(R ⟨k, h⟩ ∗ rest R (k + 1)) := by
  unfold rest
  have : (Finset.univ.filter fun i : Fin n => k ≤ i.val) = insert ⟨k, h⟩ (Finset.univ.filter fun i : Fin n => k + 1 ≤ i.val) := by
    ext i; simp only [Finset.mem_filter, Finset.mem_univ, true_and, Finset.mem_insert, Fin.ext_iff]; omega
  rw [this, bigSep_insert (by simp)]
  exact .rfl

theorem upto_put (k : ℕ) (h : k < n) : iprop(R ⟨k, h⟩ ∗ upto R k) ⊢ upto R (k + 1) := by
  unfold upto
  have : (Finset.univ.filter fun i : Fin n => i.val < k + 1) = insert ⟨k, h⟩ (Finset.univ.filter fun i : Fin n => i.val < k) := by
    ext i; simp only [Finset.mem_filter, Finset.mem_univ, true_and, Finset.mem_insert, Fin.ext_iff]; omega
  rw [this, bigSep_insert (by simp)]
  exact .rfl

theorem rest_zero : rest R 0 = bigSep Finset.univ R := by
  unfold rest; congr 1; ext i; simp

theorem upto_all : upto R n = bigSep Finset.univ R := by
  unfold upto; congr 1; ext i; simp

theorem upto_zero : iprop(emp) ⊢ upto R 0 := by
  unfold upto
  rw [show (Finset.univ.filter fun i : Fin n => i.val < 0) = ∅ by ext i; simp, bigSep_empty]
  exact .rfl

theorem rest_none (k : ℕ) (h : n ≤ k) : iprop(emp) ⊢ rest R k := by
  unfold rest
  rw [show (Finset.univ.filter fun i : Fin n => k ≤ i.val) = ∅ by ext i; simp; omega, bigSep_empty]
  exact .rfl

theorem upto_elem (i : Fin n) : upto R n ⊢ iprop(R i ∗ (R i -∗ upto R n)) := by
  rw [upto_all, show bigSep Finset.univ R = iprop(R i ∗ bigSep (Finset.univ.erase i) R) from bigSep_erase (Finset.mem_univ i)]
  iintro ⟨H, H'⟩
  isplitl [H]; · iexact H
  iintro H
  isplitl [H]; · iexact H
  iexact H'

end family

/-! ## The pieces of the arrays -/

section pieces

theorem rows_disjoint (t t' : Fin 12) (h : t ≠ t') : Disjoint (rows t.val t.isLt).set (rows t'.val t'.isLt).set := by
  refine Finset.disjoint_left.mpr fun i hi hi' => h (Fin.ext ?_)
  rw [Rect.mem_set_unit] at hi hi'
  have a : 256 * t.val ≤ (i 0).val ∧ (i 0).val < 256 * t.val + 256 := hi 0
  have b : 256 * t'.val ≤ (i 0).val ∧ (i 0).val < 256 * t'.val + 256 := hi' 0
  omega

theorem mem_rows (t : ℕ) (ht : t < 12) (i : S3072x5120.Idx) (h : (i 0).val / 256 = t) : i ∈ (rows t ht).set := by
  rw [Rect.mem_set_unit]; intro a
  have h1 := (i 1).isLt
  match a with
  | ⟨0, _⟩ => exact ⟨by show 256 * t ≤ (i 0).val; omega, by show (i 0).val < 256 * t + 256; omega⟩
  | ⟨1, _⟩ => exact ⟨Nat.zero_le _, by show _ < 0 + 5120; rw [Nat.zero_add]; exact h1⟩

theorem rows_cover : (Finset.univ : Finset (Fin 12)).biUnion (fun t => (rows t.val t.isLt).set) = Finset.univ := by
  refine Finset.eq_univ_iff_forall.mpr fun i => Finset.mem_biUnion.mpr ?_
  have : (i 0).val < 3072 := (i 0).isLt
  exact ⟨⟨(i 0).val / 256, by omega⟩, Finset.mem_univ _, mem_rows _ _ i rfl⟩

theorem orows_disjoint (t t' : Fin 12) (h : t ≠ t') : Disjoint (orows t.val t.isLt).set (orows t'.val t'.isLt).set := by
  refine Finset.disjoint_left.mpr fun i hi hi' => h (Fin.ext ?_)
  rw [Rect.mem_set_unit] at hi hi'
  have a : 256 * t.val ≤ (i 1).val ∧ (i 1).val < 256 * t.val + 256 := hi 1
  have b : 256 * t'.val ≤ (i 1).val ∧ (i 1).val < 256 * t'.val + 256 := hi' 1
  omega

theorem mem_orows (t : ℕ) (ht : t < 12) (i : S10x3072x128.Idx) (h : (i 1).val / 256 = t) : i ∈ (orows t ht).set := by
  rw [Rect.mem_set_unit]; intro a
  have h0 := (i 0).isLt
  have h2 := (i 2).isLt
  match a with
  | ⟨0, _⟩ => exact ⟨Nat.zero_le _, by show _ < 0 + 10; rw [Nat.zero_add]; exact h0⟩
  | ⟨1, _⟩ => exact ⟨by show 256 * t ≤ (i 1).val; omega, by show (i 1).val < 256 * t + 256; omega⟩
  | ⟨2, _⟩ => exact ⟨Nat.zero_le _, by show _ < 0 + 128; rw [Nat.zero_add]; exact h2⟩

theorem orows_cover : (Finset.univ : Finset (Fin 12)).biUnion (fun t => (orows t.val t.isLt).set) = Finset.univ := by
  refine Finset.eq_univ_iff_forall.mpr fun i => Finset.mem_biUnion.mpr ?_
  have : (i 1).val < 3072 := (i 1).isLt
  exact ⟨⟨(i 1).val / 256, by omega⟩, Finset.mem_univ _, mem_orows _ _ i rfl⟩

theorem cols_disjoint (n n' : Fin 15) (h : n ≠ n') : Disjoint (cols n).set (cols n').set := by
  refine Finset.disjoint_left.mpr fun i hi hi' => h (Fin.ext ?_)
  rw [Rect.mem_set_unit] at hi hi'
  have a : 256 * n.val ≤ (i 1).val ∧ (i 1).val < 256 * n.val + 256 := hi 1
  have b : 256 * n'.val ≤ (i 1).val ∧ (i 1).val < 256 * n'.val + 256 := hi' 1
  omega

theorem cols_cover : (Finset.univ : Finset (Fin 15)).biUnion (fun n => (cols n).set) = Finset.univ := by
  refine Finset.eq_univ_iff_forall.mpr fun i => Finset.mem_biUnion.mpr ?_
  have h1 : (i 1).val < 3840 := (i 1).isLt
  have h0 := (i 0).isLt
  refine ⟨⟨(i 1).val / 256, by omega⟩, Finset.mem_univ _, ?_⟩
  rw [Rect.mem_set_unit]; intro a
  match a with
  | ⟨0, _⟩ => exact ⟨Nat.zero_le _, by show _ < 0 + 5120; rw [Nat.zero_add]; exact h0⟩
  | ⟨1, _⟩ => exact ⟨by show 256 * ((i 1).val / 256) ≤ (i 1).val; omega, by show (i 1).val < 256 * ((i 1).val / 256) + 256; omega⟩

theorem heads_disjoint (n n' : Fin 3) (h : n ≠ n') : Disjoint (heads n).set (heads n').set := by
  refine Finset.disjoint_left.mpr fun i hi hi' => h (Fin.ext ?_)
  rw [Rect.mem_set_unit] at hi hi'
  have a : 10 * n.val ≤ (i 0).val ∧ (i 0).val < 10 * n.val + 10 := hi 0
  have b : 10 * n'.val ≤ (i 0).val ∧ (i 0).val < 10 * n'.val + 10 := hi' 0
  omega

theorem heads_cover : (Finset.univ : Finset (Fin 3)).biUnion (fun n => (heads n).set) = Finset.univ := by
  refine Finset.eq_univ_iff_forall.mpr fun i => Finset.mem_biUnion.mpr ?_
  have h0 : (i 0).val < 30 := (i 0).isLt
  have h1 := (i 1).isLt
  have h2 := (i 2).isLt
  refine ⟨⟨(i 0).val / 10, by omega⟩, Finset.mem_univ _, ?_⟩
  rw [Rect.mem_set_unit]; intro a
  match a with
  | ⟨0, _⟩ => exact ⟨by show 10 * ((i 0).val / 10) ≤ (i 0).val; omega, by show (i 0).val < 10 * ((i 0).val / 10) + 10; omega⟩
  | ⟨1, _⟩ => exact ⟨Nat.zero_le _, by show _ < 0 + 256; rw [Nat.zero_add]; exact h1⟩
  | ⟨2, _⟩ => exact ⟨Nat.zero_le _, by show _ < 0 + 128; rw [Nat.zero_add]; exact h2⟩

end pieces

/-! ## The transfers -/

section transfers

variable (c : Dev nD) (G : Glob sig) (s : Slot sig) (A : Args F)

abbrev xrow (t : Fin 12) : Memref sig .tc .hbm S256x5120 .bf16 := G.x.slice (rows t.val t.isLt) (fun _ => rfl)
abbrev crow (t : Fin 12) : Memref sig .tc .hbm S256x5120 .fp8e4m3 := G.codes.slice (rows t.val t.isLt) (fun _ => rfl)
abbrev qrow (i : Fin 3) (t : Fin 12) : Memref sig .tc .hbm S10x256x128 .bf16 := (G.qkv i).slice (orows t.val t.isLt) (fun _ => rfl)
abbrev wcol (n : Fin 15) : Memref sig .tc .hbm S5120x256 .fp8e4m3 := G.w.slice (cols n) (fun _ => rfl)
abbrev ohead (i : Fin 3) : Memref sig .tc .vmem S10x256x128 .bf16 := s.out.slice (heads i) (fun _ => rfl)

/-- A tile of the activations, in their array. -/
def xIn (t : Fin 12) : sProp 𝕄 := own c (xrow G t) (A.xt t)
/-- A tile of the codes, in their array, before and after it is written. -/
def cAny (t : Fin 12) : sProp 𝕄 := some (F := F) c (crow G t)
def cOut (t : Fin 12) : sProp 𝕄 := own c (crow G t) (A.codes t)
/-- A tile of result `i`, in its array, before and after it is written. -/
def qAny (i : Fin 3) (t : Fin 12) : sProp 𝕄 := some (F := F) c (qrow G i t)
def qOut (i : Fin 3) (t : Fin 12) : sProp 𝕄 := own c (qrow G i t) (A.part t i)
/-- A chunk of the weights, in their array. -/
def wIn (n : Fin 15) : sProp 𝕄 := own c (wcol G n) (A.wt n)
/-- A chunk of the weights' buffer, before and after it is filled. -/
def wAny (n : Fin 15) : sProp 𝕄 := some (F := F) c (wcols G n)
def wHere (n : Fin 15) : sProp 𝕄 := own c (wcols G n) (A.wt n)
def wIdle (n : Fin 15) : sProp 𝕄 := idle (F := F) c (G.wsem n)

def flyX (t : Fin 12) : sProp 𝕄 := fly c s.x s.xsem iprop(own c s.x (A.xt t) ∗ xIn c G A t)
def flyW (n : Fin 15) : sProp 𝕄 := fly c (wcols G n) (G.wsem n) iprop(wHere c G A n ∗ wIn c G A n)
def flyC (t : Fin 12) : sProp 𝕄 := fly c (crow G t) s.csem iprop(cOut c G A t ∗ owns (c : Thread nD τ) s.codes fullShare.left (A.codes t))
def flyO (t : Fin 12) (i : Fin 3) : sProp 𝕄 := fly c (qrow G i t) (s.osem i) iprop(qOut c G A i t ∗ own c (ohead s i) (A.part t i))

variable {c}

theorem tri_startX (t : ℕ) (ht : t < 12) :
    Tri defs 𝒱 c iprop(xIn c G A ⟨t, ht⟩ ∗ some c s.x ∗ idle c s.xsem) (startX G s t ht) fun _ => flyX c G s A ⟨t, ht⟩ :=
  tri_start (xrow G ⟨t, ht⟩) s.x s.xsem _ _ _ n256x5120 _

theorem tri_waitX (t : ℕ) (ht : t < 12) :
    Tri defs 𝒱 c iprop(flyX c G s A ⟨t, ht⟩ ∗ waits c) (waitX G s t ht)
      fun _ => iprop((own c s.x (A.xt ⟨t, ht⟩) ∗ xIn c G A ⟨t, ht⟩) ∗ idle c s.xsem ∗ waits c) :=
  tri_wait _ _ _ _ _ _

theorem tri_startW (n : Fin 15) :
    Tri defs 𝒱 c iprop(wIn c G A n ∗ wAny (F := F) c G n ∗ wIdle (F := F) c G n) (startW G n) fun _ => flyW c G A n :=
  tri_start (wcol G n) (wcols G n) (G.wsem n) _ _ _ n5120x256 _

theorem tri_waitW (n : Fin 15) :
    Tri defs 𝒱 c iprop(flyW c G A n ∗ waits c) (waitW G n)
      fun _ => iprop((wHere c G A n ∗ wIn c G A n) ∗ wIdle (F := F) c G n ∗ waits c) :=
  tri_wait _ _ _ _ _ _

theorem tri_startCodes (t : ℕ) (ht : t < 12) :
    Tri defs 𝒱 c iprop(owns (c : Thread nD τ) s.codes fullShare.left (A.codes ⟨t, ht⟩) ∗ cAny (F := F) c G ⟨t, ht⟩ ∗ idle c s.csem) (startCodes G s t ht)
      fun _ => flyC c G s A ⟨t, ht⟩ :=
  tri_start s.codes (crow G ⟨t, ht⟩) s.csem _ _ _ n256x5120 _ _

theorem tri_waitCodes (t : ℕ) (ht : t < 12) :
    Tri defs 𝒱 c iprop(flyC c G s A ⟨t, ht⟩ ∗ waits c) (waitCodes G s t ht)
      fun _ => iprop((cOut c G A ⟨t, ht⟩ ∗ owns (c : Thread nD τ) s.codes fullShare.left (A.codes ⟨t, ht⟩)) ∗ idle c s.csem ∗ waits c) :=
  tri_wait _ _ _ _ _ _

theorem tri_startOut (t : ℕ) (ht : t < 12) (i : Fin 3) :
    Tri defs 𝒱 c iprop(own c (ohead s i) (A.part ⟨t, ht⟩ i) ∗ qAny (F := F) c G i ⟨t, ht⟩ ∗ idle c (s.osem i)) (startOut G s t ht i)
      fun _ => flyO c G s A ⟨t, ht⟩ i :=
  tri_start (ohead s i) (qrow G i ⟨t, ht⟩) (s.osem i) _ _ _ (by decide) _

theorem tri_waitOut (t : ℕ) (ht : t < 12) (i : Fin 3) :
    Tri defs 𝒱 c iprop(flyO c G s A ⟨t, ht⟩ i ∗ waits c) (waitOut G s t ht i)
      fun _ => iprop((qOut c G A i ⟨t, ht⟩ ∗ own c (ohead s i) (A.part ⟨t, ht⟩ i)) ∗ idle c (s.osem i) ∗ waits c) :=
  tri_wait _ _ _ _ _ _

theorem bigSep_fin3 {M : Type} [URA M] (R : Fin 3 → sProp M) : bigSep Finset.univ R ⊣⊢ iprop(R 0 ∗ R 1 ∗ R 2) := by
  have h := BI.bigSep_eq_bigSepL_of_eq (Φ := R) (S := Finset.univ) [0, 1, 2] (by decide) (by decide)
  rw [h]
  exact ⟨.rfl, .rfl⟩

/-- The output buffer is its three results' heads. -/
theorem out_split (t : Fin 12) :
    (own c s.out (A.out t) : sProp 𝕄) ⊢ iprop(own c (ohead s 0) (A.part t 0) ∗ own c (ohead s 1) (A.part t 1) ∗ own c (ohead s 2) (A.part t 2)) :=
  (owns_rects (c : Thread nD τ) s.out fullShare heads (fun _ _ => rfl) heads_disjoint heads_cover (A.out t)).trans
    (bigSep_fin3 fun i => own c (ohead s i) (A.part t i)).1

theorem out_join (t : Fin 12) :
    iprop(own c (ohead s 0) (A.part t 0) ∗ own c (ohead s 1) (A.part t 1) ∗ own c (ohead s 2) (A.part t 2)) ⊢ (own c s.out (A.out t) : sProp 𝕄) :=
  (bigSep_fin3 fun i => own c (ohead s i) (A.part t i)).2.trans
    (owns_of_rects (c : Thread nD τ) s.out fullShare heads (fun _ _ => rfl) heads_disjoint heads_cover (A.out t))

variable (c)

/-- A slot's output semaphores at zero. -/
def idles : sProp 𝕄 := iprop(idle (F := F) c (s.osem 0) ∗ idle (F := F) c (s.osem 1) ∗ idle (F := F) c (s.osem 2))
/-- The three copies of a tile's heads in flight. -/
def flyOs (t : Fin 12) : sProp 𝕄 := iprop(flyO c G s A t 0 ∗ flyO c G s A t 1 ∗ flyO c G s A t 2)
/-- The results' arrays from tile `k` on, not written yet. -/
def qRest (k : ℕ) : sProp 𝕄 := iprop(rest (qAny (F := F) c G 0) k ∗ rest (qAny (F := F) c G 1) k ∗ rest (qAny (F := F) c G 2) k)
/-- The results' arrays up to tile `k`, written. -/
def qDone (k : ℕ) : sProp 𝕄 := iprop(upto (qOut c G A 0) k ∗ upto (qOut c G A 1) k ∗ upto (qOut c G A 2) k)

variable {c}

theorem tri_startOuts (t : ℕ) (ht : t < 12) :
    Tri defs 𝒱 c iprop(own c s.out (A.out ⟨t, ht⟩) ∗ idles (F := F) c s ∗ qRest (F := F) c G t) (startOuts G s t ht)
      fun _ => iprop(flyOs c G s A ⟨t, ht⟩ ∗ qRest (F := F) c G (t + 1)) := by
  unfold Tri startOuts idles qRest flyOs
  iintro ⟨Ho, ⟨Hi0, Hi1, Hi2⟩, Hq0, Hq1, Hq2⟩
  ihave Ho' := (out_split s A ⟨t, ht⟩) $$ Ho
  icases Ho' with ⟨Ho0, Ho1, Ho2⟩
  ihave Hq := (rest_take _ t ht) $$ Hq0
  icases Hq with ⟨Ha0, Hq0⟩
  ihave Hq := (rest_take _ t ht) $$ Hq1
  icases Hq with ⟨Ha1, Hq1⟩
  ihave Hq := (rest_take _ t ht) $$ Hq2
  icases Hq with ⟨Ha2, Hq2⟩
  iapply (tri_startOut G s A t ht 0).use
  isplitl [Ho0 Ha0 Hi0]
  · isplitl [Ho0]; · iexact Ho0
    isplitl [Ha0]; · iexact Ha0
    iexact Hi0
  iintro %_ Hf0
  iapply (tri_startOut G s A t ht 1).use
  isplitl [Ho1 Ha1 Hi1]
  · isplitl [Ho1]; · iexact Ho1
    isplitl [Ha1]; · iexact Ha1
    iexact Hi1
  iintro %_ Hf1
  iapply (tri_startOut G s A t ht 2).fin
  isplitl [Ho2 Ha2 Hi2]
  · isplitl [Ho2]; · iexact Ho2
    isplitl [Ha2]; · iexact Ha2
    iexact Hi2
  iintro %_ Hf2
  isplitl [Hf0 Hf1 Hf2]
  · isplitl [Hf0]; · iexact Hf0
    isplitl [Hf1]; · iexact Hf1
    iexact Hf2
  isplitl [Hq0]; · iexact Hq0
  isplitl [Hq1]; · iexact Hq1
  iexact Hq2

theorem tri_waitOuts (t : ℕ) (ht : t < 12) :
    Tri defs 𝒱 c iprop(flyOs c G s A ⟨t, ht⟩ ∗ qDone c G A t ∗ waits c) (waitOuts G s t ht)
      fun _ => iprop(own c s.out (A.out ⟨t, ht⟩) ∗ idles (F := F) c s ∗ qDone c G A (t + 1) ∗ waits c) := by
  unfold Tri waitOuts idles qDone flyOs
  iintro ⟨⟨Hf0, Hf1, Hf2⟩, ⟨Hq0, Hq1, Hq2⟩, Hw⟩
  iapply (tri_waitOut G s A t ht 0).use
  isplitl [Hf0 Hw]
  · isplitl [Hf0]; · iexact Hf0
    iexact Hw
  iintro %_ ⟨⟨Ha0, Ho0⟩, Hi0, Hw⟩
  iapply (tri_waitOut G s A t ht 1).use
  isplitl [Hf1 Hw]
  · isplitl [Hf1]; · iexact Hf1
    iexact Hw
  iintro %_ ⟨⟨Ha1, Ho1⟩, Hi1, Hw⟩
  iapply (tri_waitOut G s A t ht 2).fin
  isplitl [Hf2 Hw]
  · isplitl [Hf2]; · iexact Hf2
    iexact Hw
  iintro %_ ⟨⟨Ha2, Ho2⟩, Hi2, Hw⟩
  isplitl [Ho0 Ho1 Ho2]
  · iapply (out_join s A ⟨t, ht⟩)
    isplitl [Ho0]; · iexact Ho0
    isplitl [Ho1]; · iexact Ho1
    iexact Ho2
  isplitl [Hi0 Hi1 Hi2]
  · isplitl [Hi0]; · iexact Hi0
    isplitl [Hi1]; · iexact Hi1
    iexact Hi2
  isplitr [Hw]; swap; · iexact Hw
  isplitl [Ha0 Hq0]
  · iapply (upto_put _ t ht)
    isplitl [Ha0]; · iexact Ha0
    iexact Hq0
  isplitl [Ha1 Hq1]
  · iapply (upto_put _ t ht)
    isplitl [Ha1]; · iexact Ha1
    iexact Hq1
  iapply (upto_put _ t ht)
  isplitl [Ha2]; · iexact Ha2
  iexact Hq2

end transfers

end Cert.Blocks

end
end
-- ==== Proof.Steps.lean ====
module

public import proofs.«01_k».proof.Proof.Moves
public import Idealize.ShloMosaic.Lib.MemrefSat

@[expose] public section

noncomputable section

/-! # Triples of the steps -/

namespace Cert.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {defs : Defs nD τ sig (Elt F) Λ} {𝒱 : Variants} {c : Dev nD} {α β : Type}

section steps

variable (c : Dev nD) (G : Glob sig) (s cur nxt : Slot sig) (A : Args F)

/-- What every step reads and leaves alone. -/
def statics : sProp 𝕄 := iprop(own c G.nwf A.nf ∗ own c G.freq (Args.freq (F := F)) ∗ own c G.pos A.pos ∗ own c G.ws A.ws)

def prepQ (t : Fin 12) (n : ℕ) : sProp 𝕄 :=
  iprop(part c s.codes (A.codes t) (fun i => (i 0).val < 32 * n) ∗ part c s.xs (A.xs t) (fun i => (i 0).val < 32 * n)
    ∗ some (F := F) c s.cos ∗ some (F := F) c s.sin ∗ part c G.xsOut A.xsOut fun i => (i 0).val < 2 * t.val)

def prepT (t : Fin 12) : sProp 𝕄 := iprop(owns (c : Thread nD τ) s.codes fullShare.left (A.codes t) ∗ ready c s A t
    ∗ part c G.xsOut A.xsOut fun i => (i 0).val < 2 * (t.val + 1))

/-- Tile `t` prepared as far as chunk `n` of the tile before it. -/
def prep (t : Fin 12) (n : ℕ) : sProp 𝕄 := if n ≤ 8 then prepQ c G s A t n else prepT c G s A t

variable {c}

theorem tri_quantise (t : Fin 12) (g : Fin 8) :
    Tri defs 𝒱 c iprop(own c s.x (A.xt t) ∗ own c G.nwf A.nf ∗ prepQ c G s A t g.val) (quantise G s g)
      fun _ => iprop(own c s.x (A.xt t) ∗ own c G.nwf A.nf ∗ prepQ c G s A t (g.val + 1)) := by
  unfold Tri quantise prepQ
  iintro ⟨Hx, Hn, Hc, Hs, Hr⟩
  iapply (tri_group s.x G.nwf s.codes s.hcodes s.xs g (A.xt t) A.nf).fin
  isplitl [Hx Hn Hc Hs]
  · isplitl [Hx]; · iexact Hx
    isplitl [Hn]; · iexact Hn
    isplitl [Hc]; · iexact Hc
    iexact Hs
  iintro %_ ⟨Hx, Hn, Hc, Hs⟩
  isplitl [Hx]; · iexact Hx
  isplitl [Hn]; · iexact Hn
  isplitl [Hc]; · iexact Hc
  isplitl [Hs]; · iexact Hs
  iexact Hr

theorem tri_quantises (t : Fin 12) : ∀ (k n : ℕ) (h : n + k ≤ 8),
    Tri defs 𝒱 c iprop(own c s.x (A.xt t) ∗ own c G.nwf A.nf ∗ prepQ c G s A t n) (quantises G s k n h)
      fun _ => iprop(own c s.x (A.xt t) ∗ own c G.nwf A.nf ∗ prepQ c G s A t (n + k))
  | 0, n, _ => Tri.pure (Q := fun _ => iprop(own c s.x (A.xt t) ∗ own c G.nwf A.nf ∗ prepQ c G s A t n)) _
  | k + 1, n, h => by
    unfold quantises
    refine (tri_quantise G s A t ⟨n, by omega⟩).bind fun _ => ?_
    rw [show n + (k + 1) = n + 1 + k by omega]
    exact tri_quantises t k (n + 1) (by omega)

/-- The tables that follow the last group. -/
theorem tri_tables' (t : ℕ) (ht : t < 12) :
    Tri defs 𝒱 c iprop(statics c G A ∗ prepQ c G s A ⟨t, ht⟩ 8) (tables G s t ht) fun _ => iprop(statics c G A ∗ prepT c G s A ⟨t, ht⟩) := by
  unfold Tri statics prepQ prepT ready
  iintro ⟨⟨Hn, Hf, Hp, Hw⟩, Hc, Hs, Hco, Hsi, Ho⟩
  iapply (tri_tables G s A t ht).fin
  isplitl [Hf Hp Hs Hco Hsi Ho]
  · isplitl [Hf]; · iexact Hf
    isplitl [Hp]; · iexact Hp
    isplitl [Hco]; · iexact Hco
    isplitl [Hsi]; · iexact Hsi
    isplitl [Hs]; · iapply (part_all s.xs _ (p := fun i => (i 0).val < 32 * 8) (fun i => (i 0).isLt)) $$ Hs
    iexact Ho
  iintro %_ ⟨Hf, Hp, Hco, Hsi, Hs, Ho⟩
  isplitl [Hn Hf Hp Hw]
  · isplitl [Hn]; · iexact Hn
    isplitl [Hf]; · iexact Hf
    isplitl [Hp]; · iexact Hp
    iexact Hw
  ihave Hc' := (part_all s.codes _ (p := fun i => (i 0).val < 32 * 8) (fun i => (i 0).isLt)) $$ Hc
  ihave Hc := (owns_halves (c : Thread nD τ) s.codes fullShare _).1 $$ Hc'
  icases Hc with ⟨Hl, Hc⟩
  isplitl [Hl]; · iexact Hl
  isplitr [Ho]; swap; · iexact Ho
  isplitl [Hc]; · iexact Hc
  isplitl [Hs]; · iexact Hs
  isplitl [Hco]; · iexact Hco
  iexact Hsi

theorem tri_prepare (t : ℕ) (ht : t + 1 < 12) (n : ℕ) :
    Tri defs 𝒱 c iprop(own c s.x (A.xt ⟨t + 1, ht⟩) ∗ statics c G A ∗ prep c G s A ⟨t + 1, ht⟩ n) (prepare G s t ht n)
      fun _ => iprop(own c s.x (A.xt ⟨t + 1, ht⟩) ∗ statics c G A ∗ prep c G s A ⟨t + 1, ht⟩ (n + 1)) := by
  unfold prepare prep
  by_cases h : n < 8
  · rw [dif_pos h, if_pos (by omega), if_pos (by omega)]
    unfold Tri statics
    iintro ⟨Hx, ⟨Hn, Hr⟩, Hp⟩
    iapply (tri_quantise G s A ⟨t + 1, ht⟩ ⟨n, h⟩).fin
    isplitl [Hx Hn Hp]
    · isplitl [Hx]; · iexact Hx
      isplitl [Hn]; · iexact Hn
      iexact Hp
    iintro %_ ⟨Hx, Hn, Hp⟩
    isplitl [Hx]; · iexact Hx
    isplitr [Hp]; swap; · iexact Hp
    isplitl [Hn]; · iexact Hn
    iexact Hr
  rw [dif_neg h]
  by_cases h8 : n = 8
  · subst h8
    rw [if_pos rfl, if_pos (by omega), if_neg (by omega)]
    unfold Tri
    iintro ⟨Hx, Hp⟩
    iapply (tri_tables' G s A (t + 1) ht).fin
    isplitl [Hp]; · iexact Hp
    iintro %_ Hp
    isplitl [Hx]; · iexact Hx
    iexact Hp
  · rw [if_neg h8, if_neg (by omega), if_neg (by omega)]
    exact Tri.pure (Q := fun _ => iprop(own c s.x (A.xt ⟨t + 1, ht⟩) ∗ statics c G A ∗ prepT c G s A ⟨t + 1, ht⟩)) _

/-- One chunk, its weights held. -/
theorem tri_project' (t : Fin 12) (n : Fin 15) :
    Tri defs 𝒱 c iprop(ready c s A t ∗ statics c G A ∗ wHere c G A n ∗ part c s.out (A.out t) fun i => (i 0).val < 2 * n.val)
      (project G s n)
      fun _ => iprop(ready c s A t ∗ statics c G A ∗ wHere c G A n ∗ part c s.out (A.out t) fun i => (i 0).val < 2 * (n.val + 1)) := by
  unfold Tri statics wHere
  iintro ⟨Hr, ⟨Hn, Hf, Hp, Hw⟩, Hb, Ho⟩
  iapply (tri_project G s A t n).fin
  isplitl [Hr Hw Hb Ho]
  · isplitl [Hr]; · iexact Hr
    isplitl [Hw]; · iexact Hw
    isplitl [Hb]; · iexact Hb
    iexact Ho
  iintro %_ ⟨Hr, Hw, Hb, Ho⟩
  isplitl [Hr]; · iexact Hr
  isplitl [Hn Hf Hp Hw]
  · isplitl [Hn]; · iexact Hn
    isplitl [Hf]; · iexact Hf
    isplitl [Hp]; · iexact Hp
    iexact Hw
  isplitl [Hb]; · iexact Hb
  iexact Ho

/-- One chunk, all the weights held. -/
theorem tri_project'' (t : Fin 12) (n : ℕ) (h : n < 15) :
    Tri defs 𝒱 c iprop(ready c s A t ∗ statics c G A ∗ upto (wHere c G A) 15 ∗ part c s.out (A.out t) fun i => (i 0).val < 2 * n)
      (project G s ⟨n, h⟩)
      fun _ => iprop(ready c s A t ∗ statics c G A ∗ upto (wHere c G A) 15 ∗ part c s.out (A.out t) fun i => (i 0).val < 2 * (n + 1)) := by
  unfold Tri
  iintro ⟨Hr, Hs, Hb, Ho⟩
  ihave Hb' := (upto_elem (wHere c G A) ⟨n, h⟩) $$ Hb
  icases Hb' with ⟨Hb, Hbk⟩
  iapply (tri_project' G s A t ⟨n, h⟩).fin
  isplitl [Hr Hs Hb Ho]
  · isplitl [Hr]; · iexact Hr
    isplitl [Hs]; · iexact Hs
    isplitl [Hb]; · iexact Hb
    iexact Ho
  iintro %_ ⟨Hr, Hs, Hb, Ho⟩
  isplitl [Hr]; · iexact Hr
  isplitl [Hs]; · iexact Hs
  isplitl [Hb Hbk]; · iapply Hbk $$ Hb
  iexact Ho

theorem tri_chunks (t : ℕ) (ht : t + 1 < 12) : ∀ (k n : ℕ) (h : n + k ≤ 15),
    Tri defs 𝒱 c iprop((ready c cur A ⟨t, by omega⟩ ∗ upto (wHere c G A) 15 ∗ part c cur.out (A.out ⟨t, by omega⟩) fun i => (i 0).val < 2 * n)
        ∗ own c nxt.x (A.xt ⟨t + 1, ht⟩) ∗ statics c G A ∗ prep c G nxt A ⟨t + 1, ht⟩ n) (chunks G cur nxt t ht k n h)
      fun _ => iprop((ready c cur A ⟨t, by omega⟩ ∗ upto (wHere c G A) 15 ∗ part c cur.out (A.out ⟨t, by omega⟩) fun i => (i 0).val < 2 * (n + k))
        ∗ own c nxt.x (A.xt ⟨t + 1, ht⟩) ∗ statics c G A ∗ prep c G nxt A ⟨t + 1, ht⟩ (n + k))
  | 0, n, _ => Tri.pure (Q := fun _ => iprop((ready c cur A ⟨t, by omega⟩ ∗ upto (wHere c G A) 15 ∗ part c cur.out (A.out ⟨t, by omega⟩) fun i => (i 0).val < 2 * n)
        ∗ own c nxt.x (A.xt ⟨t + 1, ht⟩) ∗ statics c G A ∗ prep c G nxt A ⟨t + 1, ht⟩ n)) _
  | k + 1, n, h => by
    unfold Tri chunks
    iintro ⟨⟨Hr, Hb, Ho⟩, Hx, Hs, Hp⟩
    iapply (tri_project'' G cur A ⟨t, by omega⟩ n _).use
    isplitl [Hr Hb Ho Hs]
    · isplitl [Hr]; · iexact Hr
      isplitl [Hs]; · iexact Hs
      isplitl [Hb]; · iexact Hb
      iexact Ho
    iintro %_ ⟨Hr, Hs, Hb, Ho⟩
    iapply (tri_prepare G nxt A t ht n).use
    isplitl [Hx Hs Hp]
    · isplitl [Hx]; · iexact Hx
      isplitl [Hs]; · iexact Hs
      iexact Hp
    iintro %_ H
    rw [show n + (k + 1) = n + 1 + k by omega]
    iapply (tri_chunks t ht k (n + 1) _).ent
    isplitr [H]; swap; · iexact H
    isplitl [Hr]; · iexact Hr
    isplitl [Hb]; · iexact Hb
    iexact Ho

theorem tri_chunksLast (t : Fin 12) : ∀ (k n : ℕ) (h : n + k ≤ 15),
    Tri defs 𝒱 c iprop(ready c cur A t ∗ statics c G A ∗ upto (wHere c G A) 15 ∗ part c cur.out (A.out t) fun i => (i 0).val < 2 * n)
      (chunksLast G cur k n h)
      fun _ => iprop(ready c cur A t ∗ statics c G A ∗ upto (wHere c G A) 15 ∗ part c cur.out (A.out t) fun i => (i 0).val < 2 * (n + k))
  | 0, n, _ => Tri.pure (Q := fun _ => iprop(ready c cur A t ∗ statics c G A ∗ upto (wHere c G A) 15 ∗ part c cur.out (A.out t) fun i => (i 0).val < 2 * n)) _
  | k + 1, n, h => by
    unfold chunksLast
    refine (tri_project'' G cur A t n (by omega)).bind fun _ => ?_
    rw [show n + (k + 1) = n + 1 + k by omega]
    exact tri_chunksLast t k (n + 1) (by omega)

/-- The weights' chunks up to `n` arrived, the others in flight. -/
def wPart (c : Dev nD) (n : ℕ) : sProp 𝕄 :=
  iprop(upto (wHere c G A) n ∗ upto (wIn c G A) n ∗ upto (wIdle (F := F) c G) n ∗ rest (flyW c G A) n ∗ waits c)

theorem tri_waitW' (n : ℕ) (h : n < 15) :
    Tri defs 𝒱 c (wPart G A c n) (waitW G ⟨n, h⟩)
      fun _ => iprop(wHere c G A ⟨n, h⟩ ∗ upto (wHere c G A) n ∗ upto (wIn c G A) (n + 1) ∗ upto (wIdle (F := F) c G) (n + 1)
        ∗ rest (flyW c G A) (n + 1) ∗ waits c) := by
  unfold Tri wPart
  iintro ⟨Hb, Hi, Hd, Hf, Hw⟩
  ihave Hf' := (rest_take _ n h) $$ Hf
  icases Hf' with ⟨Hn, Hf⟩
  iapply (tri_waitW G A ⟨n, h⟩).fin
  isplitl [Hn Hw]
  · isplitl [Hn]; · iexact Hn
    iexact Hw
  iintro %_ ⟨⟨Hh, Hin⟩, Hid, Hw⟩
  isplitl [Hh]; · iexact Hh
  isplitl [Hb]; · iexact Hb
  isplitl [Hi Hin]
  · iapply (upto_put _ n h)
    isplitl [Hin]; · iexact Hin
    iexact Hi
  isplitl [Hd Hid]
  · iapply (upto_put _ n h)
    isplitl [Hid]; · iexact Hid
    iexact Hd
  isplitl [Hf]; · iexact Hf
  iexact Hw

theorem tri_chunksFirst : ∀ (k n : ℕ) (h : n + k ≤ 15),
    Tri defs 𝒱 c iprop((ready c cur A 0 ∗ wPart G A c n ∗ part c cur.out (A.out 0) fun i => (i 0).val < 2 * n)
        ∗ own c nxt.x (A.xt 1) ∗ statics c G A ∗ prep c G nxt A 1 n) (chunksFirst G cur nxt k n h)
      fun _ => iprop((ready c cur A 0 ∗ wPart G A c (n + k) ∗ part c cur.out (A.out 0) fun i => (i 0).val < 2 * (n + k))
        ∗ own c nxt.x (A.xt 1) ∗ statics c G A ∗ prep c G nxt A 1 (n + k))
  | 0, n, _ => Tri.pure (Q := fun _ => iprop((ready c cur A 0 ∗ wPart G A c n ∗ part c cur.out (A.out 0) fun i => (i 0).val < 2 * n)
        ∗ own c nxt.x (A.xt 1) ∗ statics c G A ∗ prep c G nxt A 1 n)) _
  | k + 1, n, h => by
    unfold Tri chunksFirst
    iintro ⟨⟨Hr, Hb, Ho⟩, Hx, Hs, Hp⟩
    iapply (tri_waitW' G A n _).use
    isplitl [Hb]; · iexact Hb
    iintro %_ ⟨Hh, Hb, Hrest⟩
    iapply (tri_project' G cur A 0 ⟨n, _⟩).use
    isplitl [Hr Hh Ho Hs]
    · isplitl [Hr]; · iexact Hr
      isplitl [Hs]; · iexact Hs
      isplitl [Hh]; · iexact Hh
      iexact Ho
    iintro %_ ⟨Hr, Hs, Hh, Ho⟩
    iapply (tri_prepare G nxt A 0 _ n).use
    isplitl [Hx Hs Hp]
    · isplitl [Hx]; · iexact Hx
      isplitl [Hs]; · iexact Hs
      iexact Hp
    iintro %_ H
    rw [show n + (k + 1) = n + 1 + k by omega]
    iapply (tri_chunksFirst k (n + 1) _).ent
    isplitr [H]; swap; · iexact H
    isplitl [Hr]; · iexact Hr
    isplitr [Ho]; swap; · iexact Ho
    unfold wPart
    isplitl [Hb Hh]
    · iapply (upto_put (wHere c G A) n (by omega))
      isplitl [Hh]; · iexact Hh
      iexact Hb
    iexact Hrest

end steps

end Cert.Blocks

end
end
-- ==== Proof.Body.lean ====
module

public import proofs.«01_k».proof.Proof.Steps

@[expose] public section

noncomputable section

/-! # The body's steps and the body as a whole -/

namespace Cert.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {defs : Defs nD τ sig (Elt F) Λ} {𝒱 : Variants} {c : Dev nD} {α β : Type}

theorem rest_succ {M : Type} [URA M] {n : ℕ} (R : Fin n → sProp M) (k : ℕ) (h : n ≤ k) : rest R k = rest R (k + 1) := by
  unfold rest; congr 1; ext i; simp; omega

section states

variable (c : Dev nD) (G : Glob sig) (s cur nxt a b : Slot sig) (A : Args F)

/-- The slot's input buffer: tile `t` on its way, or nothing. -/
def flx (t : ℕ) : sProp 𝕄 := if h : t < 12 then flyX c G s A ⟨t, h⟩ else iprop(some (F := F) c s.x ∗ idle (F := F) c s.xsem)

/-- The slot's output buffer before step `t + 1`: tile `t - 1` on its way out, or nothing. -/
def flo (t : ℕ) : sProp 𝕄 := if h : 0 < t ∧ t ≤ 12 then flyOs c G s A ⟨t - 1, by omega⟩ else iprop(some (F := F) c s.out ∗ idles (F := F) c s)

/-- The slot's small buffers, holding anything. -/
def scraps : sProp 𝕄 := iprop(some (F := F) c s.xs ∗ some (F := F) c s.cos ∗ some (F := F) c s.sin)

/-- The first `n` rows of the scales' array are written. -/
def scales (n : ℕ) : sProp 𝕄 := part c G.xsOut A.xsOut fun i => (i 0).val < 2 * n

/-- The weights, the tables and the waits. -/
def fixed : sProp 𝕄 := iprop(statics c G A ∗ upto (wHere c G A) 15 ∗ waits c)

/-- The codes of tile `t` on their way out, the half of their buffer that is read meanwhile, and the codes' array. -/
def codesOut (t : Fin 12) : sProp 𝕄 :=
  iprop(flyC c G s A t ∗ owns (c : Thread nD τ) s.codes fullShare.right (A.codes t))
def codesArr (t : ℕ) : sProp 𝕄 := iprop(rest (cAny (F := F) c G) (t + 1) ∗ upto (cOut c G A) t)

/-- Between step `t` and step `t + 1`. -/
def St (t : ℕ) (ht : t + 2 ≤ 12) : sProp 𝕄 :=
  iprop(fixed c G A
    ∗ (flx c G nxt A (t + 2) ∗ some (F := F) c cur.x ∗ idle (F := F) c cur.xsem ∗ rest (xIn c G A) (t + 3) ∗ upto (xIn c G A) (t + 2))
    ∗ (codesOut c G nxt A ⟨t, by omega⟩ ∗ idle (F := F) c cur.csem ∗ codesArr c G A t)
    ∗ (prepT c G cur A ⟨t + 1, by omega⟩ ∗ scraps (F := F) c nxt)
    ∗ (own c nxt.out (A.out ⟨t, by omega⟩) ∗ idles (F := F) c nxt ∗ qRest (F := F) c G t ∗ qDone c G A (t - 1) ∗ flo c G cur A t))

/-- In step `t + 1`, its transfers retired and started. -/
def Mid (t : ℕ) (ht : t + 2 < 12) : sProp 𝕄 :=
  iprop(fixed c G A
    ∗ (own c nxt.x (A.xt ⟨t + 2, ht⟩) ∗ idle (F := F) c nxt.xsem ∗ flx c G cur A (t + 3) ∗ rest (xIn c G A) (t + 4) ∗ upto (xIn c G A) (t + 3))
    ∗ (flyC c G cur A ⟨t + 1, by omega⟩ ∗ some (F := F) c nxt.codes ∗ idle (F := F) c nxt.csem ∗ codesArr c G A (t + 1))
    ∗ (ready c cur A ⟨t + 1, by omega⟩ ∗ scales c G A (t + 2) ∗ scraps (F := F) c nxt)
    ∗ (some (F := F) c cur.out ∗ idles (F := F) c cur ∗ qRest (F := F) c G (t + 1) ∗ qDone c G A t ∗ flyOs c G nxt A ⟨t, by omega⟩))

end states

section steps

variable (G : Glob sig) (s cur nxt a b : Slot sig) (A : Args F)

theorem flx_fly (t : ℕ) (h : t < 12) : (flx c G s A t : sProp 𝕄) = flyX c G s A ⟨t, h⟩ := dif_pos h
theorem flx_none (t : ℕ) (h : 12 ≤ t) : (flx c G s A t : sProp 𝕄) = iprop(some (F := F) c s.x ∗ idle (F := F) c s.xsem) := dif_neg (by omega)
theorem flo_fly (t : ℕ) (h : t < 12) : (flo c G s A (t + 1) : sProp 𝕄) = flyOs c G s A ⟨t, h⟩ := dif_pos (by omega)
theorem flo_none : (flo c G s A 0 : sProp 𝕄) = iprop(some (F := F) c s.out ∗ idles (F := F) c s) := dif_neg (by omega)
theorem prep_done (t : Fin 12) (n : ℕ) (h : 8 < n) : (prep c G s A t n : sProp 𝕄) = prepT c G s A t := if_neg (by omega)

/-- The wait for tile `t - 1`, if there is one. -/
def waitPrev (t : ℕ) (ht : t < 12) : P nD τ sig Λ F PUnit := if h : 0 < t then waitOuts G s (t - 1) (by omega) else pure ⟨⟩

theorem stepHead_eq (t : ℕ) (ht : t + 2 < 12) :
    (stepHead G cur nxt t ht : P nD τ sig Λ F PUnit) = (do
      waitX G nxt (t + 2) ht
      waitCodes G nxt t (by omega)
      startCodes G cur (t + 1) (by omega)
      startOuts G nxt t (by omega)
      waitPrev G cur t (by omega)
      if h : t + 3 < 12 then startX G cur (t + 3) h else pure ⟨⟩) := by
  unfold stepHead waitPrev
  by_cases h : 0 < t
  · simp only [dif_pos h]; rfl
  · simp only [dif_neg h]; rfl

theorem tri_waitPrev (t : ℕ) (ht : t < 12) :
    Tri defs 𝒱 c iprop(flo c G s A t ∗ qDone c G A (t - 1) ∗ waits c) (waitPrev G s t ht)
      fun _ => iprop(some (F := F) c s.out ∗ idles (F := F) c s ∗ qDone c G A t ∗ waits c) := by
  unfold waitPrev flo
  by_cases h : 0 < t
  · rw [dif_pos h, dif_pos ⟨h, by omega⟩]
    refine (tri_waitOuts G s A (t - 1) (by omega)).conseq .rfl fun _ => ?_
    rw [show t - 1 + 1 = t by omega]
    iintro ⟨Ho, Hi, Hq, Hw⟩
    iframe
    iapply (own_some s.out _) $$ Ho
  · rw [dif_neg h, dif_neg (fun h' => h h'.1)]
    obtain rfl : t = 0 := by omega
    refine Tri.conseq (Tri.pure (Q := fun _ => _) _) ?_ fun _ => .rfl
    iintro ⟨⟨Ho, Hi⟩, Hq, Hw⟩
    iframe

theorem tri_startNext (t : ℕ) :
    Tri defs 𝒱 c iprop(some (F := F) c s.x ∗ idle (F := F) c s.xsem ∗ rest (xIn c G A) t)
      (if h : t < 12 then startX G s t h else pure ⟨⟩)
      fun _ => iprop(flx c G s A t ∗ rest (xIn c G A) (t + 1)) := by
  unfold flx
  by_cases h : t < 12
  · rw [dif_pos h, dif_pos h]
    unfold Tri
    iintro ⟨Hx, Hi, Hr⟩
    ihave Hr' := (rest_take _ t h) $$ Hr
    icases Hr' with ⟨Hn, Hr⟩
    iapply (tri_startX G s A t h).fin
    iframe
    iintro %_ H
    iframe
  · rw [dif_neg h, dif_neg h, rest_succ _ t (by omega)]
    refine Tri.conseq (Tri.pure (Q := fun _ => _) _) ?_ fun _ => .rfl
    iintro ⟨Hx, Hi, Hr⟩
    iframe

theorem codes_some (t : Fin 12) :
    iprop(owns (c : Thread nD τ) s.codes fullShare.left (A.codes t) ∗ owns (c : Thread nD τ) s.codes fullShare.right (A.codes t))
      ⊢ (some (F := F) c s.codes : sProp 𝕄) := by
  iintro H
  iexists A.codes t
  iapply (owns_halves (c : Thread nD τ) s.codes fullShare _).2 $$ H

theorem tri_stepHead (t : ℕ) (ht : t + 2 < 12) :
    Tri defs 𝒱 c (St c G cur nxt A t (by omega)) (stepHead G cur nxt t ht) fun _ => Mid c G cur nxt A t ht := by
  rw [stepHead_eq]
  unfold St
  rw [flx_fly G nxt A _ ht]
  unfold Tri Mid fixed codesOut codesArr prepT scales
  iintro ⟨⟨Hst, Hwb, Hw⟩, ⟨Hfx, Hx, Hxi, Hxr, Hxu⟩, ⟨⟨Hfc, Hcr⟩, Hci, Hca, Hcu⟩, ⟨⟨Hcl, Hrd, Hso⟩, Hsc⟩, Ho, Hoi, Hqr, Hqd, Hfo⟩
  iapply (tri_waitX G nxt A (t + 2) ht).use
  iframe Hfx Hw
  iintro %_ ⟨⟨Hnx, Hxin⟩, Hnxi, Hw⟩
  iapply (tri_waitCodes G nxt A t _).use
  iframe Hfc Hw
  iintro %_ ⟨⟨Hcin, Hcl'⟩, Hnci, Hw⟩
  ihave Hca' := (rest_take _ (t + 1) (by omega)) $$ Hca
  icases Hca' with ⟨Hcn, Hca⟩
  iapply (tri_startCodes G cur A (t + 1) _).use
  iframe Hcl Hcn Hci
  iintro %_ Hfc
  iapply (tri_startOuts G nxt A t _).use
  iframe Ho Hoi Hqr
  iintro %_ ⟨Hfo', Hqr⟩
  iapply (tri_waitPrev G cur A t _).use
  iframe Hfo Hqd Hw
  iintro %_ ⟨Ho, Hoi, Hqd, Hw⟩
  iapply (tri_startNext G cur A (t + 3)).fin
  iframe Hx Hxi Hxr
  iintro %_ ⟨Hfx, Hxr⟩
  iframe
  isplitl [Hxin Hxu]
  · iapply (upto_put _ (t + 2) (by omega)); iframe
  isplitr [Hcin Hcu]
  · iapply (codes_some nxt A ⟨t, by omega⟩); iframe
  iapply (upto_put _ t (by omega)); iframe

theorem ready_scraps (t : Fin 12) : (ready c s A t : sProp 𝕄) ⊢ iprop(owns (c : Thread nD τ) s.codes fullShare.right (A.codes t) ∗ scraps (F := F) c s) := by
  unfold ready scraps
  iintro ⟨Hc, Hx, Hco, Hsi⟩
  iframe
  isplitl [Hx]; · iapply (own_some s.xs _) $$ Hx
  isplitl [Hco]; · iapply (own_some s.cos _) $$ Hco
  iapply (own_some s.sin _) $$ Hsi

theorem prep_zero (t : Fin 12) :
    iprop(some (F := F) c s.codes ∗ scraps (F := F) c s ∗ scales c G A t.val) ⊢ (prep c G s A t 0 : sProp 𝕄) := by
  unfold prep scraps scales prepQ
  rw [if_pos (by omega)]
  iintro ⟨Hc, ⟨Hx, Hco, Hsi⟩, Hs⟩
  iframe
  isplitl [Hc]
  · iapply (part_none s.codes _ (by intro i; omega)); iexact Hc
  iapply (part_none s.xs _ (by intro i; omega)); iexact Hx

theorem tri_stepMid (t : ℕ) (ht : t + 2 < 12) :
    Tri defs 𝒱 c (St c G cur nxt A t (by omega)) (stepMid G cur nxt t ht) fun _ => St c G nxt cur A (t + 1) (by omega) := by
  unfold stepMid
  refine (tri_stepHead G cur nxt A t ht).bind fun _ => ?_
  have e := tri_chunks (defs := defs) (𝒱 := 𝒱) (c := c) G cur nxt A (t + 1) ht 15 0 (by omega)
  rw [prep_done G nxt A _ (0 + 15) (by omega)] at e
  unfold St
  rw [flo_fly G nxt A t (by omega)]
  unfold Tri Mid fixed codesOut
  iintro ⟨⟨Hst, Hwb, Hw⟩, ⟨Hx, Hxi, Hfx, Hxr, Hxu⟩, ⟨Hfc, Hc, Hci, Hca⟩, ⟨Hrd, Hso, Hsc⟩, Ho, Hoi, Hqr, Hqd, Hfo⟩
  iapply e.fin
  isplitl [Hrd Hwb Ho Hx Hst Hc Hso Hsc]
  · isplitl [Hrd Hwb Ho]
    · iframe
      iapply (part_none cur.out _ (by intro i; omega)); iexact Ho
    iframe
    iapply (prep_zero G nxt A ⟨t + 2, ht⟩); iframe
  iintro %_ ⟨⟨Hrd, Hwb, Ho⟩, Hx, Hst, Hp⟩
  ihave Hrd' := (ready_scraps cur A ⟨t + 1, _⟩) $$ Hrd
  icases Hrd' with ⟨Hcr, Hsc⟩
  iframe
  isplitl [Hx]
  · iapply (own_some nxt.x _) $$ Hx
  isplitl [Ho]
  · iapply (part_all cur.out _ (p := fun i => (i 0).val < 2 * (0 + 15)) (fun i => (i 0).isLt)) $$ Ho
  iexact Hqd

end steps

end Cert.Blocks

end
end
-- ==== Proof.Whole.lean ====
module

public import proofs.«01_k».proof.Proof.Body

@[expose] public section

noncomputable section

/-! # The body as a whole: its first and last steps, and what it leaves -/

namespace Cert.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {defs : Defs nD τ sig (Elt F) Λ} {𝒱 : Variants} {c : Dev nD} {α β : Type}

section states

variable (c : Dev nD) (G : Glob sig) (s a b : Slot sig) (A : Args F)

/-- The weights as they lay, and their semaphores at rest. -/
def weightsIn : sProp 𝕄 := iprop(upto (wIn c G A) 15 ∗ upto (wIdle (F := F) c G) 15)

/-- Before the first step: tile 0 prepared in slot `a`, tile 1 on its way to slot `b`, the weights on their way. -/
def Begun : sProp 𝕄 :=
  iprop((statics c G A ∗ wPart G A c 0)
    ∗ (flx c G b A 1 ∗ some (F := F) c a.x ∗ idle (F := F) c a.xsem ∗ rest (xIn c G A) 2 ∗ upto (xIn c G A) 1)
    ∗ (some (F := F) c b.codes ∗ idle (F := F) c a.csem ∗ idle (F := F) c b.csem ∗ rest (cAny (F := F) c G) 0)
    ∗ (prepT c G a A 0 ∗ scraps (F := F) c b)
    ∗ (some (F := F) c a.out ∗ some (F := F) c b.out ∗ idles (F := F) c a ∗ idles (F := F) c b ∗ qRest (F := F) c G 0))

/-- After the last step. -/
def Ended : sProp 𝕄 :=
  iprop(fixed c G A
    ∗ ((some (F := F) c a.x ∗ idle (F := F) c a.xsem) ∗ (some (F := F) c b.x ∗ idle (F := F) c b.xsem) ∗ upto (xIn c G A) 12)
    ∗ (codesOut c G a A 10 ∗ codesOut c G b A 11 ∗ upto (cOut c G A) 10)
    ∗ (scraps (F := F) c a ∗ scraps (F := F) c b ∗ scales c G A 12)
    ∗ (own c b.out (A.out 11) ∗ idles (F := F) c b ∗ qRest (F := F) c G 11 ∗ qDone c G A 10 ∗ flyOs c G a A 10))

/-- One slot's buffers, holding anything, and its semaphores at rest. -/
def slotFree : sProp 𝕄 :=
  iprop((some (F := F) c s.x ∗ some (F := F) c s.codes ∗ some (F := F) c s.out ∗ scraps (F := F) c s)
    ∗ idle (F := F) c s.xsem ∗ idle (F := F) c s.csem ∗ idles (F := F) c s)

/-- Before the body. -/
def Before : sProp 𝕄 :=
  iprop(slotFree (F := F) c a ∗ slotFree (F := F) c b
    ∗ (rest (xIn c G A) 0 ∗ rest (wIn c G A) 0 ∗ rest (cAny (F := F) c G) 0 ∗ qRest (F := F) c G 0)
    ∗ (rest (wAny (F := F) c G) 0 ∗ rest (wIdle (F := F) c G) 0 ∗ some (F := F) c G.nwf ∗ some (F := F) c G.freq)
    ∗ (own c G.nw A.nw ∗ own c G.pos A.pos ∗ own c G.ws A.ws ∗ some (F := F) c G.xsOut) ∗ waits c)

/-- After the body. -/
def After : sProp 𝕄 :=
  iprop(slotFree (F := F) c a ∗ slotFree (F := F) c b
    ∗ (upto (xIn c G A) 12 ∗ upto (wIn c G A) 15 ∗ upto (cOut c G A) 12 ∗ qDone c G A 12)
    ∗ (upto (wHere c G A) 15 ∗ upto (wIdle (F := F) c G) 15 ∗ own c G.nwf A.nf ∗ own c G.freq (Args.freq (F := F)))
    ∗ (own c G.nw A.nw ∗ own c G.pos A.pos ∗ own c G.ws A.ws ∗ own c G.xsOut A.xsOut) ∗ waits c)

end states

section steps

theorem upto_nil {M : Type} [URA M] {n : ℕ} (R : Fin n → sProp M) : ⊢ upto R 0 := by
  iapply (upto_zero R)
  itrivial

theorem qDone_zero (c : Dev nD) (G : Glob sig) (A : Args F) : ⊢ (qDone c G A 0 : sProp 𝕄) := by
  unfold qDone
  ihave H0 := (upto_nil (qOut c G A 0))
  ihave H1 := (upto_nil (qOut c G A 1))
  ihave H2 := (upto_nil (qOut c G A 2))
  iframe H0 H1 H2

variable (G : Glob sig) (a b : Slot sig) (A : Args F)

theorem tri_stepFirst :
    Tri defs 𝒱 c (Begun c G a b A) (stepFirst G a b) fun _ => iprop(St c G b a A 0 (by omega) ∗ weightsIn c G A) := by
  have e := tri_chunksFirst (defs := defs) (𝒱 := 𝒱) (c := c) G a b A 15 0 (by omega)
  rw [prep_done G b A _ (0 + 15) (by omega)] at e
  have e2 := tri_startNext (defs := defs) (𝒱 := 𝒱) (c := c) G a A 2
  rw [dif_pos (by omega)] at e2
  unfold Begun St
  rw [flx_fly G b A 1 (by omega), flo_none G b A]
  unfold Tri stepFirst prepT fixed weightsIn codesOut codesArr
  iintro ⟨⟨Hst, Hwp⟩, ⟨Hfx, Hx, Hxi, Hxr, Hxu⟩, ⟨Hc, Hai, Hbi, Hca⟩, ⟨⟨Hcl, Hrd, Hso⟩, Hsc⟩, Hao, Hbo, Hia, Hib, Hqr⟩
  unfold wPart
  icases Hwp with ⟨Hw1, Hw2, Hw3, Hw4, Hw⟩
  iapply (tri_waitX G b A 1 _).use
  iframe Hfx Hw
  iintro %_ ⟨⟨Hbx, Hxin⟩, Hbxi, Hw⟩
  ihave Hca' := (rest_take _ 0 (by omega)) $$ Hca
  icases Hca' with ⟨Hcn, Hca⟩
  iapply (tri_startCodes G a A 0 _).use
  iframe Hcl Hcn Hai
  iintro %_ Hfc
  iapply e2.use
  iframe Hx Hxi Hxr
  iintro %_ ⟨Hfx, Hxr⟩
  iapply e.fin
  isplitl [Hrd Hw1 Hw2 Hw3 Hw4 Hw Hao Hbx Hst Hc Hso Hsc]
  · isplitl [Hrd Hw1 Hw2 Hw3 Hw4 Hw Hao]
    · unfold wPart
      iframe
      iapply (part_none a.out _ (by intro i; omega)); iexact Hao
    iframe
    isplitl [Hbx]; · iexact Hbx
    iapply (prep_zero G b A 1)
    unfold scales
    iframe
  iintro %_ ⟨⟨Hrd, Hwp, Ho⟩, Hx, ⟨Hst, Hp⟩⟩
  unfold wPart
  icases Hwp with ⟨Hw1, Hw2, Hw3, -, Hw⟩
  ihave Hrd' := (ready_scraps a A 0) $$ Hrd
  icases Hrd' with ⟨Hcr, Hsc⟩
  unfold prepT
  iframe
  ihave Hz := (upto_nil (cOut c G A))
  ihave Hq := (qDone_zero c G A)
  isplitl [Hx Hxu Hxin]
  · isplitl [Hx]
    · iapply (own_some b.x _) $$ Hx
    iapply (upto_put _ 1 (by omega)); iframe
  isplitl [Hcr Hz]
  · isplitl [Hcr]; · iexact Hcr
    iexact Hz
  isplitl [Hp]; · iexact Hp
  isplitl [Ho]
  · iapply (part_all a.out _ (p := fun i => (i 0).val < 2 * (0 + 15)) (fun i => (i 0).isLt)) $$ Ho
  iexact Hq

theorem tri_stepLast :
    Tri defs 𝒱 c (St c G b a A 10 (by omega)) (stepLast G b a) fun _ => Ended c G a b A := by
  have e := tri_chunksLast (defs := defs) (𝒱 := 𝒱) (c := c) G b A 11 15 0 (by omega)
  unfold St
  rw [flx_none G a A _ (by omega), flo_fly G b A 9 (by omega)]
  unfold Tri stepLast Ended prepT fixed codesOut codesArr
  iintro ⟨⟨Hst, Hwb, Hw⟩, ⟨⟨Hax, Haxi⟩, Hx, Hxi, -, Hxu⟩, ⟨⟨Hfc, Hcr⟩, Hci, Hca, Hcu⟩, ⟨⟨Hcl, Hrd, Hso⟩, Hsc⟩, Ho, Hoi, Hqr, Hqd, Hfo⟩
  ihave Hca' := (rest_take _ 11 (by omega)) $$ Hca
  icases Hca' with ⟨Hcn, -⟩
  iapply (tri_startCodes G b A 11 _).use
  isplitl [Hcl Hcn Hci]
  · isplitl [Hcl]; · iexact Hcl
    iframe
  iintro %_ Hfb
  iapply (tri_startOuts G a A 10 _).use
  iframe Ho Hoi Hqr
  iintro %_ ⟨Hfa, Hqr⟩
  iapply (tri_waitOuts G b A 9 _).use
  iframe Hfo Hqd Hw
  iintro %_ ⟨Ho, Hoi, Hqd, Hw⟩
  iapply e.fin
  isplitl [Hrd Hst Hwb Ho]
  · isplitl [Hrd]; · iexact Hrd
    iframe
    iapply (part_none b.out _ (by intro i; omega))
    iapply (own_some b.out _) $$ Ho
  iintro %_ ⟨Hrd, Hst, Hwb, Ho⟩
  ihave Hrd' := (ready_scraps b A 11) $$ Hrd
  icases Hrd' with ⟨Hbr, Hsb⟩
  unfold scales
  iframe
  isplitr [Ho Hfa]
  · isplitr [Hfb]
    · isplitl [Hfc]; · iexact Hfc
      iexact Hcr
    iexact Hfb
  isplitl [Ho]
  · iapply (part_all b.out _ (p := fun i => (i 0).val < 2 * (0 + 15)) (fun i => (i 0).isLt)) $$ Ho
  iexact Hfa

theorem tri_finish :
    Tri defs 𝒱 c iprop(Ended c G a b A ∗ weightsIn c G A ∗ own c G.nw A.nw) (finish G a b) fun _ => After c G a b A := by
  unfold Tri finish Ended fixed codesOut weightsIn After slotFree statics
  iintro ⟨⟨⟨⟨Hnf, Hfr, Hpo, Hws⟩, Hwb, Hw⟩, ⟨⟨Hax, Haxi⟩, ⟨Hbx, Hbxi⟩, Hxu⟩, ⟨⟨Hfa, Har⟩, ⟨Hfb, Hbr⟩, Hcu⟩, ⟨Hsa, Hsb, Hso⟩, Ho, Hoi, Hqr, Hqd, Hfo⟩, ⟨Hwi, Hwd⟩, Hnw⟩
  iapply (tri_waitCodes G a A 10 _).use
  isplitl [Hfa Hw]
  · isplitl [Hfa]; · iexact Hfa
    iexact Hw
  iintro %_ ⟨⟨Hc10, Hal⟩, Hai, Hw⟩
  iapply (tri_waitCodes G b A 11 _).use
  isplitl [Hfb Hw]
  · isplitl [Hfb]; · iexact Hfb
    iexact Hw
  iintro %_ ⟨⟨Hc11, Hbl⟩, Hbi, Hw⟩
  iapply (tri_startOuts G b A 11 _).use
  isplitl [Ho Hoi Hqr]
  · isplitl [Ho]; · iexact Ho
    iframe
  iintro %_ ⟨Hfb, -⟩
  iapply (tri_waitOuts G a A 10 _).use
  isplitl [Hfo Hqd Hw]
  · isplitl [Hfo]; · iexact Hfo
    iframe
  iintro %_ ⟨Hoa, Hoia, Hqd, Hw⟩
  iapply (tri_waitOuts G b A 11 _).fin
  iframe Hfb Hqd Hw
  iintro %_ ⟨Hob, Hoib, Hqd, Hw⟩
  ihave Hcu := (upto_put (cOut c G A) 10 (by omega)) $$ [Hc10 Hcu]
  · iframe
  ihave Hcu := (upto_put (cOut c G A) 11 (by omega)) $$ [Hc11 Hcu]
  · iframe
  iframe
  isplitl [Hal Har Hoa]
  · isplitl [Hal Har]
    · iapply (codes_some a A 10)
      isplitl [Hal]; · iexact Hal
      iexact Har
    iapply (own_some a.out _) $$ Hoa
  isplitl [Hbl Hbr Hob]
  · isplitl [Hbl Hbr]
    · iapply (codes_some b A 11)
      isplitl [Hbl]; · iexact Hbl
      iexact Hbr
    iapply (own_some b.out _) $$ Hob
  unfold scales
  iapply (part_all G.xsOut _ (p := fun i => (i 0).val < 2 * 12) (fun i => (i 0).isLt)) $$ Hso

theorem tri_startWs : ∀ (k n : ℕ) (h : n + k ≤ 15),
    Tri defs 𝒱 c iprop((rest (wIn c G A) n ∗ rest (wAny (F := F) c G) n ∗ rest (wIdle (F := F) c G) n) ∗ upto (flyW c G A) n)
      (startWs G k n h) fun _ => iprop((rest (wIn c G A) (n + k) ∗ rest (wAny (F := F) c G) (n + k) ∗ rest (wIdle (F := F) c G) (n + k)) ∗ upto (flyW c G A) (n + k))
  | 0, n, _ => Tri.pure (Q := fun _ => iprop((rest (wIn c G A) n ∗ rest (wAny (F := F) c G) n ∗ rest (wIdle (F := F) c G) n) ∗ upto (flyW c G A) n)) _
  | k + 1, n, h => by
    have e := tri_startWs k (n + 1) (by omega)
    rw [show n + (k + 1) = n + 1 + k by omega]
    unfold Tri startWs
    iintro ⟨⟨Hi, Ha, Hd⟩, Hf⟩
    ihave H := (rest_take _ n (by omega)) $$ Hi
    icases H with ⟨Hi0, Hi⟩
    ihave H := (rest_take _ n (by omega)) $$ Ha
    icases H with ⟨Ha0, Ha⟩
    ihave H := (rest_take _ n (by omega)) $$ Hd
    icases H with ⟨Hd0, Hd⟩
    iapply (tri_startW G A ⟨n, _⟩).use
    iframe Hi0 Ha0 Hd0
    iintro %_ Hf0
    iapply e.ent
    iframe
    iapply (upto_put _ n (by omega)); iframe

theorem tri_prologue :
    Tri defs 𝒱 c (Before c G a b A) (prologue G a b) fun _ => iprop(Begun c G a b A ∗ own c G.nw A.nw) := by
  have ew := tri_startWs (defs := defs) (𝒱 := 𝒱) (c := c) G A 15 0 (by omega)
  have eq := tri_quantises (defs := defs) (𝒱 := 𝒱) (c := c) G a A 0 8 0 (by omega)
  have et := tri_tables' (defs := defs) (𝒱 := 𝒱) (c := c) G a A 0 (by omega)
  unfold Begun
  rw [flx_fly G b A 1 (by omega)]
  unfold Tri prologue Before slotFree
  iintro ⟨⟨⟨Hax, Hac, Hao, Hasc⟩, Haxi, Haci, Haoi⟩, ⟨⟨Hbx, Hbc, Hbo, Hbsc⟩, Hbxi, Hbci, Hboi⟩, ⟨Hxr, Hwi, Hca, Hqr⟩, ⟨Hwa, Hwd, Hnf, Hfr⟩, ⟨Hnw, Hpo, Hws, Hso⟩, Hw⟩
  ihave H := (rest_take _ 0 (by omega)) $$ Hxr
  icases H with ⟨Hx0, Hxr⟩
  ihave H := (rest_take _ 1 (by omega)) $$ Hxr
  icases H with ⟨Hx1, Hxr⟩
  iapply (tri_startX G a A 0 _).use
  isplitl [Hax Haxi Hx0]
  · isplitl [Hx0]; · iexact Hx0
    iframe
  iintro %_ Hfa
  ihave Hz := (upto_nil (flyW c G A))
  iapply ew.use
  iframe Hwi Hwa Hwd Hz
  iintro %_ ⟨-, Hfw⟩
  iapply (tri_startX G b A 1 _).use
  isplitl [Hbx Hbxi Hx1]
  · isplitl [Hx1]; · iexact Hx1
    iframe
  iintro %_ Hfb
  iapply (tri_widen G A).use
  iframe Hnw Hnf
  iintro %_ ⟨Hnw, Hnf⟩
  iapply (tri_fillFreq G).use
  iframe Hfr
  iintro %_ Hfr
  iapply (tri_waitX G a A 0 _).use
  iframe Hfa Hw
  iintro %_ ⟨⟨Hax, Hx0⟩, Haxi, Hw⟩
  iapply eq.use
  isplitl [Hax Hnf Hac Hasc Hso]
  · isplitl [Hax]; · iexact Hax
    isplitl [Hnf]; · iexact Hnf
    unfold scraps prepQ
    icases Hasc with ⟨Hs, Hco, Hsi⟩
    iframe
    isplitl [Hac]
    · iapply (part_none a.codes _ (by intro i; omega)); iexact Hac
    isplitl [Hs]
    · iapply (part_none a.xs _ (by intro i; omega)); iexact Hs
    iapply (part_none G.xsOut _ (by intro i; show ¬ _ < 0; omega)); iexact Hso
  iintro %_ ⟨Hax, Hnf, Hq⟩
  iapply et.fin
  isplitl [Hq Hnf Hfr Hpo Hws]
  · unfold statics
    isplitr [Hq]
    · iframe
    iexact Hq
  iintro %_ ⟨Hst, Hp⟩
  unfold wPart
  iframe
  ihave Hz1 := (upto_nil (wHere c G A))
  ihave Hz2 := (upto_nil (wIn c G A))
  ihave Hz3 := (upto_nil (wIdle (F := F) c G))
  isplitl [Hfw]
  · iframe Hz1 Hz2 Hz3
    rw [rest_zero, ← upto_all]
    iexact Hfw
  isplitr [Hp]
  · isplitl [Hax]; · iapply (own_some a.x _) $$ Hax
    ihave Hz4 := (upto_nil (xIn c G A))
    iapply (upto_put _ 0 (by omega)); iframe
    iexact Hz4
  iexact Hp

theorem tri_pair (t : ℕ) (ht : t < 5) :
    Tri defs 𝒱 c (St c G b a A (2 * t) (by omega)) (pair G a b t ht) fun _ => St c G b a A (2 * (t + 1)) (by omega) := by
  unfold pair
  exact (tri_stepMid G b a A (2 * t) (by omega)).bind fun _ => tri_stepMid G a b A (2 * t + 1) (by omega)

/-- The whole body, its loop known by what it takes to what. -/
theorem tri_whole (loop : P nD τ sig Λ F PUnit)
    (hloop : Tri defs 𝒱 c (St c G b a A 0 (by omega)) loop fun _ => St c G b a A 10 (by omega)) :
    Tri defs 𝒱 c (Before c G a b A) (wholeCut G a b loop) fun _ => After c G a b A := by
  rw [wholeCut_eq]
  unfold whole
  refine (tri_prologue G a b A).bind fun _ => ?_
  refine (tri_stepFirst G a b A).framed.bind fun _ => ?_
  refine hloop.framed.framed.bind fun _ => ?_
  refine (tri_stepLast G a b A).framed.framed.bind fun _ => ?_
  refine (tri_finish G a b A).conseq ?_ fun _ => .rfl
  iintro ⟨⟨H, H'⟩, H''⟩
  iframe

end steps

end Cert.Blocks

end
end
-- ==== Proof.Arrays.lean ====
module

public import proofs.«01_k».proof.Proof.Whole

@[expose] public section

noncomputable section

/-! # The arrays as wholes and as tiles -/

namespace Cert.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {defs : Defs nD τ sig (Elt F) Λ} {𝒱 : Variants} {c : Dev nD} {α β : Type}

section joined

variable (A : Args F)

/-- The codes and the results as whole arrays. -/
def Args.codesAll : Vec F S3072x5120 .fp8e4m3 := fun i =>
  A.codes ⟨(i 0).val / 256, by have : (i 0).val < 3072 := (i 0).isLt; omega⟩ (ix2 ⟨(i 0).val % 256, Nat.mod_lt _ (by omega)⟩ (i 1))
def Args.partAll (n : Fin 3) : Vec F S10x3072x128 .bf16 := fun i =>
  A.part ⟨(i 1).val / 256, by have : (i 1).val < 3072 := (i 1).isLt; omega⟩ n
    (ix3 (i 0) ⟨(i 1).val % 256, Nat.mod_lt _ (by omega)⟩ (i 2))

theorem Args.codesAll_rows (t : Fin 12) : (fun j => A.codesAll ((rows t.val t.isLt).emb j)) = A.codes t := by
  funext j
  have h0 : (((rows t.val t.isLt).emb j) 0).val = 256 * t.val + (j 0).val := by simp [Rect.emb_apply]
  have h1 : (((rows t.val t.isLt).emb j) 1).val = 0 + (j 1).val := by simp [Rect.emb_apply]
  have hj : (j 0).val < 256 := (j 0).isLt
  unfold Args.codesAll
  congr 1
  · congr 1; first | omega | (apply Fin.ext; simp only; omega)
  · funext a; apply Fin.ext; fin_cases a
    · show _ % 256 = (j 0).val; omega
    · show (((rows t.val t.isLt).emb j) 1).val = (j 1).val; omega

theorem Args.partAll_rows (n : Fin 3) (t : Fin 12) : (fun j => A.partAll n ((orows t.val t.isLt).emb j)) = A.part t n := by
  funext j
  have h0 : (((orows t.val t.isLt).emb j) 0).val = 0 + (j 0).val := by simp [Rect.emb_apply]
  have h1 : (((orows t.val t.isLt).emb j) 1).val = 256 * t.val + (j 1).val := by simp [Rect.emb_apply]
  have h2 : (((orows t.val t.isLt).emb j) 2).val = 0 + (j 2).val := by simp [Rect.emb_apply]
  have hj : (j 1).val < 256 := (j 1).isLt
  unfold Args.partAll
  congr 1
  · congr 1; first | omega | (apply Fin.ext; simp only; omega)
  · funext a; apply Fin.ext; fin_cases a
    · show (((orows t.val t.isLt).emb j) 0).val = (j 0).val; omega
    · show _ % 256 = (j 1).val; omega
    · show (((orows t.val t.isLt).emb j) 2).val = (j 2).val; omega

variable (c : Dev nD) (G : Glob sig)

theorem x_split : own c G.x A.x ⊢ (rest (xIn c G A) 0 : sProp 𝕄) := by
  rw [rest_zero]; exact owns_rects (c : Thread nD τ) G.x fullShare (fun t : Fin 12 => rows t.val t.isLt) (fun _ _ => rfl) rows_disjoint rows_cover A.x
theorem w_split : own c G.w A.w ⊢ (rest (wIn c G A) 0 : sProp 𝕄) := by
  rw [rest_zero]; exact owns_rects (c : Thread nD τ) G.w fullShare cols (fun _ _ => rfl) cols_disjoint cols_cover A.w
theorem c_split : some (F := F) c G.codes ⊢ (rest (cAny (F := F) c G) 0 : sProp 𝕄) := by
  rw [rest_zero]
  iintro ⟨%X, H⟩
  iapply ((owns_rects (c : Thread nD τ) G.codes fullShare (fun t : Fin 12 => rows t.val t.isLt) (fun _ _ => rfl) rows_disjoint rows_cover X).trans
    (bigSep_mono fun t _ => show _ ⊢ cAny (F := F) c G t from by unfold cAny; iintro H; iexists _; iexact H)) $$ H
theorem q_split (i : Fin 3) : some (F := F) c (G.qkv i) ⊢ (rest (qAny (F := F) c G i) 0 : sProp 𝕄) := by
  rw [rest_zero]
  iintro ⟨%X, H⟩
  iapply ((owns_rects (c : Thread nD τ) (G.qkv i) fullShare (fun t : Fin 12 => orows t.val t.isLt) (fun _ _ => rfl) orows_disjoint orows_cover X).trans
    (bigSep_mono fun t _ => show _ ⊢ qAny (F := F) c G i t from by unfold qAny; iintro H; iexists _; iexact H)) $$ H
theorem b_split : some (F := F) c G.wBuf ⊢ (rest (wAny (F := F) c G) 0 : sProp 𝕄) := by
  rw [rest_zero]
  iintro ⟨%X, H⟩
  iapply ((owns_rects (c : Thread nD τ) G.wBuf fullShare cols (fun _ _ => rfl) cols_disjoint cols_cover X).trans
    (bigSep_mono fun t _ => show _ ⊢ wAny (F := F) c G t from by unfold wAny; iintro H; iexists _; iexact H)) $$ H

theorem x_join : upto (xIn c G A) 12 ⊢ (own c G.x A.x : sProp 𝕄) := by
  rw [upto_all]; exact owns_of_rects (c : Thread nD τ) G.x fullShare (fun t : Fin 12 => rows t.val t.isLt) (fun _ _ => rfl) rows_disjoint rows_cover A.x
theorem w_join : upto (wIn c G A) 15 ⊢ (own c G.w A.w : sProp 𝕄) := by
  rw [upto_all]; exact owns_of_rects (c : Thread nD τ) G.w fullShare cols (fun _ _ => rfl) cols_disjoint cols_cover A.w
theorem b_join : upto (wHere c G A) 15 ⊢ (own c G.wBuf A.w : sProp 𝕄) := by
  rw [upto_all]; exact owns_of_rects (c : Thread nD τ) G.wBuf fullShare cols (fun _ _ => rfl) cols_disjoint cols_cover A.w
theorem c_join : upto (cOut c G A) 12 ⊢ (own c G.codes A.codesAll : sProp 𝕄) := by
  rw [upto_all]
  refine (bigSep_mono fun t _ => ?_).trans
    (owns_of_rects (c : Thread nD τ) G.codes fullShare (fun t : Fin 12 => rows t.val t.isLt) (fun _ _ => rfl) rows_disjoint rows_cover A.codesAll)
  rw [A.codesAll_rows t]
  show (cOut c G A t : sProp 𝕄) ⊢ own c (crow G t) (A.codes t)
  exact .rfl
theorem q_join (i : Fin 3) : upto (qOut c G A i) 12 ⊢ (own c (G.qkv i) (A.partAll i) : sProp 𝕄) := by
  rw [upto_all]
  refine (bigSep_mono fun t _ => ?_).trans
    (owns_of_rects (c : Thread nD τ) (G.qkv i) fullShare (fun t : Fin 12 => orows t.val t.isLt) (fun _ _ => rfl) orows_disjoint orows_cover (A.partAll i))
  rw [A.partAll_rows i t]
  show (qOut c G A i t : sProp 𝕄) ⊢ own c (qrow G i t) (A.part t i)
  exact .rfl

variable (a b : Slot sig)

/-- What the body is given and what it leaves, buffer by buffer. -/
theorem before_of :
    iprop(slotFree (F := F) c a ∗ slotFree (F := F) c b
      ∗ (own c G.x A.x ∗ own c G.w A.w ∗ some (F := F) c G.codes ∗ some (F := F) c (G.qkv 0) ∗ some (F := F) c (G.qkv 1) ∗ some (F := F) c (G.qkv 2))
      ∗ (some (F := F) c G.wBuf ∗ bigSep Finset.univ (wIdle (F := F) c G) ∗ some (F := F) c G.nwf ∗ some (F := F) c G.freq)
      ∗ (own c G.nw A.nw ∗ own c G.pos A.pos ∗ own c G.ws A.ws ∗ some (F := F) c G.xsOut) ∗ waits c)
      ⊢ (Before c G a b A : sProp 𝕄) := by
  unfold Before qRest
  rw [← rest_zero]
  iintro ⟨Ha, Hb, ⟨Hx, Hw, Hc, H0, H1, H2⟩, ⟨HB, Hr⟩, Hs⟩
  ihave Hx := (x_split A c G) $$ Hx
  ihave Hw := (w_split A c G) $$ Hw
  ihave Hc := (c_split c G) $$ Hc
  ihave H0 := (q_split c G 0) $$ H0
  ihave H1 := (q_split c G 1) $$ H1
  ihave H2 := (q_split c G 2) $$ H2
  ihave HB := (b_split c G) $$ HB
  iframe

theorem of_after :
    (After c G a b A : sProp 𝕄)
      ⊢ iprop(slotFree (F := F) c a ∗ slotFree (F := F) c b
      ∗ (own c G.x A.x ∗ own c G.w A.w ∗ own c G.codes A.codesAll ∗ own c (G.qkv 0) (A.partAll 0) ∗ own c (G.qkv 1) (A.partAll 1) ∗ own c (G.qkv 2) (A.partAll 2))
      ∗ (some (F := F) c G.wBuf ∗ bigSep Finset.univ (wIdle (F := F) c G) ∗ some (F := F) c G.nwf ∗ some (F := F) c G.freq)
      ∗ (own c G.nw A.nw ∗ own c G.pos A.pos ∗ own c G.ws A.ws ∗ own c G.xsOut A.xsOut) ∗ waits c) := by
  unfold After qDone
  rw [← upto_all]
  iintro ⟨Ha, Hb, ⟨Hx, Hw, Hc, H0, H1, H2⟩, ⟨HB, Hi, Hn, Hf⟩, Hs⟩
  ihave Hx := (x_join A c G) $$ Hx
  ihave Hw := (w_join A c G) $$ Hw
  ihave Hc := (c_join A c G) $$ Hc
  ihave H0 := (q_join A c G 0) $$ H0
  ihave H1 := (q_join A c G 1) $$ H1
  ihave H2 := (q_join A c G 2) $$ H2
  ihave HB := (b_join A c G) $$ HB
  isplitl [Ha]; · iexact Ha
  isplitl [Hb]; · iexact Hb
  isplitl [Hx Hw Hc H0 H1 H2]; · iframe
  isplitl [HB Hi Hn Hf]
  · isplitl [HB]; · iexists _; iexact HB
    isplitl [Hi]; · iexact Hi
    isplitl [Hn]; · iexists _; iexact Hn
    iexists _; iexact Hf
  iexact Hs

end joined

end Cert.Blocks

end
end
-- ==== Proof.EquationKernel.lean ====
module

public import proofs.«01_k».proof.Kernel
public import proofs.«01_k».proof.Proof.Blocks
public import Idealize.ShloMosaic.Lib.Tactic

@[expose] public section

set_option maxRecDepth 100000

noncomputable section

/-! # The printed body is the structured program -/

namespace Cert.Kernel

open Idealize.ShloMosaic Idealize.SL.Sem

variable {F : FTy → Type} [FloatOps F] [Facts]
open Facts₀ Facts

section

variable (arg0 : Memref sig .tc .hbm S3072x5120 .bf16) (harg0 : arg0.IsWhole) (arg1 : Memref sig .tc .vmem S40x128 .bf16)
  (harg1 : arg1.IsWhole) (arg2 : Memref sig .tc .hbm S5120x3840 .fp8e4m3) (harg2 : arg2.IsWhole)
  (arg3 : Memref sig .tc .vmem S30x128 .f32) (harg3 : arg3.IsWhole) (arg4 : Memref sig .tc .vmem S1x3072 .i32)
  (harg4 : arg4.IsWhole) (arg5 : Memref sig .tc .hbm S10x3072x128 .bf16) (harg5 : arg5.IsWhole)
  (arg6 : Memref sig .tc .hbm S10x3072x128 .bf16) (harg6 : arg6.IsWhole)
  (arg7 : Memref sig .tc .hbm S10x3072x128 .bf16) (harg7 : arg7.IsWhole)
  (arg8 : Memref sig .tc .hbm S3072x5120 .fp8e4m3) (harg8 : arg8.IsWhole) (arg9 : Memref sig .tc .vmem S24x128 .f32)
  (harg9 : arg9.IsWhole) (arg10 : Memref sig .tc .vmem S256x5120 .bf16) (harg10 : arg10.IsWhole)
  (arg11 : Memref sig .tc .vmem S256x5120 .bf16) (harg11 : arg11.IsWhole)
  (arg12 : Memref sig .tc .vmem S5120x3840 .fp8e4m3) (harg12 : arg12.IsWhole)
  (arg13 : Memref sig .tc .vmem S256x5120 .fp8e4m3) (harg13 : arg13.IsWhole)
  (arg14 : Memref sig .tc .vmem S256x5120 .fp8e4m3) (harg14 : arg14.IsWhole)
  (arg15 : Memref sig .tc .vmem S30x256x128 .bf16) (harg15 : arg15.IsWhole)
  (arg16 : Memref sig .tc .vmem S30x256x128 .bf16) (harg16 : arg16.IsWhole)
  (arg17 : Memref sig .tc .vmem S256x128 .f32) (harg17 : arg17.IsWhole) (arg18 : Memref sig .tc .vmem S256x128 .f32)
  (harg18 : arg18.IsWhole) (arg19 : Memref sig .tc .vmem S256x128 .f32) (harg19 : arg19.IsWhole)
  (arg20 : Memref sig .tc .vmem S256x128 .f32) (harg20 : arg20.IsWhole) (arg21 : Memref sig .tc .vmem S256x128 .f32)
  (harg21 : arg21.IsWhole) (arg22 : Memref sig .tc .vmem S256x128 .f32) (harg22 : arg22.IsWhole)
  (arg23 : Memref sig .tc .vmem S40x128 .f32) (harg23 : arg23.IsWhole) (arg24 : Memref sig .tc .vmem S1x128 .f32)
  (harg24 : arg24.IsWhole) (arg25 : DmaSems sig S2) (arg26 : DmaSems sig S15) (arg27 : DmaSems sig S2)
  (arg28 : DmaSems sig S2x3)

/-- The shared operands. -/
def glob : Blocks.Glob sig where
  x := arg0
  hx := harg0
  nw := arg1
  w := arg2
  hw := harg2
  ws := arg3
  pos := arg4
  qkv := fun | 0 => arg5 | 1 => arg6 | 2 => arg7
  hqkv := fun | 0 => harg5 | 1 => harg6 | 2 => harg7
  codes := arg8
  hcodes := harg8
  xsOut := arg9
  wBuf := arg12
  hwBuf := harg12
  nwf := arg23
  freq := arg24
  wsem := fun n => ((arg26.slice (Rect.unit (s := S15) ![n.val] S1.size (Blocks.inb1 n.isLt))).squeeze S_ squeezes_S1_S_).sem

/-- Slot 0. -/
def slot0 : Blocks.Slot sig where
  x := arg10
  hx := harg10
  codes := arg13
  hcodes := harg13
  out := arg15
  hout := harg15
  xs := arg17
  cos := arg19
  sin := arg21
  xsem := ((arg25.slice (Rect.unit (s := S2) ![0] S1.size inb_S2_S1_0)).squeeze S_ squeezes_S1_S_).sem
  csem := ((arg27.slice (Rect.unit (s := S2) ![0] S1.size inb_S2_S1_0)).squeeze S_ squeezes_S1_S_).sem
  osem := fun i => ((arg28.slice (Rect.unit (s := S2x3) ![0, i.val] S1x1.size (Blocks.inb (by omega) i.isLt))).squeeze S_ squeezes_S1x1_S_).sem

/-- Slot 1. -/
def slot1 : Blocks.Slot sig where
  x := arg11
  hx := harg11
  codes := arg14
  hcodes := harg14
  out := arg16
  hout := harg16
  xs := arg18
  cos := arg20
  sin := arg22
  xsem := ((arg25.slice (Rect.unit (s := S2) ![1] S1.size inb_S2_S1_1)).squeeze S_ squeezes_S1_S_).sem
  csem := ((arg27.slice (Rect.unit (s := S2) ![1] S1.size inb_S2_S1_1)).squeeze S_ squeezes_S1_S_).sem
  osem := fun i => ((arg28.slice (Rect.unit (s := S2x3) ![1, i.val] S1x1.size (Blocks.inb (by omega) i.isLt))).squeeze S_ squeezes_S1x1_S_).sem

/-- The loop's trip, as printed. -/
def trip (k0_t1 : Fin k0_t1_loop.trips) : Prog (TpuEff nD τ sig (Elt F) Λ₀ .tc) PUnit := do
  let c0_i32_10102 : BitVec 32 := 0#32
  let c1_i32_10104 : BitVec 32 := 1#32
  let ⟨v40648, v40649⟩ : Σ' (v40648 : FVec F S256x128 .bf16), Vec F S1x256x128 .bf16 ← k0_part535 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 c0_i32_10102 c1_i32_10104 k0_t1
  have v40650 : FVec F S256x128 .bf16 := shapeCast S256x128 v40649 shapeCasts_S1x256x128_S256x128
  have v40651 : FVec F S1x256x128 .bf16 := shapeCast S1x256x128 v40648 shapeCasts_S256x128_S1x256x128
  Prog.lift (.store arg15 (Rect.unit (s := S30x256x128) ![29, 0, 0] S1x256x128.size inb_S30x256x128_S1x256x128_29_0_0) v40651 Finset.univ (View.stores_vmem h_S1x256x128 (harg15.storeExact_slice rfl _ packedbf16_S30x256x128_S1x256x128_29_0_0) (fun _ => rfl)) (.inl rfl))
  pure ⟨⟩

theorem trip_eq (t : Fin k0_t1_loop.trips) (ht : t.val < 5) :
    trip (F := F) arg0 harg0 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 arg20 harg20 arg21 harg21 arg22 harg22 arg23 harg23 arg24 harg24 arg25 arg26
      arg27 arg28 t =
    Blocks.pair
      (glob arg0 harg0 arg1 arg2 harg2 arg3 arg4 arg5 harg5 arg6 harg6 arg7 harg7 arg8 harg8 arg9 arg12 harg12 arg23 arg24 arg26)
      (slot0 arg10 harg10 arg13 harg13 arg15 harg15 arg17 arg19 arg21 arg25 arg27 arg28)
      (slot1 arg11 harg11 arg14 harg14 arg16 harg16 arg18 arg20 arg22 arg25 arg27 arg28) t.val ht := by
  obtain ⟨t, h⟩ := t
  rcases (show t = 0 ∨ t = 1 ∨ t = 2 ∨ t = 3 ∨ t = 4 from by simp only at ht; omega) with rfl | rfl | rfl | rfl | rfl <;> sl_kernel_rfl

theorem cut_eq :
    cc0_qkv_fp8_rope (F := F) arg0 harg0 arg1 harg1 arg2 harg2 arg3 harg3 arg4 harg4 arg5 harg5 arg6 harg6 arg7 harg7
      arg8 harg8 arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24 arg25
      arg26 arg27 arg28 =
    Blocks.wholeCut
      (glob arg0 harg0 arg1 arg2 harg2 arg3 arg4 arg5 harg5 arg6 harg6 arg7 harg7 arg8 harg8 arg9 arg12 harg12 arg23 arg24 arg26)
      (slot0 arg10 harg10 arg13 harg13 arg15 harg15 arg17 arg19 arg21 arg25 arg27 arg28)
      (slot1 arg11 harg11 arg14 harg14 arg16 harg16 arg18 arg20 arg22 arg25 arg27 arg28)
      (Scf.Loop.for k0_t1_loop k0_t1_ok ⟨⟩ fun t _ =>
        trip (F := F) arg0 harg0 arg1 harg1 arg2 harg2 arg3 harg3 arg4 harg4 arg5 harg5 arg6 harg6 arg7 harg7 arg8
          harg8 arg9 harg9 arg10 harg10 arg11 harg11 arg12 harg12 arg13 harg13 arg14 harg14 arg15 harg15 arg16 harg16
          arg17 harg17 arg18 harg18 arg19 harg19 arg20 harg20 arg21 harg21 arg22 harg22 arg23 harg23 arg24 harg24
          arg25 arg26 arg27 arg28 t) := by
  sl_kernel_rfl

end

end Cert.Kernel

end
end
-- ==== Proof.Printed.lean ====
module

public import proofs.«01_k».proof.Proof.EquationKernel
public import proofs.«01_k».proof.Proof.Whole
public import proofs.«01_k».proof.Proof.Gen.Kernel.Points

@[expose] public section

noncomputable section

/-! # The body, run -/

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (Pipeline.UD sig nD τ) ℕ

theorem trips5 : k0_t1_loop.trips = 5 := by decide

section

variable (arg0 : Memref sig .tc .hbm S3072x5120 .bf16) (harg0 : arg0.IsWhole) (arg1 : Memref sig .tc .vmem S40x128 .bf16)
  (harg1 : arg1.IsWhole) (arg2 : Memref sig .tc .hbm S5120x3840 .fp8e4m3) (harg2 : arg2.IsWhole)
  (arg3 : Memref sig .tc .vmem S30x128 .f32) (harg3 : arg3.IsWhole) (arg4 : Memref sig .tc .vmem S1x3072 .i32)
  (harg4 : arg4.IsWhole) (arg5 : Memref sig .tc .hbm S10x3072x128 .bf16) (harg5 : arg5.IsWhole)
  (arg6 : Memref sig .tc .hbm S10x3072x128 .bf16) (harg6 : arg6.IsWhole)
  (arg7 : Memref sig .tc .hbm S10x3072x128 .bf16) (harg7 : arg7.IsWhole)
  (arg8 : Memref sig .tc .hbm S3072x5120 .fp8e4m3) (harg8 : arg8.IsWhole) (arg9 : Memref sig .tc .vmem S24x128 .f32)
  (harg9 : arg9.IsWhole) (arg10 : Memref sig .tc .vmem S256x5120 .bf16) (harg10 : arg10.IsWhole)
  (arg11 : Memref sig .tc .vmem S256x5120 .bf16) (harg11 : arg11.IsWhole)
  (arg12 : Memref sig .tc .vmem S5120x3840 .fp8e4m3) (harg12 : arg12.IsWhole)
  (arg13 : Memref sig .tc .vmem S256x5120 .fp8e4m3) (harg13 : arg13.IsWhole)
  (arg14 : Memref sig .tc .vmem S256x5120 .fp8e4m3) (harg14 : arg14.IsWhole)
  (arg15 : Memref sig .tc .vmem S30x256x128 .bf16) (harg15 : arg15.IsWhole)
  (arg16 : Memref sig .tc .vmem S30x256x128 .bf16) (harg16 : arg16.IsWhole)
  (arg17 : Memref sig .tc .vmem S256x128 .f32) (harg17 : arg17.IsWhole) (arg18 : Memref sig .tc .vmem S256x128 .f32)
  (harg18 : arg18.IsWhole) (arg19 : Memref sig .tc .vmem S256x128 .f32) (harg19 : arg19.IsWhole)
  (arg20 : Memref sig .tc .vmem S256x128 .f32) (harg20 : arg20.IsWhole) (arg21 : Memref sig .tc .vmem S256x128 .f32)
  (harg21 : arg21.IsWhole) (arg22 : Memref sig .tc .vmem S256x128 .f32) (harg22 : arg22.IsWhole)
  (arg23 : Memref sig .tc .vmem S40x128 .f32) (harg23 : arg23.IsWhole) (arg24 : Memref sig .tc .vmem S1x128 .f32)
  (harg24 : arg24.IsWhole) (arg25 : DmaSems sig S2) (arg26 : DmaSems sig S15) (arg27 : DmaSems sig S2)
  (arg28 : DmaSems sig S2x3)

variable {defs : Defs nD τ sig (Elt F) Λ₀} {𝒱 : Variants} {c : Dev nD}

/-- The loop's invariant before trip `k`. -/
def between (c : Dev nD) (G : Blocks.Glob sig) (a b : Blocks.Slot sig) (A : Blocks.Args F) (k : ℕ) : sProp 𝕄 :=
  if h : 2 * k + 2 ≤ 12 then Blocks.St c G b a A (2 * k) h else iprop(emp)

theorem between_of (c : Dev nD) (G : Blocks.Glob sig) (a b : Blocks.Slot sig) (A : Blocks.Args F) (k : ℕ)
    (h : 2 * k + 2 ≤ 12) : between c G a b A k = Blocks.St c G b a A (2 * k) h := dif_pos h

theorem tri_loop (G : Blocks.Glob sig) (a b : Blocks.Slot sig) (A : Blocks.Args F)
    (body : Fin k0_t1_loop.trips → Prog (TpuEff nD τ sig (Elt F) Λ₀ .tc) PUnit)
    (hbody : ∀ (t : Fin k0_t1_loop.trips) (ht : t.val < 5), body t = Blocks.pair G a b t.val ht) :
    Blocks.Tri defs 𝒱 c (Blocks.St c G b a A 0 (by omega)) (Scf.Loop.for k0_t1_loop k0_t1_ok ⟨⟩ fun t _ => body t)
      fun _ => Blocks.St c G b a A 10 (by omega) := by
  unfold Blocks.Tri
  have hb : ∀ (k : Fin k0_t1_loop.trips) (acc : PUnit), between c G a b A k.val ⊢
      wp frame (wpE defs 𝒱 (c : Thread nD τ) none) Set.univ (body k) (fun _ => between c G a b A (k.val + 1)) := by
    intro k _
    have hk : k.val < 5 := lt_of_lt_of_eq k.isLt trips5
    rw [hbody k hk, between_of c G a b A k.val (by omega), between_of c G a b A (k.val + 1) (by omega)]
    exact Blocks.tri_pair G a b A k.val hk
  have h0 : Blocks.St c G b a A 0 (by omega) ⊢ between c G a b A 0 := by rw [between_of c G a b A 0 (by omega)]
  have h5 : between c G a b A 5 ⊢ Blocks.St c G b a A 10 (by omega) := by rw [between_of c G a b A 5 (by omega)]
  refine BIBase.Entails.trans ?_ (Scf.wp_for _ _ _ _ _ _ _ _ _ (fun k _ => between c G a b A k) hb)
  rw [show Scf.trips k0_t1_loop.lb k0_t1_loop.ub k0_t1_loop.st = 5 from trips5]
  iintro H
  isplitl [H]
  · iapply h0 $$ H
  · iintro %_ H
    iapply h5 $$ H

/-- From the arrays read and the buffers free, the body ends with the arrays written. -/
theorem tri_printed (A : Blocks.Args F) :
    Blocks.Tri defs 𝒱 c
      (Blocks.Before c
        (glob arg0 harg0 arg1 arg2 harg2 arg3 arg4 arg5 harg5 arg6 harg6 arg7 harg7 arg8 harg8 arg9 arg12 harg12 arg23 arg24 arg26)
        (slot0 arg10 harg10 arg13 harg13 arg15 harg15 arg17 arg19 arg21 arg25 arg27 arg28)
        (slot1 arg11 harg11 arg14 harg14 arg16 harg16 arg18 arg20 arg22 arg25 arg27 arg28) A)
      (cc0_qkv_fp8_rope (F := F)
        arg0 harg0 arg1 harg1 arg2 harg2 arg3 harg3 arg4 harg4 arg5 harg5 arg6 harg6 arg7 harg7 arg8 harg8
        arg9 harg9 arg10 harg10 arg11 harg11 arg12 harg12 arg13 harg13 arg14 harg14 arg15 harg15 arg16 harg16
        arg17 harg17 arg18 harg18 arg19 harg19 arg20 harg20 arg21 harg21 arg22 harg22 arg23 harg23 arg24
        harg24 arg25 arg26 arg27 arg28)
      fun _ => Blocks.After c
        (glob arg0 harg0 arg1 arg2 harg2 arg3 arg4 arg5 harg5 arg6 harg6 arg7 harg7 arg8 harg8 arg9 arg12 harg12 arg23 arg24 arg26)
        (slot0 arg10 harg10 arg13 harg13 arg15 harg15 arg17 arg19 arg21 arg25 arg27 arg28)
        (slot1 arg11 harg11 arg14 harg14 arg16 harg16 arg18 arg20 arg22 arg25 arg27 arg28) A := by
  rw [cut_eq]
  exact Blocks.tri_whole _ _ _ A _ (tri_loop _ _ _ A _ fun t ht => trip_eq (t := t) (ht := ht) ..)

end

/-- The operands the call's body runs on. -/
def globT (t : Fin cfg0.N) : Blocks.Glob sig :=
  glob (Memref.whole main_v0) (Memref.isWhole_whole _) (win0_0.stage (cfg0.slots t 0)) (Memref.whole main_arg2)
    (Memref.isWhole_whole _) (win0_1.stage (cfg0.slots t 1)) (win0_2.stage (cfg0.slots t 2)) (Memref.whole main_v3_0)
    (Memref.isWhole_whole _) (Memref.whole main_v3_1) (Memref.isWhole_whole _) (Memref.whole main_v3_2)
    (Memref.isWhole_whole _) (Memref.whole main_v3_3) (Memref.isWhole_whole _) (win0_3.stage (cfg0.slots t 3))
    (Memref.whole cc0_scratch2) (Memref.isWhole_whole _) (Memref.whole cc0_scratch13) (Memref.whole cc0_scratch14)
    cc0_scratch16

def slotA : Blocks.Slot sig :=
  slot0 (Memref.whole cc0_scratch0) (Memref.isWhole_whole _) (Memref.whole cc0_scratch3) (Memref.isWhole_whole _)
    (Memref.whole cc0_scratch5) (Memref.isWhole_whole _) (Memref.whole cc0_scratch7) (Memref.whole cc0_scratch9)
    (Memref.whole cc0_scratch11) cc0_scratch15 cc0_scratch17 cc0_scratch18

def slotB : Blocks.Slot sig :=
  slot1 (Memref.whole cc0_scratch1) (Memref.isWhole_whole _) (Memref.whole cc0_scratch4) (Memref.isWhole_whole _)
    (Memref.whole cc0_scratch6) (Memref.isWhole_whole _) (Memref.whole cc0_scratch8) (Memref.whole cc0_scratch10)
    (Memref.whole cc0_scratch12) cc0_scratch15 cc0_scratch17 cc0_scratch18

/-- From the arrays read and the buffers free, the body ends with the arrays written. -/
theorem tri_body (𝒱 : Variants) (c : Dev nD) (t : Fin cfg0.N) (A : Blocks.Args F) :
    Blocks.Tri (defs₀ (F := F)) 𝒱 c (Blocks.Before c (globT t) slotA slotB A) (bodyAt0 t)
      fun _ => Blocks.After c (globT t) slotA slotB A :=
  tri_printed
    (Memref.whole main_v0) (Memref.isWhole_whole _) (win0_0.stage (cfg0.slots t 0)) (hstage0_0 0)
    (Memref.whole main_arg2) (Memref.isWhole_whole _) (win0_1.stage (cfg0.slots t 1)) (hstage0_1 0)
    (win0_2.stage (cfg0.slots t 2)) (hstage0_2 0) (Memref.whole main_v3_0) (Memref.isWhole_whole _)
    (Memref.whole main_v3_1) (Memref.isWhole_whole _) (Memref.whole main_v3_2) (Memref.isWhole_whole _)
    (Memref.whole main_v3_3) (Memref.isWhole_whole _) (win0_3.stage (cfg0.slots t 3)) (hstage0_3 0)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole
    _) (Memref.whole cc0_scratch12) (Memref.isWhole_whole _) (Memref.whole cc0_scratch13)
    (Memref.isWhole_whole _) (Memref.whole cc0_scratch14) (Memref.isWhole_whole _) cc0_scratch15 cc0_scratch16
    cc0_scratch17 cc0_scratch18
    A

end Cert.Kernel

end
end
-- ==== Proof.Launch.lean ====
module

public import proofs.«01_k».proof.Proof.Arrays
public import proofs.«01_k».proof.Proof.Printed
public import proofs.«01_k».proof.Proof.Gen.Kernel.Frame
public import Idealize.ShloMosaic.Lib.Pipeline.FrameSuffixV
public import Idealize.ShloMosaic.Lib.Pipeline.Value

@[expose] public section

noncomputable section

/-! # The call, launched -/

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The call's own semaphores: all but the four of the staged operands. -/
abbrev osem0 : Fin 25 → SemLoc sig := fun j => SemLoc.dma ⟨4 + j.val, by have := j.isLt; show 4 + j.val < 29; omega⟩
theorem ownSemFacts0 : Pipeline.OwnSemFacts spec0 osem0 := by decide +kernel

/-- The arrays the body reads itself, and those it writes itself. -/
def H0 : Finset (Ref sig .tc) := {main_v0, main_arg2}
def R0 : Finset (Ref sig .tc) := {main_v3_0, main_v3_1, main_v3_2, main_v3_3}
theorem H0_sub : H0 ⊆ Pipeline.restRefs sig spec0 := by decide
theorem R0_sub : R0 ⊆ Pipeline.restRefs sig spec0 \ H0 := by decide

/-- The call's operands, as its region finds them. -/
def argsOf (c : Dev nD) : Blocks.Args F where
  x := V m c main_v0
  nw := V m c main_v1
  w := V m c main_arg2
  ws := V m c main_v2
  pos := V m c main_arg4

/-- What the call leaves in the arrays it writes itself. -/
def after (c : Dev nD) (b : Ref sig .tc) : Buf (Elt F) ((c : Thread nD τ).loc b) :=
  if h : b = main_v3_0 then h ▸ (argsOf m c).partAll 0
  else if h : b = main_v3_1 then h ▸ (argsOf m c).partAll 1
  else if h : b = main_v3_2 then h ▸ (argsOf m c).partAll 2
  else if h : b = main_v3_3 then h ▸ (argsOf m c).codesAll
  else V m c b

theorem after_0 (c : Dev nD) : after m c main_v3_0 = (argsOf m c).partAll 0 := dif_pos rfl
theorem after_1 (c : Dev nD) : after m c main_v3_1 = (argsOf m c).partAll 1 :=
  (dif_neg (by decide)).trans (dif_pos rfl)
theorem after_2 (c : Dev nD) : after m c main_v3_2 = (argsOf m c).partAll 2 :=
  (dif_neg (by decide)).trans ((dif_neg (by decide)).trans (dif_pos rfl))
theorem after_3 (c : Dev nD) : after m c main_v3_3 = (argsOf m c).codesAll :=
  (dif_neg (by decide)).trans ((dif_neg (by decide)).trans ((dif_neg (by decide)).trans (dif_pos rfl)))

/-- Before the body the written arrays are as found, after it as the body leaves them. -/
def found (n : Fin (cfg0.N + 1)) (c : Dev nD) (b : Ref sig .tc) : Buf (Elt F) ((c : Thread nD τ).loc b) :=
  if n.val = 0 then V m c b else after m c b

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (argsOf m c).xsOut
  Φ n := Pipeline.ΦDRV osem0 spec0 H0 R0 (V m) (found m n) c
  q _ := fullShare
  owed _ := 0

theorem A_eq (c : Dev nD) (w : Fin cfg0.W) : (dats m 0 c).A w = V m c (Pipeline.arrRef spec0 w) := by
  dsimp only [dats]

theorem iblk0 (c : Dev nD) (t : Fin cfg0.N) : iblk m c 0 t = V m c main_v1 := by
  funext y
  exact congrArg (V m c main_v1) (funext fun a => Fin.ext (Pipeline.Window.rect_emb_val_of_index_zero win0_0 t a rfl y))
theorem iblk1 (c : Dev nD) (t : Fin cfg0.N) : iblk m c 1 t = V m c main_v2 := by
  funext y
  exact congrArg (V m c main_v2) (funext fun a => Fin.ext (Pipeline.Window.rect_emb_val_of_index_zero win0_1 t a rfl y))
theorem iblk2 (c : Dev nD) (t : Fin cfg0.N) : iblk m c 2 t = V m c main_arg4 := by
  funext y
  exact congrArg (V m c main_arg4) (funext fun a => Fin.ext (Pipeline.Window.rect_emb_val_of_index_zero win0_2 t a rfl y))

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

end Cert.Kernel

end
end
-- ==== Proof.Held.lean ====
module

public import proofs.«01_k».proof.Proof.Launch

@[expose] public section

noncomputable section

/-! # The call, run -/

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The call's own semaphores at zero. -/
def sems0 (c : Dev nD) : sProp 𝕄 :=
  iprop(
    semVal ((c : Thread nD τ), SemLoc.dma 4) 0 ∗ semVal ((c : Thread nD τ), SemLoc.dma 5) 0 ∗ semVal ((c :
    Thread nD τ), SemLoc.dma 6) 0 ∗ semVal ((c : Thread nD τ), SemLoc.dma 7) 0 ∗ semVal ((c : Thread nD τ),
    SemLoc.dma 8) 0 ∗ semVal ((c : Thread nD τ), SemLoc.dma 9) 0 ∗ semVal ((c : Thread nD τ), SemLoc.dma 10) 0 ∗
    semVal ((c : Thread nD τ), SemLoc.dma 11) 0 ∗ semVal ((c : Thread nD τ), SemLoc.dma 12) 0 ∗ semVal ((c :
    Thread nD τ), SemLoc.dma 13) 0 ∗ semVal ((c : Thread nD τ), SemLoc.dma 14) 0 ∗ semVal ((c : Thread nD τ),
    SemLoc.dma 15) 0 ∗ semVal ((c : Thread nD τ), SemLoc.dma 16) 0 ∗ semVal ((c : Thread nD τ), SemLoc.dma 17) 0
    ∗ semVal ((c : Thread nD τ), SemLoc.dma 18) 0 ∗ semVal ((c : Thread nD τ), SemLoc.dma 19) 0 ∗ semVal ((c :
    Thread nD τ), SemLoc.dma 20) 0 ∗ semVal ((c : Thread nD τ), SemLoc.dma 21) 0 ∗ semVal ((c : Thread nD τ),
    SemLoc.dma 22) 0 ∗ semVal ((c : Thread nD τ), SemLoc.dma 23) 0 ∗ semVal ((c : Thread nD τ), SemLoc.dma 24) 0
    ∗ semVal ((c : Thread nD τ), SemLoc.dma 25) 0 ∗ semVal ((c : Thread nD τ), SemLoc.dma 26) 0 ∗ semVal ((c :
    Thread nD τ), SemLoc.dma 27) 0 ∗ semVal ((c : Thread nD τ), SemLoc.dma 28) 0)

/-- The buffers of the region at anything. -/
def bufs0 (c : Dev nD) : sProp 𝕄 :=
  iprop(
    Blocks.some (F := F) c (Memref.whole cc0_scratch0) ∗ Blocks.some (F := F) c (Memref.whole cc0_scratch1) ∗
    Blocks.some (F := F) c (Memref.whole cc0_scratch2) ∗ Blocks.some (F := F) c (Memref.whole cc0_scratch3) ∗
    Blocks.some (F := F) c (Memref.whole cc0_scratch4) ∗ Blocks.some (F := F) c (Memref.whole cc0_scratch5) ∗
    Blocks.some (F := F) c (Memref.whole cc0_scratch6) ∗ Blocks.some (F := F) c (Memref.whole cc0_scratch7) ∗
    Blocks.some (F := F) c (Memref.whole cc0_scratch8) ∗ Blocks.some (F := F) c (Memref.whole cc0_scratch9) ∗
    Blocks.some (F := F) c (Memref.whole cc0_scratch10) ∗ Blocks.some (F := F) c (Memref.whole cc0_scratch11) ∗
    Blocks.some (F := F) c (Memref.whole cc0_scratch12) ∗ Blocks.some (F := F) c (Memref.whole cc0_scratch13) ∗
    Blocks.some (F := F) c (Memref.whole cc0_scratch14))

theorem sems0_eq (c : Dev nD) :
    (Pipeline.ownSems0 (Ix := Unit) (Name := ℕ) (U := Pipeline.UD sig nD τ) (Lvl := ℕ) (Val := Elt F) (τ := τ) osem0 c : sProp 𝕄)
      = sems0 c := by
  rw [Pipeline.ownSems0_eq_of_list c osem0 (List.finRange 25) (by decide) (by decide)]; rfl

theorem bufs0_eq (c : Dev nD) :
    (Pipeline.scopedRest (Ix := Unit) (Name := ℕ) (U := Pipeline.UD sig nD τ) (Lvl := ℕ) (Val := Elt F) spec0 c : sProp 𝕄) = bufs0 c := by
  rw [scopedRest0_eq]; unfold bufs0 Blocks.some Blocks.own; simp only [owns_whole]

theorem read0_eq (c : Dev nD) (X : (b : Ref sig .tc) → Buf (Elt F) ((c : Thread nD τ).loc b)) :
    (bigSep H0 (fun b => ((c : Thread nD τ).loc b) ↦{fullShare} X b) : sProp 𝕄)
      = iprop(Blocks.own c (Memref.whole main_v0) (X main_v0) ∗ Blocks.own c (Memref.whole main_arg2) (X main_arg2)) := by
  unfold Blocks.own
  simp only [owns_whole]
  rw [BI.bigSep_eq_bigSepL_of_eq [main_v0, main_arg2] (by decide) (by decide)]; rfl

theorem written0_eq (c : Dev nD) (X : (b : Ref sig .tc) → Buf (Elt F) ((c : Thread nD τ).loc b)) :
    (bigSep R0 (fun b => ((c : Thread nD τ).loc b) ↦{fullShare} X b) : sProp 𝕄)
      = iprop(Blocks.own c (Memref.whole main_v3_0) (X main_v3_0) ∗ Blocks.own c (Memref.whole main_v3_1) (X main_v3_1)
          ∗ Blocks.own c (Memref.whole main_v3_2) (X main_v3_2) ∗ Blocks.own c (Memref.whole main_v3_3) (X main_v3_3)) := by
  unfold Blocks.own
  simp only [owns_whole]
  rw [BI.bigSep_eq_bigSepL_of_eq [main_v3_0, main_v3_1, main_v3_2, main_v3_3] (by decide) (by decide)]; rfl

theorem wIdle_eq (c : Dev nD) (t : Fin cfg0.N) :
    (bigSep Finset.univ (Blocks.wIdle (F := F) c (globT t)) : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [BI.bigSep_univ_eq_bigSepL (List.finRange 15) (by decide) (by decide)]; rfl

theorem phi_eq (c : Dev nD) (X Y : (c : Dev nD) → (b : Ref sig .tc) → Buf (Elt F) ((c : Thread nD τ).loc b)) :
    (Pipeline.ΦDRV osem0 spec0 H0 R0 X Y c : sProp 𝕄)
      = iprop(bufs0 c ∗ sems0 c
          ∗ (Blocks.own c (Memref.whole main_v0) (X c main_v0) ∗ Blocks.own c (Memref.whole main_arg2) (X c main_arg2))
          ∗ Blocks.own c (Memref.whole main_v3_0) (Y c main_v3_0) ∗ Blocks.own c (Memref.whole main_v3_1) (Y c main_v3_1)
          ∗ Blocks.own c (Memref.whole main_v3_2) (Y c main_v3_2) ∗ Blocks.own c (Memref.whole main_v3_3) (Y c main_v3_3)) := by
  unfold Pipeline.ΦDRV
  rw [bufs0_eq, sems0_eq, read0_eq, written0_eq]

/-- The buffers as the body's specification groups them: before, and after. -/
theorem enter (c : Dev nD) (t : Fin cfg0.N) (A : Blocks.Args F) :
    iprop(((Blocks.some (F := F) c (Memref.whole cc0_scratch0) ∗ Blocks.some (F := F) c (Memref.whole cc0_scratch3) ∗ Blocks.some (F := F) c (Memref.whole cc0_scratch5) ∗ (Blocks.some (F := F) c (Memref.whole cc0_scratch7) ∗ Blocks.some (F := F) c (Memref.whole cc0_scratch9) ∗ Blocks.some (F := F) c (Memref.whole cc0_scratch11)))
      ∗ semVal ((c : Thread nD τ), SemLoc.dma 4) 0 ∗ semVal ((c : Thread nD τ), SemLoc.dma 21) 0 ∗ (semVal ((c : Thread nD τ), SemLoc.dma 23) 0 ∗ semVal ((c : Thread nD τ), SemLoc.dma 24) 0 ∗ semVal ((c : Thread nD τ), SemLoc.dma 25) 0)) ∗ ((Blocks.some (F := F) c (Memref.whole cc0_scratch1) ∗ Blocks.some (F := F) c (Memref.whole cc0_scratch4) ∗ Blocks.some (F := F) c (Memref.whole cc0_scratch6) ∗ (Blocks.some (F := F) c (Memref.whole cc0_scratch8) ∗ Blocks.some (F := F) c (Memref.whole cc0_scratch10) ∗ Blocks.some (F := F) c (Memref.whole cc0_scratch12)))
      ∗ semVal ((c : Thread nD τ), SemLoc.dma 5) 0 ∗ semVal ((c : Thread nD τ), SemLoc.dma 22) 0 ∗ (semVal ((c : Thread nD τ), SemLoc.dma 26) 0 ∗ semVal ((c : Thread nD τ), SemLoc.dma 27) 0 ∗ semVal ((c : Thread nD τ), SemLoc.dma 28) 0))
      ∗ (Blocks.own c (Memref.whole main_v0) A.x ∗ Blocks.own c (Memref.whole main_arg2) A.w ∗ Blocks.some (F := F) c (Memref.whole main_v3_3)
        ∗ Blocks.some (F := F) c (Memref.whole main_v3_0) ∗ Blocks.some (F := F) c (Memref.whole main_v3_1) ∗ Blocks.some (F := F) c (Memref.whole main_v3_2))
      ∗ (Blocks.some (F := F) c (Memref.whole cc0_scratch2) ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ Blocks.some (F := F) c (Memref.whole cc0_scratch13) ∗ Blocks.some (F := F) c (Memref.whole cc0_scratch14))
      ∗ (Blocks.own c (win0_0.stage (cfg0.slots t 0)) A.nw ∗ Blocks.own c (win0_2.stage (cfg0.slots t 2)) A.pos
        ∗ Blocks.own c (win0_1.stage (cfg0.slots t 1)) A.ws ∗ Blocks.some (F := F) c (win0_3.stage (cfg0.slots t 3))) ∗ Blocks.waits c)
      ⊢ (Blocks.Before c (globT t) slotA slotB A : sProp 𝕄) := by
  have e := Blocks.before_of (τ := τ) A c (globT t) slotA slotB
  rw [wIdle_eq] at e
  exact e

theorem leave (c : Dev nD) (t : Fin cfg0.N) (A : Blocks.Args F) :
    (Blocks.After c (globT t) slotA slotB A : sProp 𝕄) ⊢
    iprop(((Blocks.some (F := F) c (Memref.whole cc0_scratch0) ∗ Blocks.some (F := F) c (Memref.whole cc0_scratch3) ∗ Blocks.some (F := F) c (Memref.whole cc0_scratch5) ∗ (Blocks.some (F := F) c (Memref.whole cc0_scratch7) ∗ Blocks.some (F := F) c (Memref.whole cc0_scratch9) ∗ Blocks.some (F := F) c (Memref.whole cc0_scratch11)))
      ∗ semVal ((c : Thread nD τ), SemLoc.dma 4) 0 ∗ semVal ((c : Thread nD τ), SemLoc.dma 21) 0 ∗ (semVal ((c : Thread nD τ), SemLoc.dma 23) 0 ∗ semVal ((c : Thread nD τ), SemLoc.dma 24) 0 ∗ semVal ((c : Thread nD τ), SemLoc.dma 25) 0)) ∗ ((Blocks.some (F := F) c (Memref.whole cc0_scratch1) ∗ Blocks.some (F := F) c (Memref.whole cc0_scratch4) ∗ Blocks.some (F := F) c (Memref.whole cc0_scratch6) ∗ (Blocks.some (F := F) c (Memref.whole cc0_scratch8) ∗ Blocks.some (F := F) c (Memref.whole cc0_scratch10) ∗ Blocks.some (F := F) c (Memref.whole cc0_scratch12)))
      ∗ semVal ((c : Thread nD τ), SemLoc.dma 5) 0 ∗ semVal ((c : Thread nD τ), SemLoc.dma 22) 0 ∗ (semVal ((c : Thread nD τ), SemLoc.dma 26) 0 ∗ semVal ((c : Thread nD τ), SemLoc.dma 27) 0 ∗ semVal ((c : Thread nD τ), SemLoc.dma 28) 0))
      ∗ (Blocks.own c (Memref.whole main_v0) A.x ∗ Blocks.own c (Memref.whole main_arg2) A.w ∗ Blocks.own c (Memref.whole main_v3_3) A.codesAll
        ∗ Blocks.own c (Memref.whole main_v3_0) (A.partAll 0) ∗ Blocks.own c (Memref.whole main_v3_1) (A.partAll 1) ∗ Blocks.own c (Memref.whole main_v3_2) (A.partAll 2))
      ∗ (Blocks.some (F := F) c (Memref.whole cc0_scratch2) ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ Blocks.some (F := F) c (Memref.whole cc0_scratch13) ∗ Blocks.some (F := F) c (Memref.whole cc0_scratch14))
      ∗ (Blocks.own c (win0_0.stage (cfg0.slots t 0)) A.nw ∗ Blocks.own c (win0_2.stage (cfg0.slots t 2)) A.pos
        ∗ Blocks.own c (win0_1.stage (cfg0.slots t 1)) A.ws ∗ Blocks.own c (win0_3.stage (cfg0.slots t 3)) A.xsOut) ∗ Blocks.waits c) := by
  have e := Blocks.of_after (τ := τ) A c (globT t) slotA slotB
  rw [wIdle_eq] at e
  exact e

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

theorem found_before (t : Fin cfg0.N) : found m t.castSucc = V m := by
  have h : t.val = 0 := by have h := t.isLt; have h2 : cfg0.N = 1 := N_0; omega
  funext c b; exact if_pos h
theorem found_after (t : Fin cfg0.N) : found m t.succ = after m := by
  funext c b; exact if_neg (Nat.succ_ne_zero _)

theorem owed_waits (c : Dev nD) (n : Fin (cfg0.N + 1)) : (dats m 0 c).owesAt () n ⊢ (Blocks.waits c : sProp 𝕄) := by
  unfold Dat.owesAt Pipeline.owesWithin Blocks.waits
  rw [show (dats m 0 c).owed n = 0 from rfl]
  iintro ⟨%W, -, HW⟩
  iexists W; iexact HW
theorem waits_owed (c : Dev nD) (n : Fin (cfg0.N + 1)) : (Blocks.waits c : sProp 𝕄) ⊢ (dats m 0 c).owesAt () n := by
  unfold Dat.owesAt Pipeline.owesWithin Blocks.waits
  rw [show (dats m 0 c).owed n = 0 from rfl]
  iintro ⟨%W, HW⟩
  iexists W; isplitr; · ipureintro; exact fun _ _ => Or.inl trivial
  iexact HW

theorem pre_enter (c : Dev nD) (t : Fin cfg0.N) : bodyPre m c t ⊢ (Blocks.Before c (globT t) slotA slotB (argsOf m c) : sProp 𝕄) := by
  refine BIBase.Entails.trans ?_ (enter c t (argsOf m c))
  unfold bodyPre
  rw [show (dats m 0 c).Φ t.castSucc = Pipeline.ΦDRV osem0 spec0 H0 R0 (V m) (found m t.castSucc) c from rfl, found_before, phi_eq]
  simp only [before_0, before_1, before_2, iblk0, iblk1, iblk2]
  unfold bufs0 sems0
  have hw := owed_waits m c t.castSucc
  iintro ⟨⟨⟨B0, B1, B2, B3, B4, B5, B6, B7, B8, B9, B10, B11, B12, B13, B14⟩, ⟨S4, S5, S6, S7, S8, S9, S10, S11, S12, S13, S14, S15, S16, S17, S18, S19, S20, S21, S22, S23, S24, S25, S26, S27, S28⟩, ⟨Hx, Hw⟩, H0, H1, H2, H3⟩, HW, ⟨%d0, G0⟩, ⟨%d1, G1⟩, ⟨%d2, G2⟩, ⟨%d3, G3⟩⟩
  ihave HW := hw $$ HW
  isplitl [B0 B3 B5 B7 B9 B11 S4 S21 S23 S24 S25]; · iframe
  isplitl [B1 B4 B6 B8 B10 B12 S5 S22 S26 S27 S28]; · iframe
  isplitl [Hx Hw H0 H1 H2 H3]
  · isplitl [Hx]; · iexact Hx
    isplitl [Hw]; · iexact Hw
    isplitl [H3]; · iexists _; iexact H3
    isplitl [H0]; · iexists _; iexact H0
    isplitl [H1]; · iexists _; iexact H1
    iexists _; iexact H2
  isplitl [B2 S6 S7 S8 S9 S10 S11 S12 S13 S14 S15 S16 S17 S18 S19 S20 B13 B14]; · iframe
  isplitr [HW]
  · isplitl [G0]; · iexact G0
    isplitl [G2]; · iexact G2
    isplitl [G1]; · iexact G1
    iexists _; iexact G3
  iexact HW

theorem leave_post (c : Dev nD) (t : Fin cfg0.N) : (Blocks.After c (globT t) slotA slotB (argsOf m c) : sProp 𝕄) ⊢ bodyPost m c t := by
  refine BIBase.Entails.trans (leave c t (argsOf m c)) ?_
  unfold bodyPost
  rw [show (dats m 0 c).Φ t.succ = Pipeline.ΦDRV osem0 spec0 H0 R0 (V m) (found m t.succ) c from rfl, found_after, phi_eq, after_0, after_1, after_2, after_3,
    show (dats m 0 c).after 0 t = iblk m c 0 t from rfl, show (dats m 0 c).after 1 t = iblk m c 1 t from rfl,
    show (dats m 0 c).after 2 t = iblk m c 2 t from rfl, iblk0, iblk1, iblk2]
  unfold bufs0 sems0
  have hw := waits_owed m c t.succ
  iintro ⟨⟨⟨B0, B3, B5, ⟨B7, B9, B11⟩⟩, S4, S21, ⟨S23, S24, S25⟩⟩, ⟨⟨B1, B4, B6, ⟨B8, B10, B12⟩⟩, S5, S22, ⟨S26, S27, S28⟩⟩, ⟨Hx, Hw, H3, H0, H1, H2⟩, ⟨B2, ⟨S6, S7, S8, S9, S10, S11, S12, S13, S14, S15, S16, S17, S18, S19, S20⟩, B13, B14⟩, ⟨G0, G2, G1, G3⟩, HW⟩
  ihave HW := hw $$ HW
  isplitr [HW G0 G1 G2 G3]
  · isplitl [B0 B1 B2 B3 B4 B5 B6 B7 B8 B9 B10 B11 B12 B13 B14]; · iframe
    isplitl [S4 S5 S6 S7 S8 S9 S10 S11 S12 S13 S14 S15 S16 S17 S18 S19 S20 S21 S22 S23 S24 S25 S26 S27 S28]; · iframe
    isplitl [Hx Hw]
    · isplitl [Hx]; · iexact Hx
      iexact Hw
    isplitl [H0]; · iexact H0
    isplitl [H1]; · iexact H1
    isplitl [H2]; · iexact H2
    iexact H3
  isplitl [HW]; · iexact HW
  isplitl [G0]; · iexact G0
  isplitl [G1]; · iexact G1
  isplitl [G2]; · iexact G2
  iexact G3

theorem sound_body (c : Dev nD) (t : Fin cfg0.N) :
    bodyPre m c t ⊢ wp frame (wpE (defs₀ (F := F)) Variants.none c none) Set.univ (bodyAt0 t) (fun _ => bodyPost m c t) :=
  ((pre_enter m c t).trans (tri_body Variants.none c t (argsOf m c))).trans (wp_mono _ _ _ fun _ => leave_post m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Kernel

end
end
-- ==== Proof.Run.lean ====
module

public import proofs.«01_k».proof.Proof.Held
public import Idealize.ShloMosaic.Lib.Pipeline.ValueKit.Geometry

@[expose] public section

noncomputable section

/-! # The program's runs -/

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Around the call, the host's lines. -/
theorem main_around : Pipeline.HMainK (Ix := Unit) (Name := ℕ) (U := Pipeline.UD sig nD τ) (Lvl := ℕ) cfgs 0 defs₀ Variants.none m
    (main (F := F)) (V m) (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

theorem found_first : found m 0 = V m := by funext c b; exact if_pos rfl
theorem found_last : found m (Fin.last cfg0.N) = after m := by
  funext c b
  have h : cfg0.N = 1 := N_0
  exact if_neg (by rw [Fin.val_last, h]; decide)

/-- What the device's arrays hold once the call is over. -/
def left (c : Dev nD) : Valuation τ sig (Elt F) :=
  Pipeline.withArrays spec0 c (Pipeline.withR (V0 m c) R0 c (after m c)) fun w => (dats m 0 c).arrAt w cfg0.N

set_option backward.isDefEq.respectTransparency.types false in
theorem run_main : θ_run (defs (F := F)) (onTc (τ := τ) (main (F := F))) ⟨m, fun _ => 0, ρ⟩
    (fun r => (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b)
        = StableHlo.after [hostOps1].flatten (left m c) (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl) (howed := fun _ _ => rfl)
    (V₀ := V0 m) (opss := [hostOps1]) sfx_sub sfx_fresh sfx_keeps (after m) (main_around m) (A_eq m)
    (fun c => by
      show _ ⊢ Pipeline.ΦDRV osem0 spec0 H0 R0 (V m) (found m 0) c
      rw [found_first])
    (fun c => by
      show Pipeline.ΦDRV osem0 spec0 H0 R0 (V m) (found m (Fin.last cfg0.N)) c ⊢ _
      rw [found_last])
    (Q' := _) (hQ' := fun _ h => h)

/-- What no line of the host and nothing of the call writes is as the call found it. -/
theorem kept (c : Dev nD) (b : Ref sig .tc) (h1 : ∀ op ∈ ([hostOps1].flatten : List (HloOp τ sig (Elt F))), Proc.devRef .tc b ∉ op.writes)
    (h2 : ∀ w, Pipeline.arrRef spec0 w ≠ b) (h3 : b ∉ R0) :
    StableHlo.after [hostOps1].flatten (left m c) (Proc.devRef .tc b) = V m c b := by
  rw [StableHlo.after_of_forall_not_mem (b := Proc.devRef .tc b) _ _ h1]
  unfold left
  rw [Pipeline.withArrays_of_ne _ c _ _ b h2, Pipeline.withR_of_not_mem _ _ _ _ _ h3]

theorem writes1 (b : Ref sig .tc) (hb : b ∉ [main_v4, main_v5, main_v6, main_v7, main_v8, main_v9, main_v10, main_v11]) :
    ∀ op ∈ ([hostOps1].flatten : List (HloOp τ sig (Elt F))), Proc.devRef .tc b ∉ op.writes := by
  simp only [List.mem_cons, List.not_mem_nil, or_false, not_or] at hb
  obtain ⟨h1, h2, h3, h4, h5, h6, h7, h8⟩ := hb
  have h : (hostOps1 : List (HloOp τ sig (Elt F))).Forall fun op => Proc.devRef .tc b ∉ op.writes := by
   simp only [hostOps1, List.flatten_cons, List.flatten_nil, List.append_nil, List.cons_append, List.nil_append, List.Forall,
    StableHlo.unary_writes, StableHlo.reshape_writes, Finset.mem_singleton]
   exact ⟨StableHlo.devRef_ne_of_ne h1, StableHlo.devRef_ne_of_ne h2, StableHlo.devRef_ne_of_ne h3, StableHlo.devRef_ne_of_ne h4,
    StableHlo.devRef_ne_of_ne h5, StableHlo.devRef_ne_of_ne h6, StableHlo.devRef_ne_of_ne h7, StableHlo.devRef_ne_of_ne h8⟩
  intro op hop
  rw [List.flatten_cons, List.flatten_nil, List.append_nil] at hop
  exact List.forall_iff_forall_mem.mp h op hop

theorem left_R (c : Dev nD) (b : Ref sig .tc) (h2 : ∀ w, Pipeline.arrRef spec0 w ≠ b) (h3 : b ∈ R0) :
    left m c (Proc.devRef .tc b) = after m c b := by
  unfold left
  rw [Pipeline.withArrays_of_ne _ c _ _ b h2, Pipeline.withR_of_mem _ _ _ _ _ h3]

/-- The scales, which the pipeline itself writes back. -/
theorem scales (c : Dev nD) : (dats m 0 c).arrAt 3 cfg0.N = (argsOf m c).xsOut :=
  (dats m 0 c).arrAt_eq_of_after_last 3 t0_0 (by decide +kernel) (argsOf m c).xsOut (fun j => by
    exact congrArg (argsOf m c).xsOut (funext fun a => Fin.ext rfl))

theorem left_scales (c : Dev nD) : left m c (Proc.devRef .tc main_v3_4) = (argsOf m c).xsOut := by
  unfold left
  rw [← scales]
  exact Pipeline.withArrays_arr spec0 (by decide) c _ (fun w => (dats m 0 c).arrAt w cfg0.N) 3

/-- The three parts, as the program returns them. -/
def partOut (c : Dev nD) (n : Fin 3) : Vec F S1x3072x10x128 .bf16 :=
  shapeCast S1x3072x10x128 (transpose S3072x10x128 [1, 0, 2] ((argsOf m c).partAll n) transposes_S10x3072x128_S3072x10x128_1_0_2)
    shapeCasts_S3072x10x128_S1x3072x10x128
/-- The codes, as the program returns them. -/
def codesOut (c : Dev nD) : Vec F S1x3072x5120 .fp8e4m3 :=
  shapeCast S1x3072x5120 (argsOf m c).codesAll shapeCasts_S3072x5120_S1x3072x5120
/-- The scales, as the program returns them. -/
def scalesOut (c : Dev nD) : Vec F S1x3072x1 .f32 :=
  shapeCast S1x3072x1 (argsOf m c).xsOut shapeCasts_S24x128_S1x3072x1

theorem out_v5 (c : Dev nD) : StableHlo.after [hostOps1].flatten (left m c) (Proc.devRef .tc main_v5) = partOut m c 0 := by
  unfold partOut
  rw [← after_0, ← left_R m c main_v3_0 (by decide) (by decide)]
  simp only [List.flatten_cons, List.flatten_nil, List.append_nil]
  after_results
  rfl
theorem out_v7 (c : Dev nD) : StableHlo.after [hostOps1].flatten (left m c) (Proc.devRef .tc main_v7) = partOut m c 1 := by
  unfold partOut
  rw [← after_1, ← left_R m c main_v3_1 (by decide) (by decide)]
  simp only [List.flatten_cons, List.flatten_nil, List.append_nil]
  after_results
  rfl
theorem out_v9 (c : Dev nD) : StableHlo.after [hostOps1].flatten (left m c) (Proc.devRef .tc main_v9) = partOut m c 2 := by
  unfold partOut
  rw [← after_2, ← left_R m c main_v3_2 (by decide) (by decide)]
  simp only [List.flatten_cons, List.flatten_nil, List.append_nil]
  after_results
  rfl
theorem out_v10 (c : Dev nD) : StableHlo.after [hostOps1].flatten (left m c) (Proc.devRef .tc main_v10) = codesOut m c := by
  unfold codesOut
  rw [← after_3, ← left_R m c main_v3_3 (by decide) (by decide)]
  simp only [List.flatten_cons, List.flatten_nil, List.append_nil]
  after_results
  rfl
theorem out_v11 (c : Dev nD) : StableHlo.after [hostOps1].flatten (left m c) (Proc.devRef .tc main_v11) = scalesOut m c := by
  unfold scalesOut
  rw [← left_scales]
  simp only [List.flatten_cons, List.flatten_nil, List.append_nil]
  after_results
  rfl

/-- The program runs to the end with these results, its arguments as they were, and quiet. -/
theorem run_values : θ_run (defs (F := F)) (onTc (τ := τ) (main (F := F))) ⟨m, fun _ => 0, ρ⟩ (fun r => (∀ c : Dev nD,
      r.2.mem ((c.tc : Thread nD τ).loc main_v5) = partOut m c 0
      ∧ r.2.mem ((c.tc : Thread nD τ).loc main_v7) = partOut m c 1
      ∧ r.2.mem ((c.tc : Thread nD τ).loc main_v9) = partOut m c 2
      ∧ r.2.mem ((c.tc : Thread nD τ).loc main_v10) = codesOut m c
      ∧ r.2.mem ((c.tc : Thread nD τ).loc main_v11) = scalesOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run (defs (F := F)) _ _).mono (fun r h => ⟨fun c => ?_, h.2⟩) (run_main m ρ)
  have hb := (h.1 c).2
  refine ⟨(hb _ (Pipeline.mem_restRefs_of main_v5 (by decide) (by decide))).trans (out_v5 m c),
    (hb _ (Pipeline.mem_restRefs_of main_v7 (by decide) (by decide))).trans (out_v7 m c),
    (hb _ (Pipeline.mem_restRefs_of main_v9 (by decide) (by decide))).trans (out_v9 m c),
    (hb _ (Pipeline.mem_restRefs_of main_v10 (by decide) (by decide))).trans (out_v10 m c),
    (hb _ (Pipeline.mem_restRefs_of main_v11 (by decide) (by decide))).trans (out_v11 m c),
    ((hb _ (Pipeline.mem_restRefs_of main_arg0 (by decide) (by decide))).trans
      (kept m c main_arg0 (writes1 _ (by decide)) (by decide) (by decide))).trans (V_main_arg0 m c),
    ((hb _ (Pipeline.mem_restRefs_of main_arg1 (by decide) (by decide))).trans
      (kept m c main_arg1 (writes1 _ (by decide)) (by decide) (by decide))).trans (V_main_arg1 m c),
    ((hb _ (Pipeline.mem_restRefs_of main_arg2 (by decide) (by decide))).trans
      (kept m c main_arg2 (writes1 _ (by decide)) (by decide) (by decide))).trans (V_main_arg2 m c),
    ((hb _ (Pipeline.mem_restRefs_of main_arg3 (by decide) (by decide))).trans
      (kept m c main_arg3 (writes1 _ (by decide)) (by decide) (by decide))).trans (V_main_arg3 m c),
    ((h.1 c).1 2).trans (((dats m 0 c).arrAt_in 2 rfl cfg0.N).trans ((A_eq m c 2).trans (V_main_arg4 m c)))⟩

end Cert.Kernel

end
end
-- ==== Proof.Idealized.lean ====
module

public import proofs.«01_k».proof.Defs
public import proofs.«01_k».proof.Proof.Run
public import Idealize.ShloMosaic.Lib.Tactic

@[expose] public section

set_option maxRecDepth 100000

noncomputable section

/-! # The idealized program is the program's own text -/

namespace Cert.Idealized

open Idealize.ShloMosaic Idealize.SL.Sem
open Cert.Kernel.Gen (facts)

/-- The two programs state the same facts, field by field. -/
theorem facts₀ : Cert.KernelIdeal.Facts₀ :=
  @Cert.Kernel.Facts₀.rec (fun _ => Cert.KernelIdeal.Facts₀) @Cert.KernelIdeal.Facts₀.mk Cert.Kernel.Gen.facts₀

theorem ideal : Cert.KernelIdeal.Facts := @Cert.KernelIdeal.Facts.mk facts₀

/-- The program runs, leaves its arguments, and ends quiet, whatever its floats are. -/
def Quiet (F : FTy → Type) [FloatOps F] : Prop :=
  ∀ (m : (ℓ : Loc Cert.Kernel.nD Cert.Kernel.τ Cert.Kernel.sig) → Buf (Elt F) ℓ) (g : Dev Cert.Kernel.nD → PrngReg), True →
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

/-- Whatever its floats are, the program runs to the end and leaves its arguments. -/
theorem quiet (F : FTy → Type) [FloatOps F] : Quiet F := fun m g _ =>
  (θ_run (Cert.Kernel.defs (F := F)) _ _).mono (fun _ h => ⟨fun c => (h.1 c).2.2.2.2.2, h.2⟩) (Cert.Kernel.run_values m g)

theorem quiet_bits : @Cert.quiescent_Kernel facts = Quiet Bits := by
  sl_kernel_rfl

theorem quiet_ideal : @Cert.quiescent_KernelIdeal ideal = Quiet Ideal := by
  sl_kernel_rfl

end Cert.Idealized

end
end
-- ==== Proof.Agree.lean ====
module

public import proofs.«01_k».proof.Defs
public import proofs.«01_k».proof.Proof.Idealized
public import Idealize.ShloMosaic.Lib.Tactic

@[expose] public section

set_option maxRecDepth 100000

noncomputable section

/-! # The two programs agree -/

namespace Cert.Idealized

open Idealize.ShloMosaic Idealize.SL.Sem

/-- The program at the extended reals and the reference end with the same results. -/
def Agree [hReferenceIdeal : Cert.ReferenceIdeal.Facts] : Prop :=
  ∀ (m : (ℓ : Loc Cert.Kernel.nD Cert.Kernel.τ Cert.Kernel.sig) → Buf (Elt Ideal) ℓ) (g : Dev Cert.Kernel.nD → PrngReg)
    (m' : (ℓ : Loc Cert.ReferenceIdeal.nD Cert.ReferenceIdeal.τ Cert.ReferenceIdeal.sig) → Buf (Elt Ideal) ℓ) (g' : Dev Cert.ReferenceIdeal.nD → PrngReg), True →
    (∀ c : Dev Cert.Kernel.nD,
      m' ((c.tc : Thread Cert.ReferenceIdeal.nD Cert.ReferenceIdeal.τ).loc Cert.ReferenceIdeal.main_arg0) = m ((c.tc : Thread Cert.Kernel.nD Cert.Kernel.τ).loc Cert.Kernel.main_arg0)
      ∧ m' ((c.tc : Thread Cert.ReferenceIdeal.nD Cert.ReferenceIdeal.τ).loc Cert.ReferenceIdeal.main_arg1) = m ((c.tc : Thread Cert.Kernel.nD Cert.Kernel.τ).loc Cert.Kernel.main_arg1)
      ∧ m' ((c.tc : Thread Cert.ReferenceIdeal.nD Cert.ReferenceIdeal.τ).loc Cert.ReferenceIdeal.main_arg2) = m ((c.tc : Thread Cert.Kernel.nD Cert.Kernel.τ).loc Cert.Kernel.main_arg2)
      ∧ m' ((c.tc : Thread Cert.ReferenceIdeal.nD Cert.ReferenceIdeal.τ).loc Cert.ReferenceIdeal.main_arg3) = m ((c.tc : Thread Cert.Kernel.nD Cert.Kernel.τ).loc Cert.Kernel.main_arg3)
      ∧ m' ((c.tc : Thread Cert.ReferenceIdeal.nD Cert.ReferenceIdeal.τ).loc Cert.ReferenceIdeal.main_arg4) = m ((c.tc : Thread Cert.Kernel.nD Cert.Kernel.τ).loc Cert.Kernel.main_arg4)) →
    ∃ (v0 : (c : Dev Cert.Kernel.nD) → Buf (Elt Ideal) ((c.tc : Thread Cert.Kernel.nD Cert.Kernel.τ).loc Cert.Kernel.main_v5)) (v1 : (c : Dev Cert.Kernel.nD) → Buf (Elt Ideal) ((c.tc : Thread Cert.Kernel.nD Cert.Kernel.τ).loc Cert.Kernel.main_v7)) (v2 : (c : Dev Cert.Kernel.nD) → Buf (Elt Ideal) ((c.tc : Thread Cert.Kernel.nD Cert.Kernel.τ).loc Cert.Kernel.main_v9)) (v3 : (c : Dev Cert.Kernel.nD) → Buf (Elt Ideal) ((c.tc : Thread Cert.Kernel.nD Cert.Kernel.τ).loc Cert.Kernel.main_v10)) (v4 : (c : Dev Cert.Kernel.nD) → Buf (Elt Ideal) ((c.tc : Thread Cert.Kernel.nD Cert.Kernel.τ).loc Cert.Kernel.main_v11)),
      θ_run (Cert.Kernel.defs (F := Ideal)) (onTc (τ := Cert.Kernel.τ) (Cert.Kernel.main (F := Ideal))) ⟨m, fun _ => 0, g⟩ (fun r => ∀ c : Dev Cert.Kernel.nD,
          r.2.mem ((c.tc : Thread Cert.Kernel.nD Cert.Kernel.τ).loc Cert.Kernel.main_v5) = v0 c
          ∧ r.2.mem ((c.tc : Thread Cert.Kernel.nD Cert.Kernel.τ).loc Cert.Kernel.main_v7) = v1 c
          ∧ r.2.mem ((c.tc : Thread Cert.Kernel.nD Cert.Kernel.τ).loc Cert.Kernel.main_v9) = v2 c
          ∧ r.2.mem ((c.tc : Thread Cert.Kernel.nD Cert.Kernel.τ).loc Cert.Kernel.main_v10) = v3 c
          ∧ r.2.mem ((c.tc : Thread Cert.Kernel.nD Cert.Kernel.τ).loc Cert.Kernel.main_v11) = v4 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_v9) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

theorem agree_ideal (h : Cert.ReferenceIdeal.Facts) : @Cert.algebraic_KernelIdeal_ReferenceIdeal ideal h = @Agree h := by
  sl_kernel_rfl

end Cert.Idealized

end
end
-- ==== Proof.Quant.lean ====
module

public import proofs.«01_k».proof.Proof.Whole
public import Idealize.ShloMosaic.PureOps.Ideal

@[expose] public section

noncomputable section

/-! # The exponent of a scale, at the extended reals -/

namespace Cert.Quant

open Idealize.ShloMosaic

/-- The float whose exponent field is `k` and whose other bits are zero. -/
def lvl (k : ℕ) : EReal := if k = 255 then ⊤ else if k = 0 then 0 else (((2 : ℝ) ^ ((k : ℤ) - 127) : ℝ) : EReal)

theorem parts : ∀ k : Fin 256, ((BitVec.ofNat 32 k.val <<< 23).extractLsb' 31 1 == 1#1) = false
    ∧ ((BitVec.ofNat 32 k.val <<< 23).extractLsb' 23 8).toNat = k.val ∧ ((BitVec.ofNat 32 k.val <<< 23).extractLsb' 0 23).toNat = 0 := by
  decide

theorem lvl_top : lvl 255 = ⊤ := if_pos rfl
theorem lvl_zero : lvl 0 = 0 := (if_neg (by decide)).trans (if_pos rfl)
theorem lvl_mid {k : ℕ} (h0 : k ≠ 0) (h1 : k ≠ 255) : lvl k = (((2 : ℝ) ^ ((k : ℤ) - 127) : ℝ) : EReal) := (if_neg h1).trans (if_neg h0)

theorem scaled_eq (k : ℕ) : ((((1 : ℝ) * ((2 ^ 23 + 0 : ℕ) : ℝ) * (2 : ℝ) ^ ((k : ℤ) - (2 ^ (8 - 1) - 1) - ((23 : ℕ) : ℤ))) : ℝ) : EReal)
    = (((2 : ℝ) ^ ((k : ℤ) - 127) : ℝ) : EReal) := by
  have h : ((k : ℤ) - 127) = 23 + ((k : ℤ) - (2 ^ (8 - 1) - 1) - ((23 : ℕ) : ℤ)) := by norm_num
  rw [h, zpow_add₀ (by norm_num : (2 : ℝ) ≠ 0)]
  push_cast
  simp only [one_mul, add_zero]
  norm_cast

theorem ofBits_lvl (k : ℕ) (hk : k < 256) : Ideal.ofBits .f32 (BitVec.ofNat 32 k <<< 23) = lvl k := by
  obtain ⟨h1, h2, h3⟩ := parts ⟨k, hk⟩
  show Ideal.ieee 8 23 (BitVec.ofNat 32 k <<< 23) = lvl k
  unfold Ideal.ieee
  dsimp only at h1 h2 h3 ⊢
  rw [h2, h3, h1]
  by_cases h255 : k = 255
  · subst h255
    rw [lvl_top, if_pos (by decide), if_pos rfl, if_neg (by decide)]
  · by_cases h0 : k = 0
    · subst h0
      rw [lvl_zero, if_neg (by decide), if_pos rfl]
      simp
    · rw [lvl_mid h0 h255, if_neg (by rw [show (2 ^ 8 - 1 : ℕ) = 255 from rfl]; exact h255), if_neg h0]
      exact scaled_eq k

theorem lvl_mono {a b : ℕ} (h : a ≤ b) (hb : b < 256) : lvl a ≤ lvl b := by
  by_cases h1 : b = 255
  · subst h1; rw [lvl_top]; exact le_top
  · by_cases h2 : a = 0
    · subst h2
      rw [lvl_zero]
      by_cases h3 : b = 0
      · subst h3; rw [lvl_zero]
      · rw [lvl_mid h3 h1, ← EReal.coe_zero, EReal.coe_le_coe_iff]; positivity
    · rw [lvl_mid h2 (by omega), lvl_mid (by omega) h1, EReal.coe_le_coe_iff]
      exact zpow_le_zpow_right₀ (by norm_num) (by omega)

/-- One step of the binary search. -/
def step (v : EReal) (n e : ℕ) : ℕ := if lvl (e + n) ≤ v then e + n else e

/-- The exponent the search has found so far: at least it, and less than `2n` more. -/
def Near (v : EReal) (n e : ℕ) : Prop := e + n ≤ 256 ∧ lvl e ≤ v ∧ ∀ k, e + n ≤ k → k < 256 → ¬ lvl k ≤ v

theorem near_step {v : EReal} {n e : ℕ} (hn : 0 < n) (h : Near v (2 * n) e) : Near v n (step v n e) := by
  obtain ⟨h1, h2, h3⟩ := h
  unfold step
  split_ifs with hc
  · exact ⟨by omega, hc, fun k hk => h3 k (by omega)⟩
  · exact ⟨by omega, h2, fun k hk hk' hv => hc ((lvl_mono hk hk').trans hv)⟩

/-- The whole search. -/
def expo (v : EReal) : ℕ := step v 1 (step v 2 (step v 4 (step v 8 (step v 16 (step v 32 (step v 64 (step v 128 0)))))))

theorem expo_near (v : EReal) (hv : 0 ≤ v) : Near v 1 (expo v) := by
  have h : Near v (2 * 128) 0 := ⟨by omega, lvl_zero ▸ hv, fun k hk hk' => by omega⟩
  exact near_step (by omega) (near_step (by omega) (near_step (by omega) (near_step (by omega)
    (near_step (by omega) (near_step (by omega) (near_step (by omega) (near_step (by omega) h)))))))

/-! ## The search on words -/

open Cert.Blocks

theorem step_le (v : EReal) (n e : ℕ) : step v n e ≤ e + n := by unfold step; split_ifs <;> omega

theorem shl_eq (k : ℕ) (hk : k < 256) : FloatOps.ofBits (F := Ideal) .f32 (IntOp.shli .vector (BitVec.ofNat 32 k) 23#32) = lvl k :=
  ofBits_lvl k hk

theorem search_at (v : FVec Ideal S32x128 .f32) (b : ℕ) (e : IVec S32x128 32) (i : S32x128.Idx) (n : ℕ) (he : e i = BitVec.ofNat 32 n)
    (hn : n + b < 256) : search v (BitVec.ofNat 32 b) e i = BitVec.ofNat 32 (step (v i) b n) := by
  have h1 : search v (BitVec.ofNat 32 b) e i
      = if BitVec.ofBool (decide (FloatOps.ofBits (F := Ideal) .f32 (IntOp.shli .vector (e i + BitVec.ofNat 32 b) 23#32) ≤ v i)) = 1
        then e i + BitVec.ofNat 32 b else e i := rfl
  rw [h1, he, ← BitVec.ofNat_add, shl_eq _ hn]
  unfold step
  by_cases h : lvl (n + b) ≤ v i
  · rw [if_pos h, if_pos (by rw [decide_eq_true h]; rfl)]
  · rw [if_neg h, if_neg (by rw [decide_eq_false h]; decide)]

theorem expOf_at (v : FVec Ideal S32x128 .f32) (i : S32x128.Idx) : expOf v i = BitVec.ofNat 32 (expo (v i)) := by
  unfold expOf expo
  have s1 := step_le (v i) 128 0
  have s2 := step_le (v i) 64 (step (v i) 128 0)
  have s3 := step_le (v i) 32 (step (v i) 64 (step (v i) 128 0))
  have s4 := step_le (v i) 16 (step (v i) 32 (step (v i) 64 (step (v i) 128 0)))
  have s5 := step_le (v i) 8 (step (v i) 16 (step (v i) 32 (step (v i) 64 (step (v i) 128 0))))
  have s6 := step_le (v i) 4 (step (v i) 8 (step (v i) 16 (step (v i) 32 (step (v i) 64 (step (v i) 128 0)))))
  have s7 := step_le (v i) 2 (step (v i) 4 (step (v i) 8 (step (v i) 16 (step (v i) 32 (step (v i) 64 (step (v i) 128 0))))))
  exact search_at v 1 _ i _ (search_at v 2 _ i _ (search_at v 4 _ i _ (search_at v 8 _ i _ (search_at v 16 _ i _ (search_at v 32 _ i _
    (search_at v 64 _ i _ (search_at v 128 _ i 0 rfl (by omega)) (by omega)) (by omega)) (by omega)) (by omega)) (by omega)) (by omega)) (by omega)

/-- The scale's step: 1/448, as the program writes it. -/
def step448 : EReal := Ideal.ofBits .f32 0x3B124925#32

theorem zero_eq : Ideal.ofBits .f32 0x00000000#32 = 0 := (ofBits_lvl 0 (by decide)).trans lvl_zero

/-- Nothing to scale by. -/
def Special (a : EReal) : Prop := expo (a * step448) = 0 ∨ expo (a * step448) = 255 ∨ a = 0

theorem bit_or (p q r : Prop) [Decidable p] [Decidable q] [Decidable r] :
    (BitVec.ofBool (decide p) ||| BitVec.ofBool (decide q) ||| BitVec.ofBool (decide r) = 1) ↔ (p ∨ q ∨ r) := by
  by_cases p <;> by_cases q <;> by_cases r <;> simp [*]

open Classical in
theorem scaleExp_at (a : FVec Ideal S32x128 .f32) (i : S32x128.Idx) :
    scaleExp a i = if Special (a i) then 0#32 else BitVec.ofNat 32 (expo (a i * step448)) - 126#32 := by
  have h1 : scaleExp a i
      = if (BitVec.ofBool (decide ((expOf (mulf a (broadcast S32x128 (Scalar.ofBits .f32 0x3B124925#32))) i) = 0#32))
          ||| BitVec.ofBool (decide ((expOf (mulf a (broadcast S32x128 (Scalar.ofBits .f32 0x3B124925#32))) i) = 255#32))
          ||| BitVec.ofBool (decide (a i = Ideal.ofBits .f32 0x00000000#32))) = 1
        then 0#32 else expOf (mulf a (broadcast S32x128 (Scalar.ofBits .f32 0x3B124925#32))) i - 126#32 := rfl
  have hE : expo (a i * step448) < 256 := by
    have := step_le (a i * step448) 128 0
    have := step_le (a i * step448) 64 (step (a i * step448) 128 0)
    have := step_le (a i * step448) 32 (step (a i * step448) 64 (step (a i * step448) 128 0))
    have := step_le (a i * step448) 16 (step (a i * step448) 32 (step (a i * step448) 64 (step (a i * step448) 128 0)))
    have := step_le (a i * step448) 8 (step (a i * step448) 16 (step (a i * step448) 32 (step (a i * step448) 64 (step (a i * step448) 128 0))))
    have := step_le (a i * step448) 4 (step (a i * step448) 8 (step (a i * step448) 16 (step (a i * step448) 32 (step (a i * step448) 64 (step (a i * step448) 128 0)))))
    have := step_le (a i * step448) 2 (step (a i * step448) 4 (step (a i * step448) 8 (step (a i * step448) 16 (step (a i * step448) 32 (step (a i * step448) 64 (step (a i * step448) 128 0))))))
    have := step_le (a i * step448) 1 (step (a i * step448) 2 (step (a i * step448) 4 (step (a i * step448) 8 (step (a i * step448) 16 (step (a i * step448) 32 (step (a i * step448) 64 (step (a i * step448) 128 0)))))))
    unfold expo
    omega
  have h2 : expOf (mulf a (broadcast S32x128 (Scalar.ofBits .f32 0x3B124925#32))) i = BitVec.ofNat 32 (expo (a i * step448)) := expOf_at _ i
  rw [h1, h2]
  have hw : ∀ k < 256, (BitVec.ofNat 32 (expo (a i * step448)) = BitVec.ofNat 32 k) ↔ expo (a i * step448) = k := fun k hk => by
    constructor
    · intro h
      have := congrArg BitVec.toNat h
      simp only [BitVec.toNat_ofNat] at this
      omega
    · intro h; rw [h]
  have key : (BitVec.ofBool (decide (BitVec.ofNat 32 (expo (a i * step448)) = 0#32))
      ||| BitVec.ofBool (decide (BitVec.ofNat 32 (expo (a i * step448)) = 255#32))
      ||| BitVec.ofBool (decide (a i = Ideal.ofBits .f32 0x00000000#32)) = 1) ↔ Special (a i) := by
    rw [bit_or, hw 0 (by decide), hw 255 (by decide), zero_eq]; rfl
  by_cases hs : Special (a i)
  · rw [if_pos hs, if_pos (key.mpr hs)]
  · rw [if_neg hs, if_neg (fun h => hs (key.mp h))]

theorem ldexp_word (n : BitVec 32) (k : ℕ) (hk : k < 256)
    (h : IntOp.minsi 255#32 (IntOp.maxsi 0#32 (n + 127#32)) = BitVec.ofNat 32 k) :
    FloatOps.ofBits (F := Ideal) .f32 (IntOp.shli .vector (IntOp.minsi 255#32 (IntOp.maxsi 0#32 (n + 127#32))) 23#32) = lvl k := by
  rw [h, shl_eq k hk]

theorem up : ∀ E : Fin 255, IntOp.minsi 255#32 (IntOp.maxsi 0#32 ((BitVec.ofNat 32 E.val - 126#32) + 127#32)) = BitVec.ofNat 32 (E.val + 1) := by
  decide
theorem down : ∀ E : Fin 255, IntOp.minsi 255#32 (IntOp.maxsi 0#32 ((0#32 - (BitVec.ofNat 32 E.val - 126#32)) + 127#32)) = BitVec.ofNat 32 (253 - E.val) := by
  decide

open Classical in
/-- The scale, by the exponent found. -/
def up' (a : EReal) : EReal := if Special a then lvl 127 else lvl (expo (a * step448) + 1)
open Classical in
/-- And what undoes it. -/
def down' (a : EReal) : EReal := if Special a then lvl 127 else lvl (253 - expo (a * step448))

theorem expo_lt {a : EReal} (h : 0 ≤ a * step448) (hs : ¬ Special a) : expo (a * step448) < 255 := by
  have h1 := (expo_near _ h).1
  have h2 : expo (a * step448) ≠ 255 := fun e => hs (.inr (.inl e))
  omega

theorem scale_at (a : FVec Ideal S32x128 .f32) (i : S32x128.Idx) (h : 0 ≤ a i * step448) : ldexpOne (F := Ideal) (scaleExp a) i = up' (a i) := by
  have h1 : ldexpOne (F := Ideal) (scaleExp a) i
    = FloatOps.ofBits (F := Ideal) .f32 (IntOp.shli .vector (IntOp.minsi 255#32 (IntOp.maxsi 0#32 (scaleExp a i + 127#32))) 23#32) := rfl
  rw [h1, scaleExp_at]
  unfold up'
  by_cases hs : Special (a i)
  · rw [if_pos hs, if_pos hs]; exact ldexp_word 0#32 127 (by decide) (by decide)
  · rw [if_neg hs, if_neg hs]
    have hlt := expo_lt h hs
    generalize expo (a i * step448) = E at hlt ⊢
    exact ldexp_word (BitVec.ofNat 32 E - 126#32) (E + 1) (by omega) (up ⟨E, hlt⟩)

theorem inv_at (a : FVec Ideal S32x128 .f32) (i : S32x128.Idx) (h : 0 ≤ a i * step448) :
    ldexpOne (F := Ideal) (subi (broadcast S32x128 0#32) (scaleExp a)) i = down' (a i) := by
  have h1 : ldexpOne (F := Ideal) (subi (broadcast S32x128 0#32) (scaleExp a)) i
    = FloatOps.ofBits (F := Ideal) .f32 (IntOp.shli .vector (IntOp.minsi 255#32 (IntOp.maxsi 0#32 ((0#32 - scaleExp a i) + 127#32))) 23#32) := rfl
  rw [h1, scaleExp_at]
  unfold down'
  by_cases hs : Special (a i)
  · rw [if_pos hs, if_pos hs]; exact ldexp_word (0#32 - 0#32) 127 (by decide) (by decide)
  · rw [if_neg hs, if_neg hs]
    have hlt := expo_lt h hs
    generalize expo (a i * step448) = E at hlt ⊢
    exact ldexp_word (0#32 - (BitVec.ofNat 32 E - 126#32)) (253 - E) (by omega) (down ⟨E, hlt⟩)

end Cert.Quant

end
end
-- ==== Proof.Scale.lean ====
module

public import proofs.«01_k».proof.Proof.Quant

@[expose] public section

noncomputable section

/-! # The reference's scale is the one the search finds -/

namespace Cert.Quant

open Idealize.ShloMosaic

def refE (v : EReal) : EReal :=
  Scalar.select (IntOp.ori (Ideal.cmp .olt v (Ideal.ofBits .f32 0x00800000#32)) (Ideal.cmp .oeq v (Ideal.ofBits .f32 0x7F800000#32)))
    (Ideal.ofBits .f32 0x00000000#32)
    (Ideal.liftRound Int.floor (Ideal.div (Ideal.log v) (Ideal.log (Ideal.ofBits .f32 0x40000000#32))) + Ideal.ofBits .f32 0x3F800000#32)

def refScale (v : EReal) : EReal :=
  Scalar.select (Ideal.cmp .ogt (refE v) (Ideal.ofBits .f32 0x42FE0000#32)) (Ideal.ofBits .f32 0x7F800000#32) (Ideal.exp2 (refE v))

def refInv (v : EReal) : EReal :=
  Scalar.select (Ideal.cmp .ogt (refE v) (Ideal.ofBits .f32 0x42FC0000#32)) (Ideal.ofBits .f32 0x00000000#32)
    (Ideal.exp2 (Ideal.ofBits .f32 0x00000000#32 - refE v))

theorem inf_eq : Ideal.ofBits .f32 0x7F800000#32 = ⊤ := (ofBits_lvl 255 (by decide)).trans lvl_top
theorem tiny_eq : Ideal.ofBits .f32 0x00800000#32 = lvl 1 := ofBits_lvl 1 (by decide)
theorem one_eq : Ideal.ofBits .f32 0x3F800000#32 = ((1 : ℝ) : EReal) :=
  (ofBits_lvl 127 (by decide)).trans ((lvl_mid (by decide) (by decide)).trans (by norm_num))
theorem two_eq : Ideal.ofBits .f32 0x40000000#32 = ((2 : ℝ) : EReal) :=
  (ofBits_lvl 128 (by decide)).trans ((lvl_mid (by decide) (by decide)).trans (by norm_num))
theorem c127 : Ideal.ofBits .f32 0x42FE0000#32 = ((127 : ℝ) : EReal) := by
  simp [Ideal.ofBits, Ideal.ieee]; norm_cast; norm_num
theorem c126 : Ideal.ofBits .f32 0x42FC0000#32 = ((126 : ℝ) : EReal) := by
  simp [Ideal.ofBits, Ideal.ieee]; norm_cast; norm_num
theorem step448_pos : 0 ≤ step448 := by
  simp [step448, Ideal.ofBits, Ideal.ieee]; norm_cast; norm_num

theorem sel_pos {p : Prop} [Decidable p] (h : p) (a b : EReal) : Scalar.select (BitVec.ofBool (decide p)) a b = a := by
  rw [decide_eq_true h]; rfl
theorem sel_neg {p : Prop} [Decidable p] (h : ¬ p) (a b : EReal) : Scalar.select (BitVec.ofBool (decide p)) a b = b := by
  rw [decide_eq_false h]; rfl

theorem one_or : ∀ b : Bool, BitVec.ofBool true ||| BitVec.ofBool b = 1 := by decide
theorem or_one : ∀ b : Bool, BitVec.ofBool b ||| BitVec.ofBool true = 1 := by decide

theorem refE_special {v : EReal} (h : v < lvl 1 ∨ v = ⊤) : refE v = ((0 : ℝ) : EReal) := by
  unfold refE
  rw [tiny_eq, inf_eq, zero_eq]
  have e : IntOp.ori (Ideal.cmp .olt v (lvl 1)) (Ideal.cmp .oeq v ⊤) = 1 := by
    show BitVec.ofBool (decide (v < lvl 1)) ||| BitVec.ofBool (decide (v = ⊤)) = 1
    rcases h with h | h
    · rw [decide_eq_true h]; exact one_or _
    · rw [decide_eq_true h]; exact or_one _
  rw [e]; rfl

theorem refE_real {r : ℝ} (h : lvl 1 ≤ (r : EReal)) (hr : 0 < r) : refE r = ((⌊Real.log r / Real.log 2⌋ + 1 : ℝ) : EReal) := by
  unfold refE
  rw [tiny_eq, inf_eq, zero_eq, two_eq, one_eq]
  have e : IntOp.ori (Ideal.cmp .olt (r : EReal) (lvl 1)) (Ideal.cmp .oeq (r : EReal) ⊤) = 0 := by
    show BitVec.ofBool (decide ((r : EReal) < lvl 1)) ||| BitVec.ofBool (decide ((r : EReal) = ⊤)) = 0
    rw [decide_eq_false (not_lt.mpr h), decide_eq_false (EReal.coe_ne_top r)]; rfl
  rw [e]
  have l2 : (Real.log 2 : ℝ) ≠ 0 := (Real.log_pos (by norm_num)).ne'
  have e2 : Ideal.div (Ideal.log (r : EReal)) (Ideal.log ((2 : ℝ) : EReal)) = ((Real.log r / Real.log 2 : ℝ) : EReal) := by
    rw [Ideal.log_coe, Ideal.log_coe, if_neg (not_le.mpr hr), if_neg (by norm_num)]
    unfold Ideal.div
    rw [if_neg (by exact_mod_cast l2), ← EReal.coe_inv, ← EReal.coe_mul, div_eq_mul_inv]
  rw [e2]
  show ((⌊Real.log r / Real.log 2⌋ : ℝ) : EReal) + ((1 : ℝ) : EReal) = _
  rw [← EReal.coe_add]

theorem exp2_coe' (z : ℤ) : Ideal.exp2 (((z : ℝ)) : EReal) = (((2 : ℝ) ^ z : ℝ) : EReal) := by
  rw [Ideal.exp2_coe]
  exact congrArg Real.toEReal (Real.rpow_intCast 2 z)

theorem refScale_of {v : EReal} {e : ℝ} (h : refE v = (e : EReal)) :
    refScale v = if 127 < e then ⊤ else Ideal.exp2 (e : EReal) := by
  unfold refScale
  rw [h, c127, inf_eq]
  show Scalar.select (BitVec.ofBool (decide (((127 : ℝ) : EReal) < (e : EReal)))) _ _ = _
  by_cases hc : 127 < e
  · rw [if_pos hc]; exact sel_pos (EReal.coe_lt_coe_iff.mpr hc) _ _
  · rw [if_neg hc]; exact sel_neg (fun h' => hc (EReal.coe_lt_coe_iff.mp h')) _ _

theorem refInv_of {v : EReal} {e : ℝ} (h : refE v = (e : EReal)) :
    refInv v = if 126 < e then 0 else Ideal.exp2 ((-e : ℝ) : EReal) := by
  unfold refInv
  rw [h, c126, zero_eq]
  show Scalar.select (BitVec.ofBool (decide (((126 : ℝ) : EReal) < (e : EReal)))) _ _ = _
  by_cases hc : 126 < e
  · rw [if_pos hc]; exact sel_pos (EReal.coe_lt_coe_iff.mpr hc) _ _
  · rw [if_neg hc]
    refine (sel_neg (fun h' => hc (EReal.coe_lt_coe_iff.mp h')) _ _).trans ?_
    rw [EReal.coe_neg, zero_sub]

theorem floor_log {r : ℝ} (hr : 0 < r) (z : ℤ) : z ≤ ⌊Real.log r / Real.log 2⌋ ↔ (2 : ℝ) ^ z ≤ r := by
  rw [Int.le_floor, le_div_iff₀ (Real.log_pos (by norm_num)), ← Real.log_zpow, Real.log_le_log_iff (by positivity) hr]

/-- What the search finds of a number with an exponent. -/
theorem expo_real {v : EReal} (h : 0 ≤ v) (h0 : expo v ≠ 0) (h1 : expo v ≠ 255) :
    ∃ r : ℝ, v = (r : EReal) ∧ 0 < r ∧ (expo v : ℤ) - 127 ≤ ⌊Real.log r / Real.log 2⌋
      ∧ (expo v < 254 → ⌊Real.log r / Real.log 2⌋ = (expo v : ℤ) - 127) ∧ expo v < 255 := by
  obtain ⟨a, b, c⟩ := expo_near v h
  have hlt : expo v < 255 := by omega
  have hv1 : v ≠ ⊤ := by
    rintro rfl
    exact c 255 (by omega) (by decide) le_top
  have hv2 : v ≠ ⊥ := by
    rintro rfl
    exact absurd h (by simp)
  lift v to ℝ using ⟨hv1, hv2⟩
  rw [lvl_mid h0 h1, EReal.coe_le_coe_iff] at b
  have hr : 0 < v := lt_of_lt_of_le (by positivity) b
  have lo := (floor_log hr _).mpr b
  refine ⟨v, rfl, hr, lo, fun h254 => ?_, hlt⟩
  have hi := c (expo v + 1) le_rfl (by omega)
  rw [lvl_mid (by omega) (by omega), EReal.coe_le_coe_iff] at hi
  have hi' := mt (floor_log hr (((expo (v : EReal) + 1 : ℕ) : ℤ) - 127)).mp hi
  push_cast at hi'
  omega

theorem special_ref {v : EReal} (h : 0 ≤ v) (h0 : expo v = 0 ∨ expo v = 255) : v < lvl 1 ∨ v = ⊤ := by
  obtain ⟨a, b, c⟩ := expo_near v h
  rcases h0 with h0 | h0
  · exact .inl (not_le.mp (c 1 (by omega) (by decide)))
  · rw [h0, lvl_top] at b; exact .inr (top_le_iff.mp b)

theorem one_lvl : Ideal.exp2 ((0 : ℝ) : EReal) = lvl 127 := by
  rw [lvl_mid (by decide) (by decide), Ideal.exp2_coe]
  exact congrArg Real.toEReal (by simp)

theorem special_case {a : EReal} (h : 0 ≤ a) (hs : Special a) : refE (a * step448) = ((0 : ℝ) : EReal) := by
  have hv : 0 ≤ a * step448 := mul_nonneg h step448_pos
  refine refE_special ?_
  rcases hs with hs | hs | hs
  · exact special_ref hv (.inl hs)
  · exact special_ref hv (.inr hs)
  · rw [hs, zero_mul]
    refine .inl ?_
    rw [lvl_mid (by decide) (by decide), ← EReal.coe_zero, EReal.coe_lt_coe_iff]; positivity

theorem scale_case (E : ℕ) (f : ℤ) (h0 : E ≠ 0) (hlt : E < 255) (lo : (E : ℤ) - 127 ≤ f) (eq : E < 254 → f = (E : ℤ) - 127) :
    (if (127 : ℝ) < (f : ℝ) + 1 then (⊤ : EReal) else Ideal.exp2 (((f : ℝ) + 1 : ℝ) : EReal)) = lvl (E + 1) := by
  by_cases h254 : E < 254
  · have hz : (f : ℝ) + 1 = (((E : ℤ) - 126 : ℤ) : ℝ) := by rw [eq h254]; push_cast; ring
    have h127 : ((E : ℤ) - 126 : ℤ) ≤ 127 := by omega
    rw [hz, if_neg (not_lt.mpr (by exact_mod_cast h127)), exp2_coe', lvl_mid (by omega) (by omega)]
    have e : (E : ℤ) - 126 = ((E + 1 : ℕ) : ℤ) - 127 := by push_cast; ring
    rw [e]
  · have e254 : E = 254 := by omega
    subst e254
    have h127 : (127 : ℤ) < f + 1 := by omega
    rw [if_pos (by exact_mod_cast h127)]
    exact lvl_top.symm

theorem inv_case (E : ℕ) (f : ℤ) (h0 : E ≠ 0) (hlt : E < 255) (lo : (E : ℤ) - 127 ≤ f) (eq : E < 254 → f = (E : ℤ) - 127) :
    (if (126 : ℝ) < (f : ℝ) + 1 then (0 : EReal) else Ideal.exp2 ((-((f : ℝ) + 1) : ℝ) : EReal)) = lvl (253 - E) := by
  by_cases h253 : E < 253
  · have hz : (f : ℝ) + 1 = (((E : ℤ) - 126 : ℤ) : ℝ) := by rw [eq (by omega)]; push_cast; ring
    have h126 : ((E : ℤ) - 126 : ℤ) ≤ 126 := by omega
    rw [hz, if_neg (not_lt.mpr (by exact_mod_cast h126)), ← Int.cast_neg, exp2_coe', lvl_mid (by omega) (by omega)]
    have e : -((E : ℤ) - 126) = ((253 - E : ℕ) : ℤ) - 127 := by omega
    rw [e]
  · have h126 : (126 : ℤ) < f + 1 := by omega
    rw [if_pos (by exact_mod_cast h126), show 253 - E = 0 by omega]
    exact lvl_zero.symm

theorem refE_found {a : EReal} (h : 0 ≤ a) (hs : ¬ Special a) :
    ∃ f : ℤ, refE (a * step448) = (((f : ℝ) + 1 : ℝ) : EReal) ∧ expo (a * step448) ≠ 0 ∧ expo (a * step448) < 255
      ∧ (expo (a * step448) : ℤ) - 127 ≤ f ∧ (expo (a * step448) < 254 → f = (expo (a * step448) : ℤ) - 127) := by
  have hv : 0 ≤ a * step448 := mul_nonneg h step448_pos
  have h0 : expo (a * step448) ≠ 0 := fun e => hs (.inl e)
  have h1 : expo (a * step448) ≠ 255 := fun e => hs (.inr (.inl e))
  obtain ⟨r, hr, hp, lo, eq, hlt⟩ := expo_real hv h0 h1
  refine ⟨_, ?_, h0, hlt, lo, eq⟩
  rw [hr]
  refine refE_real ?_ hp
  rw [← hr]
  exact (lvl_mono (by omega) (by omega)).trans (expo_near _ hv).2.1

theorem refScale_eq {a : EReal} (h : 0 ≤ a) : refScale (a * step448) = up' a := by
  unfold up'
  by_cases hs : Special a
  · rw [if_pos hs, refScale_of (special_case h hs), if_neg (by norm_num), one_lvl]
  · rw [if_neg hs]
    obtain ⟨f, hE, h0, hlt, lo, eq⟩ := refE_found h hs
    rw [refScale_of hE]
    exact scale_case _ f h0 hlt lo eq

theorem refInv_eq {a : EReal} (h : 0 ≤ a) : refInv (a * step448) = down' a := by
  unfold down'
  by_cases hs : Special a
  · rw [if_pos hs, refInv_of (special_case h hs), if_neg (by norm_num), neg_zero, one_lvl]
  · rw [if_neg hs]
    obtain ⟨f, hE, h0, hlt, lo, eq⟩ := refE_found h hs
    rw [refInv_of hE]
    exact inv_case _ f h0 hlt lo eq

end Cert.Quant

end
end
-- ==== Proof.Spec.lean ====
module

public import proofs.«01_k».proof.Proof.Scale
public import Idealize.ShloMosaic.Lib.Pointwise.Tactic

@[expose] public section

noncomputable section

/-! # What the program computes, entry by entry -/

namespace Cert.Spec

open Idealize.ShloMosaic Cert.Quant

/-- The arrays read. -/
structure In where
  x : Fin 3072 → Fin 5120 → EReal
  nw : Fin 5120 → EReal
  w : Fin 5120 → Fin 3840 → EReal
  ws : Fin 3840 → EReal
  pos : Fin 3072 → BitVec 32

namespace In

variable (A : In)

/-- The normed activations. -/
def h (t : Fin 3072) (k : Fin 5120) : EReal :=
  A.x t k * Ideal.rsqrt ((∑ i : Fin 5120, A.x t i * A.x t i) * Ideal.ofBits .f32 0x394CCCCD#32 + Ideal.ofBits .f32 0x3727C5AC#32) * A.nw k

/-- A token's largest absolute value. -/
def amax (t : Fin 3072) : EReal :=
  (Finset.univ : Finset (Fin 5120)).fold max (Ideal.ofBits .f32 0xFF800000#32) fun k => max (A.h t k) (-(A.h t k))

/-- Its scale. -/
def scale (t : Fin 3072) : EReal := refScale (A.amax t * step448)

/-- The quantised activations. -/
def code (t : Fin 3072) (k : Fin 5120) : EReal :=
  min (Ideal.ofBits .f32 0x43E00000#32) (max (Ideal.ofBits .f32 0xC3E00000#32) (A.h t k * refInv (A.amax t * step448)))

/-- The projection. -/
def y (t : Fin 3072) (n : Fin 3840) : EReal := (∑ k : Fin 5120, A.code t k * A.w k n) * A.scale t * A.ws n

/-- The frequency of a lane of a half. -/
def freq (l : ℕ) : EReal :=
  Ideal.pow (Ideal.ofBits .f32 0x48F42400#32) (Ideal.div (0 - Ideal.ofBits .f32 0x40000000#32 * (((BitVec.ofNat 32 l).toInt : ℝ) : EReal))
    (Ideal.ofBits .f32 0x43000000#32))

/-- The angle a token turns that lane by. -/
def angle (t : Fin 3072) (l : ℕ) : EReal := (((A.pos t).toInt : ℝ) : EReal) * freq l

/-- The column of a head's lane. -/
def at' (hd : Fin 30) (l : Fin 128) : Fin 3840 := ⟨hd.val * 128 + l.val, by omega⟩

/-- A head, its halves turned. -/
def turned (t : Fin 3072) (hd : Fin 30) (l : Fin 128) : EReal :=
  if hl : l.val < 64 then
    A.y t (at' hd l) * Ideal.cos (A.angle t l.val) - A.y t (at' hd ⟨l.val + 64, by omega⟩) * Ideal.sin (A.angle t l.val)
  else
    A.y t (at' hd l) * Ideal.cos (A.angle t (l.val - 64)) + A.y t (at' hd ⟨l.val - 64, by omega⟩) * Ideal.sin (A.angle t (l.val - 64))

/-- The heads: the first twenty turned. -/
def head (t : Fin 3072) (hd : Fin 30) (l : Fin 128) : EReal := if hd.val < 20 then A.turned t hd l else A.y t (at' hd l)

/-- What is read of the arguments as the program is given them. -/
def ofArgs (a0 : (⟨3, ![1, 3072, 5120]⟩ : Shape).Idx → EReal) (a1 : (⟨1, ![5120]⟩ : Shape).Idx → EReal) (a2 : (⟨2, ![5120, 3840]⟩ : Shape).Idx → EReal)
    (a3 : (⟨1, ![3840]⟩ : Shape).Idx → EReal) (a4 : (⟨2, ![1, 3072]⟩ : Shape).Idx → BitVec 32) : In where
  x t k := a0 (ix3 0 t k)
  nw k := a1 (ix1 k)
  w k n := a2 (ix2 k n)
  ws n := a3 (ix1 n)
  pos t := a4 (ix2 0 t)

/-- The results, as the program returns them. -/
def partS (n : Fin 3) : (⟨4, ![1, 3072, 10, 128]⟩ : Shape).Idx → EReal := fun i =>
  A.head (i 1) ⟨10 * n.val + (i 2).val, by have : (i 2).val < 10 := (i 2).isLt; omega⟩ (i 3)
def codesS : (⟨3, ![1, 3072, 5120]⟩ : Shape).Idx → EReal := fun i => A.code (i 1) (i 2)
def scalesS : (⟨3, ![1, 3072, 1]⟩ : Shape).Idx → EReal := fun i => A.scale (i 1)

theorem amax_nonneg (t : Fin 3072) : 0 ≤ A.amax t := by
  refine (Finset.le_fold_max (c := (0 : EReal))).mpr (.inr ⟨0, Finset.mem_univ _, ?_⟩)
  rcases le_total 0 (A.h t 0) with h | h
  · exact le_max_of_le_left h
  · exact le_max_of_le_right (by simpa using EReal.neg_le_neg_iff.mpr h)

end In

end Cert.Spec

end
end
-- ==== Proof.ValQuant.lean ====
module

public import proofs.«01_k».proof.Proof.Spec
public import proofs.«01_k».proof.Proof.Arrays
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.Lib.Pointwise.Select
public import Idealize.ShloMosaic.Lib.Pointwise.Sums
public import Idealize.ShloMosaic.Lib.ValueLayoutCasts

@[expose] public section

noncomputable section

/-! # The kernel's quantised activations, entry by entry -/

namespace Cert.Value

open Idealize.ShloMosaic Cert.Spec Cert.Quant
open Cert.Blocks hiding ix2 ix3 ix2_eq ix3_eq

theorem bix2 {a b : ℕ} (r : Fin a) (l : Fin b) : Cert.Blocks.ix2 r l = ix2 r l := funext fun k => by
  match k with
  | ⟨0, _⟩ => rfl
  | ⟨1, _⟩ => rfl
theorem bix3 {a b c : ℕ} (h : Fin a) (r : Fin b) (l : Fin c) : Cert.Blocks.ix3 h r l = ix3 h r l := funext fun k => by
  match k with
  | ⟨0, _⟩ => rfl
  | ⟨1, _⟩ => rfl
  | ⟨2, _⟩ => rfl
theorem ix2_congr {a b : ℕ} {r r' : Fin a} {l l' : Fin b} (h : r.val = r'.val) (h' : l.val = l'.val) : ix2 r l = ix2 r' l' := by
  rw [Fin.ext h, Fin.ext h']

variable (A : Args Ideal)

/-- What the kernel reads. -/
def inA : In where
  x t k := A.x (ix2 t k)
  nw k := A.nw (ix2 ⟨k.val / 128, by omega⟩ ⟨k.val % 128, by omega⟩)
  w k n := A.w (ix2 k n)
  ws n := A.ws (ix2 ⟨n.val / 128, by omega⟩ ⟨n.val % 128, by omega⟩)
  pos t := A.pos (ix2 0 t)

theorem unit_emb {a b c d r l : ℕ} (h : ∀ i, (![r, l] : Fin 2 → ℕ) i + (⟨2, ![c, d]⟩ : Shape).size i ≤ (⟨2, ![a, b]⟩ : Shape).size i)
    (i : Fin c) (j : Fin d) (hi : r + i.val < a) (hj : l + j.val < b) :
    (Rect.unit (s := ⟨2, ![a, b]⟩) ![r, l] (⟨2, ![c, d]⟩ : Shape).size h).emb (ix2 i j) = ix2 ⟨r + i.val, hi⟩ ⟨l + j.val, hj⟩ := by
  funext x
  match x with
  | ⟨0, _⟩ => exact Fin.ext (by show r + 1 * i.val = r + i.val; omega)
  | ⟨1, _⟩ => exact Fin.ext (by show l + 1 * j.val = l + j.val; omega)

/-- The token of row `p` of tile `T`. -/
def tok (T : Fin 12) (p : Fin 256) : Fin 3072 := ⟨256 * T.val + p.val, by omega⟩
/-- The row of a tile of row `p` of group `g`. -/
def row (g : Fin 8) (p : Fin 32) : Fin 256 := ⟨32 * g.val + p.val, by omega⟩
/-- The column of lane `l` of block `c`. -/
def col (c : ℕ) (hc : c < 40) (l : Fin 128) : Fin 5120 := ⟨128 * c + l.val, by omega⟩

theorem xt_at (T : Fin 12) (p : Fin 256) (k : Fin 5120) : A.xt T (ix2 p k) = (inA A).x (tok T p) k := by
  refine congrArg A.x ((unit_emb _ p k (by omega) (by omega)).trans (ix2_congr rfl (Nat.zero_add _)))

theorem gx_at (T : Fin 12) (g : Fin 8) (c : ℕ) (hc : c < 40) (p : Fin 32) (l : Fin 128) :
    gx (A.xt T) g c hc (ix2 p l) = (inA A).x (tok T (row g p)) (col c hc l) :=
  (congrArg (A.xt T) (unit_emb _ p l (by omega) (by omega))).trans (xt_at A T (row g p) (col c hc l))

theorem nf_at (r : Fin 40) (l : Fin 128) : A.nf (ix2 r l) = A.nw (ix2 r l) := by
  unfold Args.nf
  pointwise

theorem gw_at (c : ℕ) (hc : c < 40) (l : Fin 128) : gw A.nf c hc (ix2 0 l) = (inA A).nw (col c hc l) := by
  refine (congrArg A.nf (unit_emb _ 0 l (by show c + 0 < 40; omega) (by omega))).trans ((nf_at A _ _).trans ?_)
  refine congrArg A.nw (ix2_congr ?_ ?_)
  · show c + 0 = (128 * c + l.val) / 128; omega
  · show 0 + l.val = (128 * c + l.val) % 128; omega

/-- A token's squares, past the end zero. -/
def sq (t : Fin 3072) (k : ℕ) : EReal := if h : k < 5120 then (inA A).x t ⟨k, h⟩ * (inA A).x t ⟨k, h⟩ else 0

theorem sumStep (acc : FVec Ideal S32x128 .f32) (X : FVec Ideal S32x128 .bf16) (h h') (i : S32x128.Idx) :
    addf acc (mulf (extf .f32 X h) (extf .f32 X h')) i = acc i + X i * X i := rfl

theorem sumSqV_at (T : Fin 12) (g : Fin 8) (p : Fin 32) (l : Fin 128) : ∀ (n c : ℕ) (h : c + n ≤ 40) (acc : FVec Ideal S32x128 .f32),
    sumSqV (A.xt T) g n c h acc (ix2 p l) = acc (ix2 p l) + ∑ i ∈ Finset.range n, sq A (tok T (row g p)) (128 * (c + i) + l.val)
  | 0, c, h, acc => by simp [sumSqV]
  | n + 1, c, h, acc => by
    unfold sumSqV
    rw [sumSqV_at T g p l n (c + 1) (by omega), Finset.sum_range_succ']
    have e : acc (ix2 p l) + gx (A.xt T) g c (by omega) (ix2 p l) * gx (A.xt T) g c (by omega) (ix2 p l)
        = acc (ix2 p l) + sq A (tok T (row g p)) (128 * c + l.val) := by
      unfold sq
      rw [dif_pos (by omega)]
      exact congrArg (fun z : EReal => acc (ix2 p l) + z * z) (gx_at A T g c (by omega) p l)
    rw [sumStep]
    rw [e, add_assoc]
    congr 1
    rw [add_comm]
    congr 1
    refine Finset.sum_congr rfl fun i _ => ?_
    rw [show c + 1 + i = c + (i + 1) by omega]

theorem sum_cols (f : ℕ → EReal) : ∑ l : Fin 128, ∑ i ∈ Finset.range 40, f (128 * (0 + i) + l.val) = ∑ k : Fin 5120, f k.val := by
  have h : ∑ k : Fin (40 * 128), f k.val = ∑ q : Fin 40 × Fin 128, f (finProdFinEquiv q).val := (Equiv.sum_comp finProdFinEquiv fun k => f k.val).symm
  refine Eq.trans ?_ h.symm
  rw [Fintype.sum_prod_type, Finset.sum_comm]
  rw [Finset.sum_range]
  refine Finset.sum_congr rfl fun i _ => Finset.sum_congr rfl fun l _ => congrArg f ?_
  show 128 * (0 + i.val) + l.val = l.val + 128 * i.val
  omega

theorem bcCol32 {α : Type} (v : S32x1.Idx → α) (h) (t : Fin 32) (k : Fin 128) : broadcastTo S32x128 v h (ix2 t k) = v (ix2 t 0) := by
  pointwise
theorem cast32 {α : Type} (v : S32x1.Idx → α) (h) (t : Fin 32) : shapeCast S32x1 v h (ix2 t 0) = v (ix2 t 0) := by
  pointwise
theorem bcRow32 {α : Type} (v : S1x128.Idx → α) (h) (t : Fin 32) (k : Fin 128) : broadcastTo S32x128 v h (ix2 t k) = v (ix2 0 k) := by
  pointwise

theorem sumCol {a b : ℕ} (v : FVec Ideal ⟨2, ![a, b]⟩ .f32) (h) (hf) (ha) (hs) (t : Fin a) :
    shapeCast ⟨2, ![a, 1]⟩ (multiReduction .add [1] (⟨1, ![a]⟩ : Shape) v 0x00000000#32 h hf ha) hs (ix2 t 0) = ∑ k : Fin b, v (ix2 t k) := by
  refine (shapeCast_apply _ hs _ (ix1 t) (by rw [Shape.rowMajor_val_two, Shape.rowMajor_val_one]; show t.val = t.val * 1 + 0; omega)).trans ?_
  rw [Ideal.multiReduction_add_single]
  refine Finset.sum_congr rfl fun k _ => congrArg v (funext fun x => ?_)
  match x with
  | ⟨0, _⟩ => rfl
  | ⟨1, _⟩ => rfl

theorem maxCol {a b : ℕ} (v : FVec Ideal ⟨2, ![a, b]⟩ .f32) (h) (hf) (ha) (hs) (t : Fin a) :
    shapeCast ⟨2, ![a, 1]⟩ (multiReduction .maximumf [1] (⟨1, ![a]⟩ : Shape) v 0xFF800000#32 h hf ha) hs (ix2 t 0)
      = (Finset.univ : Finset (Fin b)).fold max (Ideal.ofBits .f32 0xFF800000#32) fun k => v (ix2 t k) := by
  refine (shapeCast_apply _ hs _ (ix1 t) (by rw [Shape.rowMajor_val_two, Shape.rowMajor_val_one]; show t.val = t.val * 1 + 0; omega)).trans ?_
  rw [Ideal.multiReduction_maximumf_single]
  refine congrArg (Finset.fold max _ · _) (funext fun k => congrArg v (funext fun x => ?_))
  match x with
  | ⟨0, _⟩ => rfl
  | ⟨1, _⟩ => rfl

theorem rsqrt_at {s : Shape} (M : FVec Ideal s .f32) (a b : EReal) (i : s.Idx) :
    rsqrt (addf (mulf M (broadcast s a)) (broadcast s b)) i = Ideal.rsqrt (M i * a + b) := rfl

theorem rms_at (ss : FVec Ideal S32x128 .f32) (p : Fin 32) (l : Fin 128) :
    rms ss (ix2 p l) = Ideal.rsqrt ((∑ k : Fin 128, ss (ix2 p k)) * Ideal.ofBits .f32 0x394CCCCD#32 + Ideal.ofBits .f32 0x3727C5AC#32) := by
  unfold rms
  rw [bcCol32, cast32]
  refine (rsqrt_at _ _ _ _).trans ?_
  exact congrArg (fun z : EReal => Ideal.rsqrt (z * _ + _)) (sumCol ss _ _ _ _ p)

theorem zero_at (p : Fin 32) (l : Fin 128) : broadcast S32x128 (Scalar.ofBits (F := Ideal) .f32 0x00000000#32) (ix2 p l) = (0 : EReal) := zero_eq

theorem rmsV_at (T : Fin 12) (g : Fin 8) (p : Fin 32) (l : Fin 128) : rmsV (A.xt T) g (ix2 p l)
    = Ideal.rsqrt ((∑ i : Fin 5120, (inA A).x (tok T (row g p)) i * (inA A).x (tok T (row g p)) i) * Ideal.ofBits .f32 0x394CCCCD#32 + Ideal.ofBits .f32 0x3727C5AC#32) := by
  unfold rmsV
  rw [rms_at]
  refine congrArg (fun z : EReal => Ideal.rsqrt (z * _ + _)) ?_
  refine (Finset.sum_congr rfl fun k _ => sumSqV_at A T g p k 40 0 _ _).trans ?_
  simp only [zero_at, zero_add]
  refine Eq.trans (by simpa only [zero_add] using sum_cols (sq A (tok T (row g p)))) ?_
  refine Finset.sum_congr rfl fun k _ => ?_
  unfold sq
  rw [dif_pos k.isLt]

theorem normedV_at (T : Fin 12) (g : Fin 8) (c : ℕ) (hc : c < 40) (p : Fin 32) (l : Fin 128) :
    normedV (A.xt T) A.nf g (rmsV (A.xt T) g) c hc (ix2 p l) = (inA A).h (tok T (row g p)) (col c hc l) := by
  have e : normedV (A.xt T) A.nf g (rmsV (A.xt T) g) c hc (ix2 p l)
    = gx (A.xt T) g c hc (ix2 p l) * rmsV (A.xt T) g (ix2 p l) * broadcastTo S32x128 (gw A.nf c hc) (by decide) (ix2 p l) := rfl
  rw [e, gx_at, rmsV_at, bcRow32, gw_at]
  rfl

theorem maxAbsV_le (T : Fin 12) (g : Fin 8) (p : Fin 32) (l : Fin 128) (b : EReal) : ∀ (n c : ℕ) (h : c + n ≤ 40) (acc : FVec Ideal S32x128 .f32),
    maxAbsV (A.xt T) A.nf g (rmsV (A.xt T) g) n c h acc (ix2 p l) ≤ b
      ↔ acc (ix2 p l) ≤ b ∧ ∀ (i : ℕ) (_ : c ≤ i) (_ : i < c + n), max ((inA A).h (tok T (row g p)) (col i (by omega) l)) (-(inA A).h (tok T (row g p)) (col i (by omega) l)) ≤ b
  | 0, c, h, acc => by
    unfold maxAbsV
    exact ⟨fun h' => ⟨h', fun i h1 h2 => by omega⟩, fun h' => h'.1⟩
  | n + 1, c, h, acc => by
    unfold maxAbsV
    rw [maxAbsV_le T g p l b n (c + 1) (by omega)]
    have e : maximumf acc (absf (normedV (A.xt T) A.nf g (rmsV (A.xt T) g) c (by omega))) (ix2 p l)
        = max (acc (ix2 p l)) (max ((inA A).h (tok T (row g p)) (col c (by omega) l)) (-(inA A).h (tok T (row g p)) (col c (by omega) l))) :=
      congrArg (fun z : EReal => max (acc (ix2 p l)) (max z (-z))) (normedV_at A T g c (by omega) p l)
    rw [e, max_le_iff]
    constructor
    · rintro ⟨⟨h1, h2⟩, h3⟩
      refine ⟨h1, fun i hi hi' => ?_⟩
      rcases Nat.eq_or_lt_of_le hi with rfl | hi
      · exact h2
      · exact h3 i hi (by omega)
    · rintro ⟨h1, h2⟩
      exact ⟨⟨h1, h2 c le_rfl (by omega)⟩, fun i hi hi' => h2 i (by omega) (by omega)⟩

theorem rowMax_at (v : FVec Ideal S32x128 .f32) (p : Fin 32) (l : Fin 128) :
    rowMax v (ix2 p l) = (Finset.univ : Finset (Fin 128)).fold max (Ideal.ofBits .f32 0xFF800000#32) fun k => v (ix2 p k) := by
  unfold rowMax
  rw [bcCol32, cast32]
  exact maxCol v _ _ _ _ p

/-- The largest value of a row. -/
def rowAmax (T : Fin 12) (g : Fin 8) : FVec Ideal S32x128 .f32 :=
  rowMax (maxAbsV (A.xt T) A.nf g (rmsV (A.xt T) g) 40 0 (by omega) (broadcast S32x128 (Scalar.ofBits .f32 0x00000000#32)))

theorem rowAmax_at (T : Fin 12) (g : Fin 8) (p : Fin 32) (l : Fin 128) : rowAmax A T g (ix2 p l) = (inA A).amax (tok T (row g p)) := by
  unfold rowAmax
  rw [rowMax_at]
  refine eq_of_forall_ge_iff fun b => ?_
  have hn := (inA A).amax_nonneg (tok T (row g p))
  refine Iff.trans (Finset.fold_max_le b) ?_
  refine Iff.trans ?_ (Finset.fold_max_le (b := Ideal.ofBits .f32 0xFF800000#32) (f := fun k => max ((inA A).h (tok T (row g p)) k) (-(inA A).h (tok T (row g p)) k)) (s := Finset.univ) b).symm
  constructor
  · rintro ⟨h1, h2⟩
    refine ⟨h1, fun k _ => ?_⟩
    have h3 := ((maxAbsV_le A T g p ⟨k.val % 128, by omega⟩ b 40 0 (by omega) _).mp (h2 _ (Finset.mem_univ _))).2 (k.val / 128) (by omega) (by omega)
    rw [show col (k.val / 128) (by omega) ⟨k.val % 128, by omega⟩ = k from Fin.ext (by show 128 * (k.val / 128) + k.val % 128 = k.val; omega)] at h3
    exact h3
  · intro h
    refine ⟨h.1, fun l _ => (maxAbsV_le A T g p l b 40 0 (by omega) _).mpr ⟨?_, fun i hi hi' => h.2 _ (Finset.mem_univ _)⟩⟩
    rw [zero_at]
    exact hn.trans ((Finset.fold_max_le (b := Ideal.ofBits .f32 0xFF800000#32) (f := fun k => max ((inA A).h (tok T (row g p)) k) (-(inA A).h (tok T (row g p)) k)) (s := Finset.univ) b).mpr h)

theorem pos_at (T : Fin 12) (g : Fin 8) (p : Fin 32) (l : Fin 128) : 0 ≤ rowAmax A T g (ix2 p l) * step448 := by
  rw [rowAmax_at]
  exact mul_nonneg ((inA A).amax_nonneg _) step448_pos

theorem xsBlk_at (T : Fin 12) (g : Fin 8) (p : Fin 32) (l : Fin 128) :
    xsBlk (A.xt T) A.nf g (ix2 p l) = (inA A).scale (tok T (row g p)) := by
  refine (scale_at (rowAmax A T g) (ix2 p l) (pos_at A T g p l)).trans ?_
  rw [rowAmax_at]
  exact (refScale_eq ((inA A).amax_nonneg _)).symm

theorem clip_at {s : Shape} (H Z : FVec Ideal s .f32) (a b : EReal) (h) (i : s.Idx) :
    truncf .fp8e4m3 (minimumf (broadcast s b) (maximumf (broadcast s a) (mulf H Z))) h i = min b (max a (H i * Z i)) := rfl

theorem codeBlk_at (T : Fin 12) (g : Fin 8) (c : ℕ) (hc : c < 40) (p : Fin 32) (l : Fin 128) :
    codeBlk (A.xt T) A.nf g c hc (ix2 p l) = (inA A).code (tok T (row g p)) (col c hc l) := by
  unfold codeBlk clipCode In.code
  refine (clip_at _ _ _ _ _ _).trans ?_
  rw [normedV_at, refInv_eq ((inA A).amax_nonneg _), ← rowAmax_at A T g p l]
  exact congrArg (fun z => min _ (max _ (_ * z))) (inv_at (rowAmax A T g) (ix2 p l) (pos_at A T g p l))

theorem codes_at (T : Fin 12) (p : Fin 256) (k : Fin 5120) : A.codes T (ix2 p k) = (inA A).code (tok T p) k := by
  unfold Args.codes codeT
  refine (congrArg (codeBlk (A.xt T) A.nf _ _ _) (bix2 (⟨p.val % 32, Nat.mod_lt _ (by omega)⟩ : Fin 32) (⟨k.val % 128, Nat.mod_lt _ (by omega)⟩ : Fin 128))).trans ?_
  refine (codeBlk_at A T _ _ _ _ _).trans ?_
  congr 1
  · refine congrArg (tok T) (Fin.ext ?_)
    show 32 * (p.val / 32) + p.val % 32 = p.val; omega
  · refine Fin.ext ?_
    show 128 * (k.val / 128) + k.val % 128 = k.val; omega

theorem xs_at (T : Fin 12) (p : Fin 256) (l : Fin 128) : A.xs T (ix2 p l) = (inA A).scale (tok T p) := by
  unfold Args.xs xsT
  refine (congrArg (xsBlk (A.xt T) A.nf _) (bix2 (⟨p.val % 32, Nat.mod_lt _ (by omega)⟩ : Fin 32) l)).trans ?_
  refine (xsBlk_at A T _ _ _).trans ?_
  congr 1
  refine congrArg (tok T) (Fin.ext ?_)
  show 32 * (p.val / 32) + p.val % 32 = p.val; omega

theorem codesAll_at (t : Fin 3072) (k : Fin 5120) : A.codesAll (ix2 t k) = (inA A).code t k := by
  unfold Args.codesAll
  refine (congrArg (A.codes _) (bix2 (⟨t.val % 256, Nat.mod_lt _ (by omega)⟩ : Fin 256) k)).trans ?_
  refine (codes_at A _ _ _).trans ?_
  congr 1
  refine Fin.ext ?_
  show 256 * (t.val / 256) + t.val % 256 = t.val; omega

theorem row0 (v : FVec Ideal S128x128 .f32) (h h') (l : Fin 128) :
    extractStridedSlice S1x128 ![0, 0] (transpose S128x128 [1, 0] v h) h' (Cert.Blocks.ix2 0 l) = v (ix2 l 0) := by
  rw [bix2]
  pointwise

theorem xsOut_at (r : Fin 24) (l : Fin 128) : A.xsOut (ix2 r l) = (inA A).scale ⟨128 * r.val + l.val, by omega⟩ := by
  unfold Args.xsOut xsOutV scaleRowV
  refine (row0 _ _ _ _).trans ?_
  refine (congrArg (A.xs _) (unit_emb _ l 0 (by show 128 * (r.val % 2) + l.val < 256; omega) (by decide))).trans ?_
  refine (xs_at A _ _ _).trans ?_
  congr 1
  refine Fin.ext ?_
  show 256 * (r.val / 2) + (128 * (r.val % 2) + l.val) = 128 * r.val + l.val; omega

end Cert.Value

end
end
-- ==== Proof.ValHeads.lean ====
module

public import proofs.«01_k».proof.Proof.ValQuant
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.Lib.Pointwise.Select
public import Idealize.ShloMosaic.Lib.Pointwise.Sums
public import Idealize.ShloMosaic.Lib.ValueLayoutCasts

@[expose] public section

noncomputable section

/-! # The kernel's heads, entry by entry -/

namespace Cert.Value

open Idealize.ShloMosaic Cert.Spec Cert.Quant
open Cert.Blocks hiding ix2 ix3 ix2_eq ix3_eq

variable (A : Args Ideal)

/-! ## The projection -/

theorem acc_at (a : FVec Ideal S256x5120 .fp8e4m3) (b : FVec Ideal S5120x256 .fp8e4m3) (p q : Fin 256) :
    acc (F := Ideal) a b (ix2 p q) = ∑ k : Fin 5120, a (ix2 p k) * b (ix2 k q) := by
  unfold acc dims
  pointwise

theorem wt_at (n : Fin 15) (k : Fin 5120) (q : Fin 256) : A.wt n (ix2 k q) = (inA A).w k ⟨256 * n.val + q.val, by omega⟩ :=
  congrArg A.w ((unit_emb _ k q (by omega) (by omega)).trans (ix2_congr (Nat.zero_add _) rfl))

theorem cutLo (y : FVec Ideal S256x256 .f32) (h) (p : Fin 256) (l : Fin 128) :
    extractStridedSlice S256x128 ![0, 0] y h (ix2 p l) = y (ix2 p ⟨l.val, by omega⟩) := by
  pointwise
theorem cutHi (y : FVec Ideal S256x256 .f32) (h) (p : Fin 256) (l : Fin 128) :
    extractStridedSlice S256x128 ![0, 128] y h (ix2 p l) = y (ix2 p ⟨128 + l.val, by omega⟩) := by
  pointwise

theorem yHalf_at (y : FVec Ideal S256x256 .f32) (h : ℕ) (p : Fin 256) (l : Fin 128) :
    yHalf y (h % 2) (ix2 p l) = y (ix2 p ⟨128 * (h % 2) + l.val, by omega⟩) := by
  unfold yHalf
  by_cases h0 : h % 2 = 0
  · rw [if_pos h0, cutLo]
    exact congrArg y (ix2_congr rfl (by show l.val = 128 * (h % 2) + l.val; omega))
  · rw [if_neg h0, cutHi]
    exact congrArg y (ix2_congr rfl (by show 128 + l.val = 128 * (h % 2) + l.val; omega))

theorem scaled_at (y xs : FVec Ideal S256x128 .f32) (w : FVec Ideal S1x128 .f32) (p : Fin 256) (l : Fin 128) :
    scaled (F := Ideal) y xs w (ix2 p l) = y (ix2 p l) * xs (ix2 p l) * w (ix2 0 l) := by
  unfold scaled
  pointwise

theorem wsV_at (h : ℕ) (hh : h < 30) (l : Fin 128) : wsV A.ws h hh (ix2 0 l) = (inA A).ws (In.at' ⟨h, hh⟩ l) := by
  refine congrArg A.ws ((unit_emb _ 0 l (by show h + 0 < 30; omega) (by omega)).trans (ix2_congr ?_ ?_))
  · show h + 0 = (h * 128 + l.val) / 128; omega
  · show 0 + l.val = (h * 128 + l.val) % 128; omega

/-- A head before it is turned. -/
def yV (T : Fin 12) (h : ℕ) (hh : h < 30) : FVec Ideal S256x128 .f32 :=
  scaled (yHalf (acc (A.codes T) (A.wt ⟨h / 2, by omega⟩)) (h % 2)) (A.xs T) (wsV A.ws h hh)

theorem yV_at (T : Fin 12) (h : ℕ) (hh : h < 30) (p : Fin 256) (l : Fin 128) :
    yV A T h hh (ix2 p l) = (inA A).y (tok T p) (In.at' ⟨h, hh⟩ l) := by
  have hs : ∑ k : Fin 5120, A.codes T (ix2 p k) * A.wt ⟨h / 2, by omega⟩ (ix2 k ⟨128 * (h % 2) + l.val, by omega⟩)
      = ∑ k : Fin 5120, (inA A).code (tok T p) k * (inA A).w k (In.at' ⟨h, hh⟩ l) := by
    refine Finset.sum_congr rfl fun k _ => ?_
    rw [codes_at, wt_at]
    refine congrArg (fun z => (inA A).code (tok T p) k * (inA A).w k z) (Fin.ext ?_)
    show 256 * (h / 2) + (128 * (h % 2) + l.val) = h * 128 + l.val; omega
  unfold yV
  rw [scaled_at, yHalf_at, acc_at, xs_at, wsV_at, hs]
  unfold In.y
  rfl

/-! ## The rotary tables -/

/-- The lane half a head away. -/
def opp (l : Fin 128) : Fin 128 := ⟨(l.val + 64) % 128, Nat.mod_lt _ (by omega)⟩

theorem rot_at {a : ℕ} (y : FVec Ideal ⟨2, ![a, 128]⟩ .f32) (h) (p : Fin a) (l : Fin 128) :
    dynamicRotate 1 64#32 none y h (ix2 p l) = y (ix2 p (opp l)) := by
  refine congrArg y (funext fun b => ?_)
  match b with
  | ⟨0, _⟩ => rfl
  | ⟨1, _⟩ => exact Fin.ext (by show (l.val + 128 - 64) % 128 = (l.val + 64) % 128; omega)

theorem low_at (p l : Fin 128) : low (ix2 p l) = if l.val < 64 then 1#1 else 0#1 := by
  have e : low (ix2 p l) = IntOp.cmpi .slt (BitVec.ofNat 32 (0 * 128 + l.val)) 64#32 := rfl
  rw [e, Nat.zero_mul, Nat.zero_add]
  clear e
  revert l
  decide

theorem low_lo {α : Type} (p l : Fin 128) (h : l.val < 64) (a b : S128x128.Idx → α) : select low a b (ix2 p l) = a (ix2 p l) := by
  have e : select low a b (ix2 p l) = Scalar.select (low (ix2 p l)) (a (ix2 p l)) (b (ix2 p l)) := rfl
  rw [e, low_at, if_pos h]
  rfl
theorem low_hi {α : Type} (p l : Fin 128) (h : ¬ l.val < 64) (a b : S128x128.Idx → α) : select low a b (ix2 p l) = b (ix2 p l) := by
  have e : select low a b (ix2 p l) = Scalar.select (low (ix2 p l)) (a (ix2 p l)) (b (ix2 p l)) := rfl
  rw [e, low_at, if_neg h]
  rfl

theorem lane_at (l : Fin 128) : lane (ix2 0 l) = BitVec.ofNat 32 (l.val % 64) := by
  revert l
  decide +kernel

theorem freqs_at (l : Fin 128) : freqs (F := Ideal) (ix2 0 l) = In.freq (l.val % 64) := by
  have e : freqs (F := Ideal) (ix2 0 l) = Ideal.pow (Ideal.ofBits .f32 0x48F42400#32)
      (Ideal.div (Ideal.ofBits .f32 0x00000000#32 - Ideal.ofBits .f32 0x40000000#32 * (((lane (ix2 0 l)).toInt : ℝ) : EReal)) (Ideal.ofBits .f32 0x43000000#32)) := rfl
  rw [e, lane_at, zero_eq]
  rfl

theorem firstRow {α : Type} (v : S8x128.Idx → α) (h h') (l : Fin 128) :
    shapeCast S1x128 (extractStridedSlice S1x128 ![0, 0] v h) h' (ix2 0 l) = v (ix2 0 l) := by
  pointwise

theorem freq_at (l : Fin 128) : (Args.freq (F := Ideal)) (ix2 0 l) = In.freq (l.val % 64) := (firstRow _ _ _ l).trans (freqs_at l)

theorem posRows_at (q : IVec S1x128 32) (r l : Fin 128) : posRows (F := Ideal) q (ix2 r l) = q (ix2 0 r) := by
  unfold posRows
  pointwise

theorem posV_at (T : Fin 12) (j : Fin 2) (r : Fin 128) : posV A.pos T j (ix2 0 r) = (inA A).pos (tok T ⟨128 * j.val + r.val, by omega⟩) := by
  refine congrArg A.pos ((unit_emb _ 0 r (by decide) (by omega)).trans (ix2_congr rfl ?_))
  show 256 * T.val + 128 * j.val + r.val = 256 * T.val + (128 * j.val + r.val); omega

theorem bcRow128 {α : Type} (v : S1x128.Idx → α) (h) (t k : Fin 128) : broadcastTo S128x128 v h (ix2 t k) = v (ix2 0 k) := by
  pointwise

theorem angle_at (f : FVec Ideal S1x128 .f32) (p₀ p₁ : IVec S1x128 32) (i : S128x128.Idx) : angle (F := Ideal) f p₀ p₁ i
    = (((select low (posRows (F := Ideal) p₀) (posRows (F := Ideal) p₁) i).toInt : ℝ) : EReal) * broadcastTo S128x128 f (by decide) i := rfl

theorem angleV_lo (T : Fin 12) (r l : Fin 128) (h : l.val < 64) :
    angleV (Args.freq (F := Ideal)) A.pos T (ix2 r l) = (inA A).angle (tok T ⟨128 * 0 + r.val, by omega⟩) (l.val % 64) := by
  unfold angleV
  rw [angle_at, low_lo _ _ h, posRows_at, bcRow128, freq_at, posV_at]
  rfl
theorem angleV_hi (T : Fin 12) (r l : Fin 128) (h : ¬ l.val < 64) :
    angleV (Args.freq (F := Ideal)) A.pos T (ix2 r l) = (inA A).angle (tok T ⟨128 * 1 + r.val, by omega⟩) (l.val % 64) := by
  unfold angleV
  rw [angle_at, low_hi _ _ h, posRows_at, bcRow128, freq_at, posV_at]
  rfl

theorem opp_mod (l : Fin 128) : (opp l).val % 64 = l.val % 64 := by
  show (l.val + 64) % 128 % 64 = l.val % 64; omega
theorem opp_lo (l : Fin 128) (h : l.val < 64) : ¬ (opp l).val < 64 := by
  show ¬ (l.val + 64) % 128 < 64; omega
theorem opp_hi (l : Fin 128) (h : ¬ l.val < 64) : (opp l).val < 64 := by
  show (l.val + 64) % 128 < 64; omega

theorem cos_at' (a : FVec Ideal S128x128 .f32) (i : S128x128.Idx) : cos a i = Ideal.cos (a i) := rfl
theorem sin_at' (a : FVec Ideal S128x128 .f32) (i : S128x128.Idx) : sin a i = Ideal.sin (a i) := rfl
theorem neg_at (a : FVec Ideal S128x128 .f32) (i : S128x128.Idx) : neg a i = - a i := by
  have e : neg a i = Ideal.ofBits .f32 0x00000000#32 - a i := rfl
  rw [e, zero_eq, zero_sub]
theorem roll_at (a : FVec Ideal S128x128 .f32) (r l : Fin 128) : roll a (ix2 r l) = a (ix2 r (opp l)) := rot_at a _ r l

theorem cosHalf_at (T : Fin 12) (j : ℕ) (hj : j < 2) (r l : Fin 128) :
    cosHalf (angleV (Args.freq (F := Ideal)) A.pos T) j (ix2 r l) = Ideal.cos ((inA A).angle (tok T ⟨128 * j + r.val, by omega⟩) (l.val % 64)) := by
  unfold cosHalf
  by_cases h0 : j = 0
  · subst h0
    rw [if_pos rfl]
    by_cases h : l.val < 64
    · rw [low_lo _ _ h, cos_at', angleV_lo A T r l h]
    · rw [low_hi _ _ h, roll_at, cos_at', angleV_lo A T r _ (opp_hi l h), opp_mod]
  · have h1 : j = 1 := by omega
    subst h1
    rw [if_neg h0]
    by_cases h : l.val < 64
    · rw [low_lo _ _ h, roll_at, cos_at', angleV_hi A T r _ (opp_lo l h), opp_mod]
    · rw [low_hi _ _ h, cos_at', angleV_hi A T r l h]

theorem sinHalf_at (T : Fin 12) (j : ℕ) (hj : j < 2) (r l : Fin 128) :
    sinHalf (angleV (Args.freq (F := Ideal)) A.pos T) j (ix2 r l)
      = if l.val < 64 then - Ideal.sin ((inA A).angle (tok T ⟨128 * j + r.val, by omega⟩) (l.val % 64))
        else Ideal.sin ((inA A).angle (tok T ⟨128 * j + r.val, by omega⟩) (l.val % 64)) := by
  unfold sinHalf
  by_cases h0 : j = 0
  · subst h0
    rw [if_pos rfl]
    by_cases h : l.val < 64
    · rw [if_pos h, low_lo _ _ h, neg_at, sin_at', angleV_lo A T r l h]
    · rw [if_neg h, low_hi _ _ h, roll_at, sin_at', angleV_lo A T r _ (opp_hi l h), opp_mod]
  · have h1 : j = 1 := by omega
    subst h1
    rw [if_neg h0]
    by_cases h : l.val < 64
    · rw [if_pos h, low_lo _ _ h, neg_at, roll_at, sin_at', angleV_hi A T r _ (opp_lo l h), opp_mod]
    · rw [if_neg h, low_hi _ _ h, sin_at', angleV_hi A T r l h]

theorem half_tok (T : Fin 12) (p : Fin 256) : tok T ⟨128 * (p.val / 128) + p.val % 128, by omega⟩ = tok T p :=
  congrArg (tok T) (Fin.ext (by show 128 * (p.val / 128) + p.val % 128 = p.val; omega))

theorem cosT_at (T : Fin 12) (p : Fin 256) (l : Fin 128) : A.cos T (ix2 p l) = Ideal.cos ((inA A).angle (tok T p) (l.val % 64)) := by
  unfold Args.cos cosT halves
  refine (congrArg (cosHalf _ _) (bix2 (⟨p.val % 128, Nat.mod_lt _ (by omega)⟩ : Fin 128) l)).trans ?_
  refine (cosHalf_at A T (p.val / 128) (by omega) _ l).trans ?_
  exact congrArg (fun z => Ideal.cos ((inA A).angle z _)) (half_tok T p)

theorem sinT_at (T : Fin 12) (p : Fin 256) (l : Fin 128) : A.sin T (ix2 p l)
    = if l.val < 64 then - Ideal.sin ((inA A).angle (tok T p) (l.val % 64)) else Ideal.sin ((inA A).angle (tok T p) (l.val % 64)) := by
  unfold Args.sin sinT halves
  refine (congrArg (sinHalf _ _) (bix2 (⟨p.val % 128, Nat.mod_lt _ (by omega)⟩ : Fin 128) l)).trans ?_
  refine (sinHalf_at A T (p.val / 128) (by omega) _ l).trans ?_
  exact congrArg (fun z => if l.val < 64 then - Ideal.sin ((inA A).angle z _) else Ideal.sin ((inA A).angle z _)) (half_tok T p)

/-! ## The heads -/

theorem rotated_at (y c s : FVec Ideal S256x128 .f32) (p : Fin 256) (l : Fin 128) :
    rotated (F := Ideal) y c s (ix2 p l) = y (ix2 p l) * c (ix2 p l) + y (ix2 p (opp l)) * s (ix2 p l) :=
  congrArg (fun z : EReal => y (ix2 p l) * c (ix2 p l) + z * s (ix2 p l)) (rot_at y _ p l)

theorem turned_at (T : Fin 12) (h : ℕ) (hh : h < 30) (p : Fin 256) (l : Fin 128) :
    rotated (F := Ideal) (yV A T h hh) (A.cos T) (A.sin T) (ix2 p l) = (inA A).turned (tok T p) ⟨h, hh⟩ l := by
  rw [rotated_at, yV_at, yV_at, cosT_at, sinT_at]
  unfold In.turned
  by_cases hl : l.val < 64
  · rw [if_pos hl, dif_pos hl, mul_neg, ← sub_eq_add_neg, show l.val % 64 = l.val by omega,
      show opp l = ⟨l.val + 64, by omega⟩ from Fin.ext (by show (l.val + 64) % 128 = l.val + 64; omega)]
  · rw [if_neg hl, dif_neg hl, show l.val % 64 = l.val - 64 by omega,
      show opp l = ⟨l.val - 64, by omega⟩ from Fin.ext (by show (l.val + 64) % 128 = l.val - 64; omega)]

theorem castHead (v : FVec Ideal S256x128 .f32) (h h') (p : Fin 256) (l : Fin 128) :
    shapeCast S1x256x128 (truncf .bf16 v h) h' (Cert.Blocks.ix3 0 p l) = v (ix2 p l) := by
  rw [bix3]
  pointwise

theorem headT_at (T : Fin 12) (h : ℕ) (hh : h < 30) (p : Fin 256) (l : Fin 128) :
    headT (A.codes T) (A.xs T) (A.cos T) (A.sin T) A.wt A.ws h hh (Cert.Blocks.ix3 0 p l) = (inA A).head (tok T p) ⟨h, hh⟩ l := by
  unfold headT headV
  refine (castHead _ _ _ p l).trans ?_
  unfold In.head
  by_cases h20 : h < 20
  · rw [if_pos h20, if_pos (show (⟨h, hh⟩ : Fin 30).val < 20 from h20)]
    exact turned_at A T h hh p l
  · rw [if_neg h20, if_neg (show ¬ (⟨h, hh⟩ : Fin 30).val < 20 from h20)]
    exact yV_at A T h hh p l

theorem partAll_at (n : Fin 3) (h : Fin 10) (t : Fin 3072) (l : Fin 128) :
    A.partAll n (ix3 h t l) = (inA A).head t ⟨10 * n.val + h.val, by omega⟩ l := by
  have key : ∀ (h' : ℕ) (hh' : h' < 30) (T : Fin 12) (p : Fin 256) (l' : Fin 128), h' = 10 * n.val + h.val → tok T p = t → l' = l →
      headT (A.codes T) (A.xs T) (A.cos T) (A.sin T) A.wt A.ws h' hh' (Cert.Blocks.ix3 0 p l') = (inA A).head t ⟨10 * n.val + h.val, by omega⟩ l := by
    rintro _ _ T p _ rfl rfl rfl
    exact headT_at A T _ _ p _
  refine key _ _ ⟨t.val / 256, by omega⟩ _ _ ?_ (Fin.ext ?_) (Fin.ext ?_)
  · show 10 * n.val + 1 * h.val = _; omega
  · show 256 * (t.val / 256) + (0 + 1 * (t.val % 256)) = t.val; omega
  · show 0 + 1 * l.val = l.val; omega

end Cert.Value

end
end
-- ==== Proof.ValRun.lean ====
module

public import proofs.«01_k».proof.Proof.ValHeads
public import proofs.«01_k».proof.Proof.Run
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.Lib.Pointwise.Select
public import Idealize.ShloMosaic.Lib.Pointwise.Sums
public import Idealize.ShloMosaic.Lib.ValueLayoutCasts

@[expose] public section

noncomputable section

/-! # The kernel's results are the specified ones -/

namespace Cert.Kernel

open Idealize.ShloMosaic Idealize.ShloMosaic.TcCoe Idealize.ShloMosaic.Tactic Idealize.SL.Sem Cert.Spec
open Cert.Kernel.Gen

section

theorem inA_casts (a0 : Vec Ideal S1x3072x5120 .bf16) (a1 : Vec Ideal S5120 .bf16) (a2 : Vec Ideal S5120x3840 .fp8e4m3) (a3 : Vec Ideal S3840 .f32)
    (a4 : Vec Ideal S1x3072 .i32) :
    Cert.Value.inA (⟨shapeCast S3072x5120 a0 shapeCasts_S1x3072x5120_S3072x5120, shapeCast S40x128 a1 shapeCasts_S5120_S40x128, a2,
      shapeCast S30x128 a3 shapeCasts_S3840_S30x128, a4⟩ : Cert.Blocks.Args Ideal) = In.ofArgs a0 a1 a2 a3 a4 := by
  have h0 : ∀ t k, shapeCast S3072x5120 a0 shapeCasts_S1x3072x5120_S3072x5120 (ix2 t k) = a0 (ix3 0 t k) := fun t k => by pointwise
  have h1 : ∀ k : Fin 5120, shapeCast S40x128 a1 shapeCasts_S5120_S40x128 (ix2 ⟨k.val / 128, by omega⟩ ⟨k.val % 128, by omega⟩) = a1 (ix1 k) := fun k =>
    shapeCast_apply a1 _ _ (ix1 k) (by
      rw [Shape.rowMajor_val_two, Shape.rowMajor_val_one]; show k.val = k.val / 128 * 128 + k.val % 128; omega)
  have h3 : ∀ k : Fin 3840, shapeCast S30x128 a3 shapeCasts_S3840_S30x128 (ix2 ⟨k.val / 128, by omega⟩ ⟨k.val % 128, by omega⟩) = a3 (ix1 k) := fun k =>
    shapeCast_apply a3 _ _ (ix1 k) (by
      rw [Shape.rowMajor_val_two, Shape.rowMajor_val_one]; show k.val = k.val / 128 * 128 + k.val % 128; omega)
  unfold Cert.Value.inA In.ofArgs
  simp only [h0, h1, h3]

variable (m : (ℓ : Loc nD τ sig) → Buf (Elt Ideal) ℓ) (c : Dev nD)

/-- What the program reads of its arguments. -/
def inArgs : In := In.ofArgs (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

theorem V_v0 : V m c main_v0 = shapeCast S3072x5120 (m ((c.tc : Thread nD τ).loc main_arg0)) shapeCasts_S1x3072x5120_S3072x5120 := by
  unfold V V0
  simp only [List.flatten_cons, List.flatten_nil, List.append_nil]
  after_results
  rfl
theorem V_v1 : V m c main_v1 = shapeCast S40x128 (m ((c.tc : Thread nD τ).loc main_arg1)) shapeCasts_S5120_S40x128 := by
  unfold V V0
  simp only [List.flatten_cons, List.flatten_nil, List.append_nil]
  after_results
  rfl
theorem V_v2 : V m c main_v2 = shapeCast S30x128 (m ((c.tc : Thread nD τ).loc main_arg3)) shapeCasts_S3840_S30x128 := by
  unfold V V0
  simp only [List.flatten_cons, List.flatten_nil, List.append_nil]
  after_results
  rfl

theorem inA_eq : Cert.Value.inA (argsOf m c) = inArgs m c := by
  unfold argsOf
  rw [V_v0, V_v1, V_v2, V_main_arg2, V_main_arg4]
  exact inA_casts _ _ _ _ _

theorem heads_first {α : Type} (v : S10x3072x128.Idx → α) (i : S1x3072x10x128.Idx) :
    shapeCast S1x3072x10x128 (transpose S3072x10x128 [1, 0, 2] v transposes_S10x3072x128_S3072x10x128_1_0_2) shapeCasts_S3072x10x128_S1x3072x10x128 i
      = v (ix3 (i 2) (i 1) (i 3)) := by
  refine (shapeCast_apply _ _ i (ix3 (i 1) (i 2) (i 3)) ?_).trans ?_
  · have h : (i 0).val < 1 := (i 0).isLt
    rw [Shape.rowMajor_val_three, Shape.rowMajor_val_four]
    show ((i 1).val * 10 + (i 2).val) * 128 + (i 3).val = (((i 0).val * 3072 + (i 1).val) * 10 + (i 2).val) * 128 + (i 3).val
    omega
  · refine congrArg v (funext fun a => Fin.ext ?_)
    match a with
    | ⟨0, _⟩ => rfl
    | ⟨1, _⟩ => rfl
    | ⟨2, _⟩ => rfl

theorem partOut_eq (n : Fin 3) : partOut m c n = (inArgs m c).partS n := by
  funext i
  refine (heads_first _ i).trans ?_
  rw [← inA_eq]
  exact Cert.Value.partAll_at (argsOf m c) n (i 2) (i 1) (i 3)

theorem codesOut_eq : codesOut m c = (inArgs m c).codesS := by
  funext i
  rw [← inA_eq]
  refine (shapeCast_apply _ _ i (ix2 (i 1) (i 2)) ?_).trans (Cert.Value.codesAll_at (argsOf m c) (i 1) (i 2))
  have h : (i 0).val < 1 := (i 0).isLt
  rw [Shape.rowMajor_val_two, Shape.rowMajor_val_three]
  show (i 1).val * 5120 + (i 2).val = ((i 0).val * 3072 + (i 1).val) * 5120 + (i 2).val
  omega

theorem scalesOut_eq : scalesOut m c = (inArgs m c).scalesS := by
  funext i
  rw [← inA_eq]
  have h0 : (i 0).val < 1 := (i 0).isLt
  have h1 : (i 1).val < 3072 := (i 1).isLt
  have h2 : (i 2).val < 1 := (i 2).isLt
  refine (shapeCast_apply _ _ i (ix2 ⟨(i 1).val / 128, by omega⟩ ⟨(i 1).val % 128, by omega⟩) ?_).trans
    ((Cert.Value.xsOut_at (argsOf m c) _ _).trans ?_)
  · rw [Shape.rowMajor_val_two, Shape.rowMajor_val_three]
    show (i 1).val / 128 * 128 + (i 1).val % 128 = ((i 0).val * 3072 + (i 1).val) * 1 + (i 2).val
    omega
  · refine congrArg (Cert.Value.inA (argsOf m c)).scale (Fin.ext ?_)
    show 128 * ((i 1).val / 128) + (i 1).val % 128 = (i 1).val
    omega

end

end Cert.Kernel

end
end
-- ==== Proof.RefAt.lean ====
module

public import proofs.«01_k».proof.Proof.Spec
public import Idealize.ShloMosaic.Lib.ValueLayoutCasts
public import proofs.«01_k».proof.Proof.Gen.ReferenceIdeal.Frame
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.Lib.Pointwise.Select
public import Idealize.ShloMosaic.Lib.Pointwise.Sums

@[expose] public section

noncomputable section

/-! # The reference's values, entry by entry -/

namespace Cert.ReferenceIdeal.Gen

open Idealize.ShloMosaic Cert.Spec Cert.Quant

variable (x0 : Vec Ideal S3072x5120 .bf16) (x1 : Vec Ideal S1x5120 .bf16) (x2 : Vec Ideal S5120x3840 .fp8e4m3) (x3 : Vec Ideal S1x3840 .f32)
  (x4 : Vec Ideal S3072x1 .i32)

/-- What the reference reads. -/
def inp : In where
  x t k := x0 (ix2 t k)
  nw k := x1 (ix2 0 k)
  w k n := x2 (ix2 k n)
  ws n := x3 (ix2 0 n)
  pos t := x4 (ix2 t 0)

theorem shapeCast_a_a1_apply' {α : Type} {a : Nat} (x : (⟨1, ![a]⟩ : Shape).Idx → α) (h : (⟨1, ![a]⟩ : Shape).ShapeCasts ⟨2, ![a, 1]⟩)
    (i : Fin a) : shapeCast ⟨2, ![a, 1]⟩ x h (ix2 i 0) = x (ix1 i) :=
  shapeCast_apply x h _ _ (by rw [Shape.rowMajor_val_two, Shape.rowMajor_val_one]; show i.val = i.val * 1 + 0; omega)

theorem sumCol {a b : ℕ} (v : FVec Ideal ⟨2, ![a, b]⟩ .f32) (h) (hf) (ha) (hs) (t : Fin a) :
    shapeCast ⟨2, ![a, 1]⟩ (multiReduction .add [1] (⟨1, ![a]⟩ : Shape) v 0x00000000#32 h hf ha) hs (ix2 t 0) = ∑ k : Fin b, v (ix2 t k) := by
  rw [shapeCast_a_a1_apply', Ideal.multiReduction_add_single]
  refine Finset.sum_congr rfl fun k _ => congrArg v (funext fun x => ?_)
  match x with
  | ⟨0, _⟩ => rfl
  | ⟨1, _⟩ => rfl

theorem maxCol {a b : ℕ} (v : FVec Ideal ⟨2, ![a, b]⟩ .f32) (h) (hf) (ha) (hs) (t : Fin a) :
    shapeCast ⟨2, ![a, 1]⟩ (multiReduction .maximumf [1] (⟨1, ![a]⟩ : Shape) v 0xFF800000#32 h hf ha) hs (ix2 t 0)
      = (Finset.univ : Finset (Fin b)).fold max (Ideal.ofBits .f32 0xFF800000#32) fun k => v (ix2 t k) := by
  rw [shapeCast_a_a1_apply', Ideal.multiReduction_maximumf_single]
  refine congrArg (Finset.fold max _ · _) (funext fun k => congrArg v (funext fun x => ?_))
  match x with
  | ⟨0, _⟩ => rfl
  | ⟨1, _⟩ => rfl

section
variable {s : Shape} (E M : FVec Ideal s .f32) (i : s.Idx) (a b c d z : EReal)

theorem scale_sel : select (cmpf .ogt E (broadcast s a)) (broadcast s b) (exp2 E) i = Scalar.select (Ideal.cmp .ogt (E i) a) b (Ideal.exp2 (E i)) := rfl

theorem inv_sel : select (cmpf .ogt E (broadcast s a)) (broadcast s b) (exp2 (subf (broadcast s z) E)) i
    = Scalar.select (Ideal.cmp .ogt (E i) a) b (Ideal.exp2 (z - E i)) := rfl

theorem expo_sel : select (ori (cmpf .olt M (broadcast s a)) (cmpf .oeq M (broadcast s b))) (broadcast s z)
      (addf (floor (divf (log M) (log (broadcast s c)))) (broadcast s d)) i
    = Scalar.select (IntOp.ori (Ideal.cmp .olt (M i) a) (Ideal.cmp .oeq (M i) b)) z (Ideal.liftRound Int.floor (Ideal.div (Ideal.log (M i)) (Ideal.log c)) + d) := rfl

theorem expo_sel' (e : EReal) {v : EReal} (hv : M i = v) :
    select (ori (cmpf .olt (mulf M (broadcast s e)) (broadcast s a)) (cmpf .oeq (mulf M (broadcast s e)) (broadcast s b))) (broadcast s z)
      (addf (floor (divf (log (mulf M (broadcast s e))) (log (broadcast s c)))) (broadcast s d)) i
    = Scalar.select (IntOp.ori (Ideal.cmp .olt (v * e) a) (Ideal.cmp .oeq (v * e) b)) z
        (Ideal.liftRound Int.floor (Ideal.div (Ideal.log (v * e)) (Ideal.log c)) + d) := by
  subst hv
  exact expo_sel _ _ _ _ _ _ _

end

theorem pay5_at (t : Fin 3072) (k : Fin 5120) : k0_pay5 (F := Ideal) x0 x1 (ix2 t k) = (inp x0 x1 x2 x3 x4).h t k := by
  unfold k0_pay5 In.h inp
  pointwise

theorem amax_at (t : Fin 3072) :
    shapeCast S3072x1 (multiReduction .maximumf [1] S3072 (absf (k0_pay5 (F := Ideal) x0 x1)) 0xFF800000#32 reduces_S3072x5120_S3072 (.inl rfl) rfl)
      shapeCasts_S3072_S3072x1 (ix2 t 0) = (inp x0 x1 x2 x3 x4).amax t := by
  refine (maxCol (absf (k0_pay5 (F := Ideal) x0 x1)) _ _ _ _ t).trans ?_
  refine congrArg (Finset.fold max _ · _) (funext fun k => ?_)
  exact congrArg (fun z : EReal => max z (-z)) (pay5_at x0 x1 x2 x3 x4 t k)

theorem pay6_at (t : Fin 3072) : k0_pay6 (F := Ideal) x0 x1 (ix2 t 0) = refE ((inp x0 x1 x2 x3 x4).amax t * step448) := by
  unfold k0_pay6 refE step448
  exact expo_sel' _ _ _ _ _ _ _ _ (amax_at x0 x1 x2 x3 x4 t)

theorem pay7_at (t : Fin 3072) : k0_pay7 (F := Ideal) x0 x1 (ix2 t 0) = (inp x0 x1 x2 x3 x4).scale t := by
  unfold k0_pay7 In.scale refScale
  rw [← pay6_at x0 x1 x2 x3 x4]
  exact scale_sel _ _ _ _

theorem bcCol {α : Type} (v : S3072x1.Idx → α) (h) (t : Fin 3072) (k : Fin 5120) : broadcastTo S3072x5120 v h (ix2 t k) = v (ix2 t 0) := by
  pointwise

theorem clip_at {s : Shape} (H Z : FVec Ideal s .f32) (a b : EReal) (h) (i : s.Idx) :
    truncf .fp8e4m3 (minimumf (broadcast s b) (maximumf (broadcast s a) (mulf H Z))) h i = min b (max a (H i * Z i)) := rfl

theorem pay9_at (t : Fin 3072) (k : Fin 5120) :
    k0_pay9 (F := Ideal) (k0_pay5 x0 x1) (k0_pay6 x0 x1) (k0_pay8 (F := Ideal)) (ix2 t k) = (inp x0 x1 x2 x3 x4).code t k := by
  unfold k0_pay9 k0_pay8 In.code refInv
  rw [← pay6_at x0 x1 x2 x3 x4, ← pay5_at x0 x1 x2 x3 x4]
  refine (clip_at _ _ _ _ _ _).trans ?_
  rw [bcCol]
  exact congrArg (fun z => min _ (max _ (_ * z))) (inv_sel _ _ _ _ _)

theorem pay10_at (t : Fin 3072) (l : Fin 64) : k0_pay10 (F := Ideal) x4 (ix2 t l) = (inp x0 x1 x2 x3 x4).angle t l.val := by
  unfold k0_pay10 In.angle In.freq inp
  pointwise
  rfl

theorem pay11_at (t : Fin 3072) (l : Fin 64) : k0_pay11 (F := Ideal) x4 (ix3 t 0 l) = Ideal.cos ((inp x0 x1 x2 x3 x4).angle t l.val) := by
  unfold k0_pay11
  pointwise [pay10_at x0 x1 x2 x3 x4]

theorem pay12_at (t : Fin 3072) (l : Fin 64) : k0_pay12 (F := Ideal) x4 (ix3 t 0 l) = Ideal.sin ((inp x0 x1 x2 x3 x4).angle t l.val) := by
  unfold k0_pay12
  pointwise [pay10_at x0 x1 x2 x3 x4]

theorem pay13_at (t : Fin 3072) (hd : Fin 30) (l : Fin 128) :
    k0_pay13 (F := Ideal) (k0_pay5 x0 x1) (k0_pay6 x0 x1) (k0_pay7 x0 x1) (k0_pay8 (F := Ideal)) x2 x3 (ix3 t hd l)
      = (inp x0 x1 x2 x3 x4).y t (In.at' hd l) := by
  unfold k0_pay13 In.y In.at'
  pointwise [pay9_at x0 x1 x2 x3 x4, pay7_at x0 x1 x2 x3 x4]
  rfl

section
variable (c s : FVec Ideal S3072x1x64 .f32) (lo hi : FVec Ideal S3072x20x64 .f32)

theorem pay1_at (t : Fin 3072) (hd : Fin 20) (l : Fin 128) :
    k0_pay1 (F := Ideal) c s lo hi (ix3 t hd l) = if hl : l.val < 64 then
      lo (ix3 t hd ⟨l.val, hl⟩) * c (ix3 t 0 ⟨l.val, hl⟩) - hi (ix3 t hd ⟨l.val, hl⟩) * s (ix3 t 0 ⟨l.val, hl⟩)
    else hi (ix3 t hd ⟨l.val - 64, by omega⟩) * c (ix3 t 0 ⟨l.val - 64, by omega⟩) + lo (ix3 t hd ⟨l.val - 64, by omega⟩) * s (ix3 t 0 ⟨l.val - 64, by omega⟩) := by
  unfold k0_pay1
  pointwise

theorem pay2_at (t : Fin 3072) (hd : Fin 10) (l : Fin 128) :
    k0_pay2 (F := Ideal) c s lo hi (ix3 t hd l) = k0_pay1 (F := Ideal) c s lo hi (ix3 t ⟨hd.val, by omega⟩ l) := by
  unfold k0_pay2
  pointwise

theorem pay3_at (t : Fin 3072) (hd : Fin 10) (l : Fin 128) :
    k0_pay3 (F := Ideal) c s lo hi (ix3 t hd l) = k0_pay1 (F := Ideal) c s lo hi (ix3 t ⟨10 + hd.val, by omega⟩ l) := by
  unfold k0_pay3
  pointwise
end

theorem pay4_at (v : FVec Ideal S3072x30x128 .f32) (t : Fin 3072) (hd : Fin 10) (l : Fin 128) :
    k0_pay4 (F := Ideal) v (ix3 t hd l) = v (ix3 t ⟨20 + hd.val, by omega⟩ l) := by
  unfold k0_pay4
  pointwise

section
variable (a : FVec Ideal S3072x5120 .f32) (b c d : FVec Ideal S3072x1 .f32) (w : Vec Ideal S5120x3840 .fp8e4m3) (ws : Vec Ideal S1x3840 .f32)
theorem pay15_at (t : Fin 3072) (hd : Fin 20) (l : Fin 64) :
    k0_pay15 (F := Ideal) a b c d w ws (ix3 t hd l) = k0_pay13 (F := Ideal) a b c d w ws (ix3 t ⟨hd.val, by omega⟩ ⟨l.val, by omega⟩) := by
  unfold k0_pay15 k0_pay14
  pointwise

theorem pay16_at (t : Fin 3072) (hd : Fin 20) (l : Fin 64) :
    k0_pay16 (F := Ideal) a b c d w ws (ix3 t hd l) = k0_pay13 (F := Ideal) a b c d w ws (ix3 t ⟨hd.val, by omega⟩ ⟨64 + l.val, by omega⟩) := by
  unfold k0_pay16 k0_pay14
  pointwise
end

end Cert.ReferenceIdeal.Gen

end
end
-- ==== Proof.RefRun.lean ====
module

public import proofs.«01_k».proof.Proof.RefAt
public import Idealize.ShloMosaic.Lib.Pipeline.ValueKit.Basic
public import Idealize.ShloMosaic.Lib.Pipeline.ValueKit.Geometry

@[expose] public section

noncomputable section

/-! # The reference's run -/

namespace Cert.ReferenceIdeal.Gen

open Idealize.ShloMosaic Idealize.ShloMosaic.TcCoe Idealize.ShloMosaic.Tactic Idealize.SL.Sem Cert.Spec Cert.Quant
open Idealize.ShloMosaic.Pipeline (Dat)

section
variable (x0 : Vec Ideal S3072x5120 .bf16) (x1 : Vec Ideal S1x5120 .bf16) (x2 : Vec Ideal S5120x3840 .fp8e4m3) (x3 : Vec Ideal S1x3840 .f32)
  (x4 : Vec Ideal S3072x1 .i32)

theorem ld_0 : View.ld x0 r0_0 = x0 := View.ld_unit_lit _ _ (by decide +kernel)
theorem ld_1 : View.ld x1 r0_1 = x1 := View.ld_unit_lit _ _ (by decide +kernel)
theorem ld_2 : View.ld x2 r0_2 = x2 := View.ld_unit_lit _ _ (by decide +kernel)
theorem ld_3 : View.ld x3 r0_3 = x3 := View.ld_unit_lit _ _ (by decide +kernel)
theorem ld_4 : View.ld x4 r0_4 = x4 := View.ld_unit_lit _ _ (by decide +kernel)

theorem turned_at (t : Fin 3072) (hd : Fin 20) (l : Fin 128) :
    k0_pay1 (F := Ideal) (k0_pay11 x4) (k0_pay12 x4) (k0_pay15 (k0_pay5 x0 x1) (k0_pay6 x0 x1) (k0_pay7 x0 x1) (k0_pay8 (F := Ideal)) x2 x3)
      (k0_pay16 (k0_pay5 x0 x1) (k0_pay6 x0 x1) (k0_pay7 x0 x1) (k0_pay8 (F := Ideal)) x2 x3) (ix3 t hd l)
      = (inp x0 x1 x2 x3 x4).turned t ⟨hd.val, by omega⟩ l := by
  have hd' : hd.val < 30 := by omega
  rw [pay1_at]
  unfold In.turned
  by_cases hl : l.val < 64
  · rw [dif_pos hl, dif_pos hl, pay15_at, pay16_at, pay13_at x0 x1 x2 x3 x4, pay13_at x0 x1 x2 x3 x4, pay11_at x0 x1 x2 x3 x4, pay12_at x0 x1 x2 x3 x4]
    rw [show (⟨64 + l.val, by omega⟩ : Fin 128) = ⟨l.val + 64, by omega⟩ from Fin.ext (Nat.add_comm _ _)]
  · rw [dif_neg hl, dif_neg hl, pay15_at, pay16_at, pay13_at x0 x1 x2 x3 x4, pay13_at x0 x1 x2 x3 x4, pay11_at x0 x1 x2 x3 x4, pay12_at x0 x1 x2 x3 x4]
    rw [show (⟨64 + (l.val - 64), by omega⟩ : Fin 128) = l from Fin.ext (by show 64 + (l.val - 64) = l.val; omega)]

theorem out5_at (t : Fin 3072) (hd : Fin 10) (l : Fin 128) :
    out0_5 (F := Ideal) x0 x1 x2 x3 x4 (ix3 t hd l) = (inp x0 x1 x2 x3 x4).head t ⟨10 * 0 + hd.val, by omega⟩ l := by
  unfold_out out0_5
  rw [View.canon_unit_zero (by decide +kernel)]
  simp only [ld_0, ld_1, ld_2, ld_3, ld_4]
  rw [pay2_at, turned_at]
  unfold In.head
  rw [if_pos (by show 10 * 0 + hd.val < 20; omega)]
  congr 1
  exact Fin.ext (by show hd.val = 10 * 0 + hd.val; omega)

theorem out6_at (t : Fin 3072) (hd : Fin 10) (l : Fin 128) :
    out0_6 (F := Ideal) x0 x1 x2 x3 x4 (ix3 t hd l) = (inp x0 x1 x2 x3 x4).head t ⟨10 * 1 + hd.val, by omega⟩ l := by
  unfold_out out0_6
  rw [View.canon_unit_zero (by decide +kernel)]
  simp only [ld_0, ld_1, ld_2, ld_3, ld_4]
  rw [pay3_at, turned_at]
  unfold In.head
  rw [if_pos (by show 10 * 1 + hd.val < 20; omega)]

theorem out7_at (t : Fin 3072) (hd : Fin 10) (l : Fin 128) :
    out0_7 (F := Ideal) x0 x1 x2 x3 x4 (ix3 t hd l) = (inp x0 x1 x2 x3 x4).head t ⟨10 * 2 + hd.val, by omega⟩ l := by
  unfold_out out0_7
  rw [View.canon_unit_zero (by decide +kernel)]
  simp only [ld_0, ld_1, ld_2, ld_3, ld_4]
  rw [pay4_at, pay13_at x0 x1 x2 x3 x4]
  unfold In.head
  rw [if_neg (by show ¬ 10 * 2 + hd.val < 20; omega)]

theorem out8_at (t : Fin 3072) (k : Fin 5120) : out0_8 (F := Ideal) x0 x1 x2 x3 x4 (ix2 t k) = (inp x0 x1 x2 x3 x4).code t k := by
  unfold_out out0_8
  rw [View.canon_unit_zero (by decide +kernel)]
  simp only [ld_0, ld_1, ld_2, ld_3, ld_4]
  exact pay9_at x0 x1 x2 x3 x4 t k

theorem out9_at (t : Fin 3072) : out0_9 (F := Ideal) x0 x1 x2 x3 x4 (ix2 t 0) = (inp x0 x1 x2 x3 x4).scale t := by
  unfold_out out0_9
  rw [View.canon_unit_zero (by decide +kernel)]
  simp only [ld_0, ld_1, ld_2, ld_3, ld_4]
  exact pay7_at x0 x1 x2 x3 x4 t
end

section
variable (m : (ℓ : Loc nD τ sig) → Buf (Elt Ideal) ℓ) (ρ : Dev nD → PrngReg) (c : Dev nD)

/-- What the reference reads of its arguments. -/
def inArgs : In := In.ofArgs (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

theorem V_v0 : V m c main_v0 = shapeCast S3072x5120 (m ((c.tc : Thread nD τ).loc main_arg0)) shapeCasts_S1x3072x5120_S3072x5120 := by
  unfold V V0
  simp only [List.flatten_cons, List.flatten_nil, List.append_nil]
  after_results
  rfl
theorem V_v1 : V m c main_v1 = shapeCast S1x5120 (m ((c.tc : Thread nD τ).loc main_arg1)) shapeCasts_S5120_S1x5120 := by
  unfold V V0
  simp only [List.flatten_cons, List.flatten_nil, List.append_nil]
  after_results
  rfl
theorem V_v2 : V m c main_v2 = shapeCast S1x3840 (m ((c.tc : Thread nD τ).loc main_arg3)) shapeCasts_S3840_S1x3840 := by
  unfold V V0
  simp only [List.flatten_cons, List.flatten_nil, List.append_nil]
  after_results
  rfl
theorem V_v3 : V m c main_v3 = shapeCast S3072x1 (m ((c.tc : Thread nD τ).loc main_arg4)) shapeCasts_S1x3072_S3072x1 := by
  unfold V V0
  simp only [List.flatten_cons, List.flatten_nil, List.append_nil]
  after_results
  rfl

theorem inp_casts (a0 : Vec Ideal S1x3072x5120 .bf16) (a1 : Vec Ideal S5120 .bf16) (a2 : Vec Ideal S5120x3840 .fp8e4m3) (a3 : Vec Ideal S3840 .f32)
    (a4 : Vec Ideal S1x3072 .i32) :
    inp (shapeCast S3072x5120 a0 shapeCasts_S1x3072x5120_S3072x5120) (shapeCast S1x5120 a1 shapeCasts_S5120_S1x5120) a2
      (shapeCast S1x3840 a3 shapeCasts_S3840_S1x3840) (shapeCast S3072x1 a4 shapeCasts_S1x3072_S3072x1) = In.ofArgs a0 a1 a2 a3 a4 := by
  have h0 : ∀ t k, shapeCast S3072x5120 a0 shapeCasts_S1x3072x5120_S3072x5120 (ix2 t k) = a0 (ix3 0 t k) := fun t k => by pointwise
  have h1 : ∀ k, shapeCast S1x5120 a1 shapeCasts_S5120_S1x5120 (ix2 0 k) = a1 (ix1 k) := fun k => by pointwise
  have h3 : ∀ k, shapeCast S1x3840 a3 shapeCasts_S3840_S1x3840 (ix2 0 k) = a3 (ix1 k) := fun k => by pointwise
  have h4 : ∀ t, shapeCast S3072x1 a4 shapeCasts_S1x3072_S3072x1 (ix2 t 0) = a4 (ix2 0 t) := fun t => by pointwise
  unfold inp In.ofArgs
  simp only [h0, h1, h3, h4]

theorem inp_eq : inp (V m c main_v0) (V m c main_v1) (V m c main_arg2) (V m c main_v2) (V m c main_v3) = inArgs m c := by
  rw [V_v0, V_v1, V_v2, V_v3, V_main_arg2]
  exact inp_casts _ _ _ _ _

theorem broadcastInDim_ix4 {α : Type} (v : S3072x10x128.Idx → α) (i : S1x3072x10x128.Idx) :
    broadcastInDim S1x3072x10x128 ![1, 2, 3] bcast_S3072x10x128_S1x3072x10x128_1_2_3 v i
      = v (ix3 (i 1) (i 2) (i 3)) := by
  refine congrArg v (funext fun a => Fin.ext ?_)
  match a with
  | ⟨0, _⟩ => rfl
  | ⟨1, _⟩ => rfl
  | ⟨2, _⟩ => rfl
theorem broadcastInDim_ix3 {α : Type} (v : S3072x5120.Idx → α) (i : S1x3072x5120.Idx) :
    broadcastInDim S1x3072x5120 ![1, 2] bcast_S3072x5120_S1x3072x5120_1_2 v i = v (ix2 (i 1) (i 2)) := by
  refine congrArg v (funext fun a => Fin.ext ?_)
  match a with
  | ⟨0, _⟩ => rfl
  | ⟨1, _⟩ => rfl
theorem broadcastInDim_ix3' {α : Type} (v : S3072x1.Idx → α) (i : S1x3072x1.Idx) :
    broadcastInDim S1x3072x1 ![1, 2] bcast_S3072x1_S1x3072x1_1_2 v i = v (ix2 (i 1) 0) := by
  refine congrArg v (funext fun a => Fin.ext ?_)
  match a with
  | ⟨0, _⟩ => rfl
  | ⟨1, _⟩ => rfl

theorem zero_block (d n : ℕ) : 0 * d + 1 * n = n := by omega

theorem blk_0 : iblk m c 0 t0_0 = V m c main_v0 := funext fun j => congrArg (V m c main_v0) (funext fun a => Fin.ext (by
  match a with
  | ⟨0, _⟩ => exact zero_block 3072 (j 0).val
  | ⟨1, _⟩ => exact zero_block 5120 (j 1).val))
theorem blk_1 : iblk m c 1 t0_0 = V m c main_v1 := funext fun j => congrArg (V m c main_v1) (funext fun a => Fin.ext (by
  match a with
  | ⟨0, _⟩ => exact zero_block 1 (j 0).val
  | ⟨1, _⟩ => exact zero_block 5120 (j 1).val))
theorem blk_2 : iblk m c 2 t0_0 = V m c main_arg2 := funext fun j => congrArg (V m c main_arg2) (funext fun a => Fin.ext (by
  match a with
  | ⟨0, _⟩ => exact zero_block 5120 (j 0).val
  | ⟨1, _⟩ => exact zero_block 3840 (j 1).val))
theorem blk_3 : iblk m c 3 t0_0 = V m c main_v2 := funext fun j => congrArg (V m c main_v2) (funext fun a => Fin.ext (by
  match a with
  | ⟨0, _⟩ => exact zero_block 1 (j 0).val
  | ⟨1, _⟩ => exact zero_block 3840 (j 1).val))
theorem blk_4 : iblk m c 4 t0_0 = V m c main_v3 := funext fun j => congrArg (V m c main_v3) (funext fun a => Fin.ext (by
  match a with
  | ⟨0, _⟩ => exact zero_block 3072 (j 0).val
  | ⟨1, _⟩ => exact zero_block 1 (j 1).val))

theorem after_5 : (dats m 0 c).after 5 t0_0 = out0_5 (V m c main_v0) (V m c main_v1) (V m c main_arg2) (V m c main_v2) (V m c main_v3) := by
  rw [after0_5, blk_0, blk_1, blk_2, blk_3, blk_4]
theorem arr_5 : (dats m 0 c).arrAt 5 cfg0.N = out0_5 (V m c main_v0) (V m c main_v1) (V m c main_arg2) (V m c main_v2) (V m c main_v3) :=
  (dats m 0 c).arrAt_eq_of_after_last 5 t0_0 (by decide +kernel) (out0_5 (V m c main_v0) (V m c main_v1) (V m c main_arg2) (V m c main_v2) (V m c main_v3)) (fun j =>
    (congrFun (after_5 m c) _).trans (congrArg (out0_5 (V m c main_v0) (V m c main_v1) (V m c main_arg2) (V m c main_v2) (V m c main_v3)) (funext fun a => Fin.ext rfl)))

theorem after_6 : (dats m 0 c).after 6 t0_0 = out0_6 (V m c main_v0) (V m c main_v1) (V m c main_arg2) (V m c main_v2) (V m c main_v3) := by
  rw [after0_6, blk_0, blk_1, blk_2, blk_3, blk_4]
theorem arr_6 : (dats m 0 c).arrAt 6 cfg0.N = out0_6 (V m c main_v0) (V m c main_v1) (V m c main_arg2) (V m c main_v2) (V m c main_v3) :=
  (dats m 0 c).arrAt_eq_of_after_last 6 t0_0 (by decide +kernel) (out0_6 (V m c main_v0) (V m c main_v1) (V m c main_arg2) (V m c main_v2) (V m c main_v3)) (fun j =>
    (congrFun (after_6 m c) _).trans (congrArg (out0_6 (V m c main_v0) (V m c main_v1) (V m c main_arg2) (V m c main_v2) (V m c main_v3)) (funext fun a => Fin.ext rfl)))

theorem after_7 : (dats m 0 c).after 7 t0_0 = out0_7 (V m c main_v0) (V m c main_v1) (V m c main_arg2) (V m c main_v2) (V m c main_v3) := by
  rw [after0_7, blk_0, blk_1, blk_2, blk_3, blk_4]
theorem arr_7 : (dats m 0 c).arrAt 7 cfg0.N = out0_7 (V m c main_v0) (V m c main_v1) (V m c main_arg2) (V m c main_v2) (V m c main_v3) :=
  (dats m 0 c).arrAt_eq_of_after_last 7 t0_0 (by decide +kernel) (out0_7 (V m c main_v0) (V m c main_v1) (V m c main_arg2) (V m c main_v2) (V m c main_v3)) (fun j =>
    (congrFun (after_7 m c) _).trans (congrArg (out0_7 (V m c main_v0) (V m c main_v1) (V m c main_arg2) (V m c main_v2) (V m c main_v3)) (funext fun a => Fin.ext rfl)))

theorem after_8 : (dats m 0 c).after 8 t0_0 = out0_8 (V m c main_v0) (V m c main_v1) (V m c main_arg2) (V m c main_v2) (V m c main_v3) := by
  rw [after0_8, blk_0, blk_1, blk_2, blk_3, blk_4]
theorem arr_8 : (dats m 0 c).arrAt 8 cfg0.N = out0_8 (V m c main_v0) (V m c main_v1) (V m c main_arg2) (V m c main_v2) (V m c main_v3) :=
  (dats m 0 c).arrAt_eq_of_after_last 8 t0_0 (by decide +kernel) (out0_8 (V m c main_v0) (V m c main_v1) (V m c main_arg2) (V m c main_v2) (V m c main_v3)) (fun j =>
    (congrFun (after_8 m c) _).trans (congrArg (out0_8 (V m c main_v0) (V m c main_v1) (V m c main_arg2) (V m c main_v2) (V m c main_v3)) (funext fun a => Fin.ext rfl)))

theorem after_9 : (dats m 0 c).after 9 t0_0 = out0_9 (V m c main_v0) (V m c main_v1) (V m c main_arg2) (V m c main_v2) (V m c main_v3) := by
  rw [after0_9, blk_0, blk_1, blk_2, blk_3, blk_4]
theorem arr_9 : (dats m 0 c).arrAt 9 cfg0.N = out0_9 (V m c main_v0) (V m c main_v1) (V m c main_arg2) (V m c main_v2) (V m c main_v3) :=
  (dats m 0 c).arrAt_eq_of_after_last 9 t0_0 (by decide +kernel) (out0_9 (V m c main_v0) (V m c main_v1) (V m c main_arg2) (V m c main_v2) (V m c main_v3)) (fun j =>
    (congrFun (after_9 m c) _).trans (congrArg (out0_9 (V m c main_v0) (V m c main_v1) (V m c main_arg2) (V m c main_v2) (V m c main_v3)) (funext fun a => Fin.ext rfl)))

/-- What the device's arrays hold once the call is over. -/
def ended (c : Dev nD) : Valuation τ sig (Elt Ideal) := Pipeline.withArrays spec0 c (V0 m c) fun w => (dats m 0 c).arrAt w cfg0.N

theorem ended_5 : ended m c (Proc.devRef .tc main_v4_0) = out0_5 (V m c main_v0) (V m c main_v1) (V m c main_arg2) (V m c main_v2) (V m c main_v3) := by
  rw [← arr_5]
  exact Pipeline.withArrays_arr spec0 (by decide) c _ (fun w => (dats m 0 c).arrAt w cfg0.N) 5
theorem res_5 : StableHlo.after [hostOps1].flatten (ended m c) (Proc.devRef .tc main_v5) = broadcastInDim S1x3072x10x128 ![1, 2, 3] bcast_S3072x10x128_S1x3072x10x128_1_2_3 (out0_5 (V m c main_v0) (V m c main_v1) (V m c main_arg2) (V m c main_v2) (V m c main_v3)) := by
  rw [← ended_5]
  simp only [List.flatten_cons, List.flatten_nil, List.append_nil]
  after_results

theorem ended_6 : ended m c (Proc.devRef .tc main_v4_1) = out0_6 (V m c main_v0) (V m c main_v1) (V m c main_arg2) (V m c main_v2) (V m c main_v3) := by
  rw [← arr_6]
  exact Pipeline.withArrays_arr spec0 (by decide) c _ (fun w => (dats m 0 c).arrAt w cfg0.N) 6
theorem res_6 : StableHlo.after [hostOps1].flatten (ended m c) (Proc.devRef .tc main_v6) = broadcastInDim S1x3072x10x128 ![1, 2, 3] bcast_S3072x10x128_S1x3072x10x128_1_2_3 (out0_6 (V m c main_v0) (V m c main_v1) (V m c main_arg2) (V m c main_v2) (V m c main_v3)) := by
  rw [← ended_6]
  simp only [List.flatten_cons, List.flatten_nil, List.append_nil]
  after_results

theorem ended_7 : ended m c (Proc.devRef .tc main_v4_2) = out0_7 (V m c main_v0) (V m c main_v1) (V m c main_arg2) (V m c main_v2) (V m c main_v3) := by
  rw [← arr_7]
  exact Pipeline.withArrays_arr spec0 (by decide) c _ (fun w => (dats m 0 c).arrAt w cfg0.N) 7
theorem res_7 : StableHlo.after [hostOps1].flatten (ended m c) (Proc.devRef .tc main_v7) = broadcastInDim S1x3072x10x128 ![1, 2, 3] bcast_S3072x10x128_S1x3072x10x128_1_2_3 (out0_7 (V m c main_v0) (V m c main_v1) (V m c main_arg2) (V m c main_v2) (V m c main_v3)) := by
  rw [← ended_7]
  simp only [List.flatten_cons, List.flatten_nil, List.append_nil]
  after_results

theorem ended_8 : ended m c (Proc.devRef .tc main_v4_3) = out0_8 (V m c main_v0) (V m c main_v1) (V m c main_arg2) (V m c main_v2) (V m c main_v3) := by
  rw [← arr_8]
  exact Pipeline.withArrays_arr spec0 (by decide) c _ (fun w => (dats m 0 c).arrAt w cfg0.N) 8
theorem res_8 : StableHlo.after [hostOps1].flatten (ended m c) (Proc.devRef .tc main_v8) = broadcastInDim S1x3072x5120 ![1, 2] bcast_S3072x5120_S1x3072x5120_1_2 (out0_8 (V m c main_v0) (V m c main_v1) (V m c main_arg2) (V m c main_v2) (V m c main_v3)) := by
  rw [← ended_8]
  simp only [List.flatten_cons, List.flatten_nil, List.append_nil]
  after_results

theorem ended_9 : ended m c (Proc.devRef .tc main_v4_4) = out0_9 (V m c main_v0) (V m c main_v1) (V m c main_arg2) (V m c main_v2) (V m c main_v3) := by
  rw [← arr_9]
  exact Pipeline.withArrays_arr spec0 (by decide) c _ (fun w => (dats m 0 c).arrAt w cfg0.N) 9
theorem res_9 : StableHlo.after [hostOps1].flatten (ended m c) (Proc.devRef .tc main_v9) = broadcastInDim S1x3072x1 ![1, 2] bcast_S3072x1_S1x3072x1_1_2 (out0_9 (V m c main_v0) (V m c main_v1) (V m c main_arg2) (V m c main_v2) (V m c main_v3)) := by
  rw [← ended_9]
  simp only [List.flatten_cons, List.flatten_nil, List.append_nil]
  after_results

theorem val_5 : StableHlo.after [hostOps1].flatten (ended m c) (Proc.devRef .tc main_v5) = (inArgs m c).partS 0 := by
  rw [res_5]
  funext i
  rw [← inp_eq]
  refine (broadcastInDim_ix4 _ i).trans ?_
  exact out5_at _ _ _ _ _ _ _ _

theorem val_6 : StableHlo.after [hostOps1].flatten (ended m c) (Proc.devRef .tc main_v6) = (inArgs m c).partS 1 := by
  rw [res_6]
  funext i
  rw [← inp_eq]
  refine (broadcastInDim_ix4 _ i).trans ?_
  exact out6_at _ _ _ _ _ _ _ _

theorem val_7 : StableHlo.after [hostOps1].flatten (ended m c) (Proc.devRef .tc main_v7) = (inArgs m c).partS 2 := by
  rw [res_7]
  funext i
  rw [← inp_eq]
  refine (broadcastInDim_ix4 _ i).trans ?_
  exact out7_at _ _ _ _ _ _ _ _

theorem val_8 : StableHlo.after [hostOps1].flatten (ended m c) (Proc.devRef .tc main_v8) = (inArgs m c).codesS := by
  rw [res_8]
  funext i
  rw [← inp_eq]
  refine (broadcastInDim_ix3 _ i).trans ?_
  exact out8_at _ _ _ _ _ _ _
theorem val_9 : StableHlo.after [hostOps1].flatten (ended m c) (Proc.devRef .tc main_v9) = (inArgs m c).scalesS := by
  rw [res_9]
  funext i
  rw [← inp_eq]
  refine (broadcastInDim_ix3' _ i).trans ?_
  exact out9_at _ _ _ _ _ _

/-- The reference runs to the end with these results and its arguments as they were. -/
theorem run_values : θ_run (defs (F := Ideal)) (onTc (τ := τ) (main (F := Ideal))) ⟨m, fun _ => 0, ρ⟩ (fun r => ∀ c : Dev nD,
      r.2.mem ((c.tc : Thread nD τ).loc main_v5) = (inArgs m c).partS 0
      ∧ r.2.mem ((c.tc : Thread nD τ).loc main_v6) = (inArgs m c).partS 1
      ∧ r.2.mem ((c.tc : Thread nD τ).loc main_v7) = (inArgs m c).partS 2
      ∧ r.2.mem ((c.tc : Thread nD τ).loc main_v8) = (inArgs m c).codesS
      ∧ r.2.mem ((c.tc : Thread nD τ).loc main_v9) = (inArgs m c).scalesS
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r h c => ?_) (run_main m ρ)
  have hb := (h c).2
  exact ⟨(hb main_v5 (Pipeline.mem_restRefs_of main_v5 (by decide) (by decide))).trans (val_5 m c),
    (hb main_v6 (Pipeline.mem_restRefs_of main_v6 (by decide) (by decide))).trans (val_6 m c),
    (hb main_v7 (Pipeline.mem_restRefs_of main_v7 (by decide) (by decide))).trans (val_7 m c),
    (hb main_v8 (Pipeline.mem_restRefs_of main_v8 (by decide) (by decide))).trans (val_8 m c),
    (hb main_v9 (Pipeline.mem_restRefs_of main_v9 (by decide) (by decide))).trans (val_9 m c),
    (hb main_arg0 (Pipeline.mem_restRefs_of main_arg0 (by decide) (by decide))).trans (W_main_arg0 m (dats m) c),
    (hb main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    (hb main_arg3 (Pipeline.mem_restRefs_of main_arg3 (by decide) (by decide))).trans (W_main_arg3 m (dats m) c),
    (hb main_arg4 (Pipeline.mem_restRefs_of main_arg4 (by decide) (by decide))).trans (W_main_arg4 m (dats m) c)⟩

end

end Cert.ReferenceIdeal.Gen

end
end
-- ==== Proof.Agreed.lean ====
module

public import proofs.«01_k».proof.Proof.Agree
public import proofs.«01_k».proof.Proof.ValRun
public import proofs.«01_k».proof.Proof.RefRun

@[expose] public section

noncomputable section

/-! # Both programs end with the specified results -/

namespace Cert.Idealized

open Idealize.ShloMosaic Idealize.SL.Sem

theorem agree : @Agree Cert.ReferenceIdeal.Gen.facts := by
  intro m g m' g' _ hargs
  have hin : ∀ c : Dev Cert.Kernel.nD, Cert.ReferenceIdeal.Gen.inArgs m' c = Cert.Kernel.inArgs m c := by
    intro c
    obtain ⟨h0, h1, h2, h3, h4⟩ := hargs c
    unfold Cert.ReferenceIdeal.Gen.inArgs Cert.Kernel.inArgs
    rw [h0, h1, h2, h3, h4]
  refine ⟨fun c => (Cert.Kernel.inArgs m c).partS 0, fun c => (Cert.Kernel.inArgs m c).partS 1, fun c => (Cert.Kernel.inArgs m c).partS 2,
    fun c => (Cert.Kernel.inArgs m c).codesS, fun c => (Cert.Kernel.inArgs m c).scalesS, ?_, ?_⟩
  · refine (θ_run (Cert.Kernel.defs (F := Ideal)) _ _).mono (fun r h c => ?_) (Cert.Kernel.run_values m g)
    obtain ⟨h0, h1, h2, h3, h4, ha⟩ := h.1 c
    exact ⟨h0.trans (Cert.Kernel.partOut_eq m c 0), h1.trans (Cert.Kernel.partOut_eq m c 1), h2.trans (Cert.Kernel.partOut_eq m c 2),
      h3.trans (Cert.Kernel.codesOut_eq m c), h4.trans (Cert.Kernel.scalesOut_eq m c), ha⟩
  · refine (θ_run (Cert.ReferenceIdeal.defs (F := Ideal)) _ _).mono (fun r h c => ?_) (Cert.ReferenceIdeal.Gen.run_values m' g')
    obtain ⟨h0, h1, h2, h3, h4, ha⟩ := h c
    have e := hin c
    exact ⟨h0.trans (congrArg (fun A : Cert.Spec.In => A.partS 0) e), h1.trans (congrArg (fun A : Cert.Spec.In => A.partS 1) e),
      h2.trans (congrArg (fun A : Cert.Spec.In => A.partS 2) e), h3.trans (congrArg Cert.Spec.In.codesS e), h4.trans (congrArg Cert.Spec.In.scalesS e), ha⟩

end Cert.Idealized

end
end
-- ==== Proof.lean ====
module

public import proofs.«01_k».proof.Defs
public import proofs.«01_k».proof.Proof.Idealized
public import proofs.«01_k».proof.Proof.Agreed

@[expose] public section

noncomputable section

namespace Cert.Proof

open Cert.Idealized

/-- The program runs at its own floats and at the extended reals, one is the other's text, the reference runs, and at the extended reals
the two end with the same five results. -/
theorem claim : Cert.Claim :=
  ⟨Cert.Kernel.Gen.facts, ideal, Cert.ReferenceIdeal.Gen.facts, cast quiet_bits.symm (quiet Idealize.ShloMosaic.Bits),
    cast quiet_ideal.symm (quiet Idealize.ShloMosaic.Ideal), fun m ρ _ => Cert.ReferenceIdeal.Gen.frame m ρ, trivial,
    cast (agree_ideal _).symm agree⟩

end Cert.Proof

end
end
